-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_PoolIn (m : (ℓ : Loc Cert.PoolIn.nD Cert.PoolIn.τ Cert.PoolIn.sig) → Buf (Elt Bits) ℓ) : Prop :=
  True

def Pre_PoolInIdeal (m : (ℓ : Loc Cert.PoolInIdeal.nD Cert.PoolInIdeal.τ Cert.PoolInIdeal.sig) → Buf (Elt Ideal) ℓ) : Prop :=
  True

def Pre_PoolInRefIdeal (m : (ℓ : Loc Cert.PoolInRefIdeal.nD Cert.PoolInRefIdeal.τ Cert.PoolInRefIdeal.sig) → Buf (Elt Ideal) ℓ) : Prop :=
  True

def Pre_RwkvIn (m : (ℓ : Loc Cert.RwkvIn.nD Cert.RwkvIn.τ Cert.RwkvIn.sig) → Buf (Elt Bits) ℓ) : Prop :=
  True

def Pre_RwkvInIdeal (m : (ℓ : Loc Cert.RwkvInIdeal.nD Cert.RwkvInIdeal.τ Cert.RwkvInIdeal.sig) → Buf (Elt Ideal) ℓ) : Prop :=
  True

def Pre_RwkvInRefIdeal (m : (ℓ : Loc Cert.RwkvInRefIdeal.nD Cert.RwkvInRefIdeal.τ Cert.RwkvInRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_PoolIn [hPoolIn : Cert.PoolIn.Facts] : Prop :=
  ∀ (m : (ℓ : Loc Cert.PoolIn.nD Cert.PoolIn.τ Cert.PoolIn.sig) → Buf (Elt Bits) ℓ) (g : Dev Cert.PoolIn.nD → PrngReg), Pre_PoolIn m →
    θ_run (Cert.PoolIn.defs (F := Bits)) (onTc (τ := Cert.PoolIn.τ) (Cert.PoolIn.main (F := Bits))) ⟨m, fun _ => 0, g⟩ (fun r => (∀ c : Dev Cert.PoolIn.nD,
      r.2.mem ((c.tc : Thread Cert.PoolIn.nD Cert.PoolIn.τ).loc Cert.PoolIn.main_arg0) = m ((c.tc : Thread Cert.PoolIn.nD Cert.PoolIn.τ).loc Cert.PoolIn.main_arg0)
      ∧ r.2.mem ((c.tc : Thread Cert.PoolIn.nD Cert.PoolIn.τ).loc Cert.PoolIn.main_arg1) = m ((c.tc : Thread Cert.PoolIn.nD Cert.PoolIn.τ).loc Cert.PoolIn.main_arg1))
      ∧ r.2.sem = fun _ => 0)

def quiescent_PoolInIdeal [hPoolInIdeal : Cert.PoolInIdeal.Facts] : Prop :=
  ∀ (m : (ℓ : Loc Cert.PoolInIdeal.nD Cert.PoolInIdeal.τ Cert.PoolInIdeal.sig) → Buf (Elt Ideal) ℓ) (g : Dev Cert.PoolInIdeal.nD → PrngReg), Pre_PoolInIdeal m →
    θ_run (Cert.PoolInIdeal.defs (F := Ideal)) (onTc (τ := Cert.PoolInIdeal.τ) (Cert.PoolInIdeal.main (F := Ideal))) ⟨m, fun _ => 0, g⟩ (fun r => (∀ c : Dev Cert.PoolInIdeal.nD,
      r.2.mem ((c.tc : Thread Cert.PoolInIdeal.nD Cert.PoolInIdeal.τ).loc Cert.PoolInIdeal.main_arg0) = m ((c.tc : Thread Cert.PoolInIdeal.nD Cert.PoolInIdeal.τ).loc Cert.PoolInIdeal.main_arg0)
      ∧ r.2.mem ((c.tc : Thread Cert.PoolInIdeal.nD Cert.PoolInIdeal.τ).loc Cert.PoolInIdeal.main_arg1) = m ((c.tc : Thread Cert.PoolInIdeal.nD Cert.PoolInIdeal.τ).loc Cert.PoolInIdeal.main_arg1))
      ∧ r.2.sem = fun _ => 0)

def quiescent_PoolInRefIdeal [hPoolInRefIdeal : Cert.PoolInRefIdeal.Facts] : Prop :=
  ∀ (m : (ℓ : Loc Cert.PoolInRefIdeal.nD Cert.PoolInRefIdeal.τ Cert.PoolInRefIdeal.sig) → Buf (Elt Ideal) ℓ) (g : Dev Cert.PoolInRefIdeal.nD → PrngReg), Pre_PoolInRefIdeal m →
    θ_run (Cert.PoolInRefIdeal.defs (F := Ideal)) (onTc (τ := Cert.PoolInRefIdeal.τ) (Cert.PoolInRefIdeal.main (F := Ideal))) ⟨m, fun _ => 0, g⟩ (fun r => (∀ c : Dev Cert.PoolInRefIdeal.nD,
      r.2.mem ((c.tc : Thread Cert.PoolInRefIdeal.nD Cert.PoolInRefIdeal.τ).loc Cert.PoolInRefIdeal.main_arg0) = m ((c.tc : Thread Cert.PoolInRefIdeal.nD Cert.PoolInRefIdeal.τ).loc Cert.PoolInRefIdeal.main_arg0)
      ∧ r.2.mem ((c.tc : Thread Cert.PoolInRefIdeal.nD Cert.PoolInRefIdeal.τ).loc Cert.PoolInRefIdeal.main_arg1) = m ((c.tc : Thread Cert.PoolInRefIdeal.nD Cert.PoolInRefIdeal.τ).loc Cert.PoolInRefIdeal.main_arg1))
      ∧ r.2.sem = fun _ => 0)

def quiescent_RwkvIn [hRwkvIn : Cert.RwkvIn.Facts] : Prop :=
  ∀ (m : (ℓ : Loc Cert.RwkvIn.nD Cert.RwkvIn.τ Cert.RwkvIn.sig) → Buf (Elt Bits) ℓ) (g : Dev Cert.RwkvIn.nD → PrngReg), Pre_RwkvIn m →
    θ_run (Cert.RwkvIn.defs (F := Bits)) (onTc (τ := Cert.RwkvIn.τ) (Cert.RwkvIn.main (F := Bits))) ⟨m, fun _ => 0, g⟩ (fun r => (∀ c : Dev Cert.RwkvIn.nD,
      r.2.mem ((c.tc : Thread Cert.RwkvIn.nD Cert.RwkvIn.τ).loc Cert.RwkvIn.main_arg0) = m ((c.tc : Thread Cert.RwkvIn.nD Cert.RwkvIn.τ).loc Cert.RwkvIn.main_arg0)
      ∧ r.2.mem ((c.tc : Thread Cert.RwkvIn.nD Cert.RwkvIn.τ).loc Cert.RwkvIn.main_arg1) = m ((c.tc : Thread Cert.RwkvIn.nD Cert.RwkvIn.τ).loc Cert.RwkvIn.main_arg1))
      ∧ r.2.sem = fun _ => 0)

def quiescent_RwkvInIdeal [hRwkvInIdeal : Cert.RwkvInIdeal.Facts] : Prop :=
  ∀ (m : (ℓ : Loc Cert.RwkvInIdeal.nD Cert.RwkvInIdeal.τ Cert.RwkvInIdeal.sig) → Buf (Elt Ideal) ℓ) (g : Dev Cert.RwkvInIdeal.nD → PrngReg), Pre_RwkvInIdeal m →
    θ_run (Cert.RwkvInIdeal.defs (F := Ideal)) (onTc (τ := Cert.RwkvInIdeal.τ) (Cert.RwkvInIdeal.main (F := Ideal))) ⟨m, fun _ => 0, g⟩ (fun r => (∀ c : Dev Cert.RwkvInIdeal.nD,
      r.2.mem ((c.tc : Thread Cert.RwkvInIdeal.nD Cert.RwkvInIdeal.τ).loc Cert.RwkvInIdeal.main_arg0) = m ((c.tc : Thread Cert.RwkvInIdeal.nD Cert.RwkvInIdeal.τ).loc Cert.RwkvInIdeal.main_arg0)
      ∧ r.2.mem ((c.tc : Thread Cert.RwkvInIdeal.nD Cert.RwkvInIdeal.τ).loc Cert.RwkvInIdeal.main_arg1) = m ((c.tc : Thread Cert.RwkvInIdeal.nD Cert.RwkvInIdeal.τ).loc Cert.RwkvInIdeal.main_arg1))
      ∧ r.2.sem = fun _ => 0)

def quiescent_RwkvInRefIdeal [hRwkvInRefIdeal : Cert.RwkvInRefIdeal.Facts] : Prop :=
  ∀ (m : (ℓ : Loc Cert.RwkvInRefIdeal.nD Cert.RwkvInRefIdeal.τ Cert.RwkvInRefIdeal.sig) → Buf (Elt Ideal) ℓ) (g : Dev Cert.RwkvInRefIdeal.nD → PrngReg), Pre_RwkvInRefIdeal m →
    θ_run (Cert.RwkvInRefIdeal.defs (F := Ideal)) (onTc (τ := Cert.RwkvInRefIdeal.τ) (Cert.RwkvInRefIdeal.main (F := Ideal))) ⟨m, fun _ => 0, g⟩ (fun r => (∀ c : Dev Cert.RwkvInRefIdeal.nD,
      r.2.mem ((c.tc : Thread Cert.RwkvInRefIdeal.nD Cert.RwkvInRefIdeal.τ).loc Cert.RwkvInRefIdeal.main_arg0) = m ((c.tc : Thread Cert.RwkvInRefIdeal.nD Cert.RwkvInRefIdeal.τ).loc Cert.RwkvInRefIdeal.main_arg0)
      ∧ r.2.mem ((c.tc : Thread Cert.RwkvInRefIdeal.nD Cert.RwkvInRefIdeal.τ).loc Cert.RwkvInRefIdeal.main_arg1) = m ((c.tc : Thread Cert.RwkvInRefIdeal.nD Cert.RwkvInRefIdeal.τ).loc Cert.RwkvInRefIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v26)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v26) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v78) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v8) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v44) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v15) = v0 c
          ∧ r.2.mem ((c.tc : Thread Cert.DownRefIdeal.nD Cert.DownRefIdeal.τ).loc Cert.DownRefIdeal.main_v29) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v15) = v0 c
          ∧ r.2.mem ((c.tc : Thread Cert.OutRefIdeal.nD Cert.OutRefIdeal.τ).loc Cert.OutRefIdeal.main_v29) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v9) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_PoolIn_PoolInIdeal : Prop :=
  True

def algebraic_PoolInIdeal_PoolInRefIdeal [hPoolInIdeal : Cert.PoolInIdeal.Facts] [hPoolInRefIdeal : Cert.PoolInRefIdeal.Facts] : Prop :=
  ∀ (m : (ℓ : Loc Cert.PoolInIdeal.nD Cert.PoolInIdeal.τ Cert.PoolInIdeal.sig) → Buf (Elt Ideal) ℓ) (g : Dev Cert.PoolInIdeal.nD → PrngReg)
    (m' : (ℓ : Loc Cert.PoolInRefIdeal.nD Cert.PoolInRefIdeal.τ Cert.PoolInRefIdeal.sig) → Buf (Elt Ideal) ℓ) (g' : Dev Cert.PoolInRefIdeal.nD → PrngReg), Pre_PoolInIdeal m →
    (∀ c : Dev Cert.PoolInIdeal.nD,
      m' ((c.tc : Thread Cert.PoolInRefIdeal.nD Cert.PoolInRefIdeal.τ).loc Cert.PoolInRefIdeal.main_arg0) = m ((c.tc : Thread Cert.PoolInIdeal.nD Cert.PoolInIdeal.τ).loc Cert.PoolInIdeal.main_arg0)
      ∧ m' ((c.tc : Thread Cert.PoolInRefIdeal.nD Cert.PoolInRefIdeal.τ).loc Cert.PoolInRefIdeal.main_arg1) = m ((c.tc : Thread Cert.PoolInIdeal.nD Cert.PoolInIdeal.τ).loc Cert.PoolInIdeal.main_arg1)) →
    ∃ (v0 : (c : Dev Cert.PoolInIdeal.nD) → Buf (Elt Ideal) ((c.tc : Thread Cert.PoolInIdeal.nD Cert.PoolInIdeal.τ).loc Cert.PoolInIdeal.main_v2)),
      θ_run (Cert.PoolInIdeal.defs (F := Ideal)) (onTc (τ := Cert.PoolInIdeal.τ) (Cert.PoolInIdeal.main (F := Ideal))) ⟨m, fun _ => 0, g⟩ (fun r => ∀ c : Dev Cert.PoolInIdeal.nD,
          r.2.mem ((c.tc : Thread Cert.PoolInIdeal.nD Cert.PoolInIdeal.τ).loc Cert.PoolInIdeal.main_v2) = v0 c
          ∧ r.2.mem ((c.tc : Thread Cert.PoolInIdeal.nD Cert.PoolInIdeal.τ).loc Cert.PoolInIdeal.main_arg0) = m ((c.tc : Thread Cert.PoolInIdeal.nD Cert.PoolInIdeal.τ).loc Cert.PoolInIdeal.main_arg0)
          ∧ r.2.mem ((c.tc : Thread Cert.PoolInIdeal.nD Cert.PoolInIdeal.τ).loc Cert.PoolInIdeal.main_arg1) = m ((c.tc : Thread Cert.PoolInIdeal.nD Cert.PoolInIdeal.τ).loc Cert.PoolInIdeal.main_arg1))
      ∧ θ_run (Cert.PoolInRefIdeal.defs (F := Ideal)) (onTc (τ := Cert.PoolInRefIdeal.τ) (Cert.PoolInRefIdeal.main (F := Ideal))) ⟨m', fun _ => 0, g'⟩ (fun r => ∀ c : Dev Cert.PoolInRefIdeal.nD,
          r.2.mem ((c.tc : Thread Cert.PoolInRefIdeal.nD Cert.PoolInRefIdeal.τ).loc Cert.PoolInRefIdeal.main_v8) = v0 c
          ∧ r.2.mem ((c.tc : Thread Cert.PoolInRefIdeal.nD Cert.PoolInRefIdeal.τ).loc Cert.PoolInRefIdeal.main_arg0) = m' ((c.tc : Thread Cert.PoolInRefIdeal.nD Cert.PoolInRefIdeal.τ).loc Cert.PoolInRefIdeal.main_arg0)
          ∧ r.2.mem ((c.tc : Thread Cert.PoolInRefIdeal.nD Cert.PoolInRefIdeal.τ).loc Cert.PoolInRefIdeal.main_arg1) = m' ((c.tc : Thread Cert.PoolInRefIdeal.nD Cert.PoolInRefIdeal.τ).loc Cert.PoolInRefIdeal.main_arg1))

def preserves_RwkvIn_RwkvInIdeal : Prop :=
  True

def algebraic_RwkvInIdeal_RwkvInRefIdeal [hRwkvInIdeal : Cert.RwkvInIdeal.Facts] [hRwkvInRefIdeal : Cert.RwkvInRefIdeal.Facts] : Prop :=
  ∀ (m : (ℓ : Loc Cert.RwkvInIdeal.nD Cert.RwkvInIdeal.τ Cert.RwkvInIdeal.sig) → Buf (Elt Ideal) ℓ) (g : Dev Cert.RwkvInIdeal.nD → PrngReg)
    (m' : (ℓ : Loc Cert.RwkvInRefIdeal.nD Cert.RwkvInRefIdeal.τ Cert.RwkvInRefIdeal.sig) → Buf (Elt Ideal) ℓ) (g' : Dev Cert.RwkvInRefIdeal.nD → PrngReg), Pre_RwkvInIdeal m →
    (∀ c : Dev Cert.RwkvInIdeal.nD,
      m' ((c.tc : Thread Cert.RwkvInRefIdeal.nD Cert.RwkvInRefIdeal.τ).loc Cert.RwkvInRefIdeal.main_arg0) = m ((c.tc : Thread Cert.RwkvInIdeal.nD Cert.RwkvInIdeal.τ).loc Cert.RwkvInIdeal.main_arg0)
      ∧ m' ((c.tc : Thread Cert.RwkvInRefIdeal.nD Cert.RwkvInRefIdeal.τ).loc Cert.RwkvInRefIdeal.main_arg1) = m ((c.tc : Thread Cert.RwkvInIdeal.nD Cert.RwkvInIdeal.τ).loc Cert.RwkvInIdeal.main_arg1)) →
    ∃ (v0 : (c : Dev Cert.RwkvInIdeal.nD) → Buf (Elt Ideal) ((c.tc : Thread Cert.RwkvInIdeal.nD Cert.RwkvInIdeal.τ).loc Cert.RwkvInIdeal.main_v10)),
      θ_run (Cert.RwkvInIdeal.defs (F := Ideal)) (onTc (τ := Cert.RwkvInIdeal.τ) (Cert.RwkvInIdeal.main (F := Ideal))) ⟨m, fun _ => 0, g⟩ (fun r => ∀ c : Dev Cert.RwkvInIdeal.nD,
          r.2.mem ((c.tc : Thread Cert.RwkvInIdeal.nD Cert.RwkvInIdeal.τ).loc Cert.RwkvInIdeal.main_v10) = v0 c
          ∧ r.2.mem ((c.tc : Thread Cert.RwkvInIdeal.nD Cert.RwkvInIdeal.τ).loc Cert.RwkvInIdeal.main_arg0) = m ((c.tc : Thread Cert.RwkvInIdeal.nD Cert.RwkvInIdeal.τ).loc Cert.RwkvInIdeal.main_arg0)
          ∧ r.2.mem ((c.tc : Thread Cert.RwkvInIdeal.nD Cert.RwkvInIdeal.τ).loc Cert.RwkvInIdeal.main_arg1) = m ((c.tc : Thread Cert.RwkvInIdeal.nD Cert.RwkvInIdeal.τ).loc Cert.RwkvInIdeal.main_arg1))
      ∧ θ_run (Cert.RwkvInRefIdeal.defs (F := Ideal)) (onTc (τ := Cert.RwkvInRefIdeal.τ) (Cert.RwkvInRefIdeal.main (F := Ideal))) ⟨m', fun _ => 0, g'⟩ (fun r => ∀ c : Dev Cert.RwkvInRefIdeal.nD,
          r.2.mem ((c.tc : Thread Cert.RwkvInRefIdeal.nD Cert.RwkvInRefIdeal.τ).loc Cert.RwkvInRefIdeal.main_v14) = v0 c
          ∧ r.2.mem ((c.tc : Thread Cert.RwkvInRefIdeal.nD Cert.RwkvInRefIdeal.τ).loc Cert.RwkvInRefIdeal.main_arg0) = m' ((c.tc : Thread Cert.RwkvInRefIdeal.nD Cert.RwkvInRefIdeal.τ).loc Cert.RwkvInRefIdeal.main_arg0)
          ∧ r.2.mem ((c.tc : Thread Cert.RwkvInRefIdeal.nD Cert.RwkvInRefIdeal.τ).loc Cert.RwkvInRefIdeal.main_arg1) = m' ((c.tc : Thread Cert.RwkvInRefIdeal.nD Cert.RwkvInRefIdeal.τ).loc Cert.RwkvInRefIdeal.main_arg1))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v13) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v43) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2))

def Claim : Prop :=
  ∃ (hAttn : Cert.Attn.Facts) (hAttnIdeal : Cert.AttnIdeal.Facts) (hAttnRefIdeal : Cert.AttnRefIdeal.Facts) (hGate : Cert.Gate.Facts) (hGateIdeal : Cert.GateIdeal.Facts) (hGateRefIdeal : Cert.GateRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hMerge : Cert.Merge.Facts) (hMergeIdeal : Cert.MergeIdeal.Facts) (hMergeRefIdeal : Cert.MergeRefIdeal.Facts) (hQkv : Cert.Qkv.Facts) (hQkvIdeal : Cert.QkvIdeal.Facts) (hQkvRefIdeal : Cert.QkvRefIdeal.Facts) (hPoolIn : Cert.PoolIn.Facts) (hPoolInIdeal : Cert.PoolInIdeal.Facts) (hPoolInRefIdeal : Cert.PoolInRefIdeal.Facts) (hRwkvIn : Cert.RwkvIn.Facts) (hRwkvInIdeal : Cert.RwkvInIdeal.Facts) (hRwkvInRefIdeal : Cert.RwkvInRefIdeal.Facts) (hRms : Cert.Rms.Facts) (hRmsIdeal : Cert.RmsIdeal.Facts) (hRmsRefIdeal : Cert.RmsRefIdeal.Facts) (hMix : Cert.Mix.Facts) (hMixIdeal : Cert.MixIdeal.Facts) (hMixRefIdeal : Cert.MixRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Gate (hGate := hGate)
    ∧ quiescent_GateIdeal (hGateIdeal := hGateIdeal)
    ∧ quiescent_GateRefIdeal (hGateRefIdeal := hGateRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_Qkv (hQkv := hQkv)
    ∧ quiescent_QkvIdeal (hQkvIdeal := hQkvIdeal)
    ∧ quiescent_QkvRefIdeal (hQkvRefIdeal := hQkvRefIdeal)
    ∧ quiescent_PoolIn (hPoolIn := hPoolIn)
    ∧ quiescent_PoolInIdeal (hPoolInIdeal := hPoolInIdeal)
    ∧ quiescent_PoolInRefIdeal (hPoolInRefIdeal := hPoolInRefIdeal)
    ∧ quiescent_RwkvIn (hRwkvIn := hRwkvIn)
    ∧ quiescent_RwkvInIdeal (hRwkvInIdeal := hRwkvInIdeal)
    ∧ quiescent_RwkvInRefIdeal (hRwkvInRefIdeal := hRwkvInRefIdeal)
    ∧ quiescent_Rms (hRms := hRms)
    ∧ quiescent_RmsIdeal (hRmsIdeal := hRmsIdeal)
    ∧ quiescent_RmsRefIdeal (hRmsRefIdeal := hRmsRefIdeal)
    ∧ quiescent_Mix (hMix := hMix)
    ∧ quiescent_MixIdeal (hMixIdeal := hMixIdeal)
    ∧ quiescent_MixRefIdeal (hMixRefIdeal := hMixRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Gate_GateIdeal
    ∧ algebraic_GateIdeal_GateRefIdeal (hGateIdeal := hGateIdeal) (hGateRefIdeal := hGateRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Merge_MergeIdeal
    ∧ algebraic_MergeIdeal_MergeRefIdeal (hMergeIdeal := hMergeIdeal) (hMergeRefIdeal := hMergeRefIdeal)
    ∧ preserves_Qkv_QkvIdeal
    ∧ algebraic_QkvIdeal_QkvRefIdeal (hQkvIdeal := hQkvIdeal) (hQkvRefIdeal := hQkvRefIdeal)
    ∧ preserves_PoolIn_PoolInIdeal
    ∧ algebraic_PoolInIdeal_PoolInRefIdeal (hPoolInIdeal := hPoolInIdeal) (hPoolInRefIdeal := hPoolInRefIdeal)
    ∧ preserves_RwkvIn_RwkvInIdeal
    ∧ algebraic_RwkvInIdeal_RwkvInRefIdeal (hRwkvInIdeal := hRwkvInIdeal) (hRwkvInRefIdeal := hRwkvInRefIdeal)
    ∧ preserves_Rms_RmsIdeal
    ∧ algebraic_RmsIdeal_RmsRefIdeal (hRmsIdeal := hRmsIdeal) (hRmsRefIdeal := hRmsRefIdeal)
    ∧ preserves_Mix_MixIdeal
    ∧ algebraic_MixIdeal_MixRefIdeal (hMixIdeal := hMixIdeal) (hMixRefIdeal := hMixRefIdeal)
-- ==== Pre_finite.lean ====
abbrev S17408x3072 : Shape := ⟨2, ![17408, 3072]⟩
abbrev S32x8 : Shape := ⟨2, ![32, 8]⟩
abbrev S128 : Shape := ⟨1, ![128]⟩
abbrev S256 : Shape := ⟨1, ![256]⟩
abbrev S_ : Shape := ⟨0, ![]⟩

class Facts : Prop where
  bitsLt_bf16_f32 : FTy.bits .bf16 < FTy.bits .f32
  bcast_S_S17408x3072 : S_.BroadcastsInDim S17408x3072 (![] : Fin 0 → Fin S17408x3072.rank)
  bcast_S_S32x8 : S_.BroadcastsInDim S32x8 (![] : Fin 0 → Fin S32x8.rank)
  bcast_S_S128 : S_.BroadcastsInDim S128 (![] : Fin 0 → Fin S128.rank)

variable [Facts]

def fn_part1 {F : FTy → Type} [FloatOps F] (main_v3 : IVec S17408x3072 1) (main_v6 : IVec S32x8 1) (main_v9 : IVec S128 1) (main_v12 : IVec S128 1) (main_v15 : IVec S128 1) (main_v16 : FVec F S128 .f32) (main_v17 : FVec F S128 .f32) : IVec S17408x3072 1 × IVec S32x8 1 × IVec S128 1 × IVec S128 1 × IVec S128 1 × IVec S128 1 :=
  let main_v18 : IVec S128 1 := cmpf .olt main_v16 main_v17
  (main_v3, main_v6, main_v9, main_v12, main_v15, main_v18)

def fn {F : FTy → Type} [FloatOps F] (main_arg0 : FVec F S17408x3072 .bf16) (main_arg1 : FVec F S32x8 .f32) (main_arg2 : FVec F S128 .f32) (main_arg3 : FVec F S128 .f32) (main_arg4 : FVec F S128 .f32) (main_arg5 : FVec F S128 .f32) (main_arg6 : FVec F S256 .f32) : IVec S17408x3072 1 × IVec S32x8 1 × IVec S128 1 × IVec S128 1 × IVec S128 1 × IVec S128 1 :=
  let main_v0 : FVec F S17408x3072 .f32 := (extf .f32 · bitsLt_bf16_f32) main_arg0
  let main_v1 : FVec F S17408x3072 .f32 := Host.absf main_v0
  let main_cst : FVec F S_ .f32 := constant S_ .f32 0x7F800000#32
  let main_v2 : FVec F S17408x3072 .f32 := broadcastInDim S17408x3072 ![] bcast_S_S17408x3072 main_cst
  let main_v3 : IVec S17408x3072 1 := cmpf .olt main_v1 main_v2
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_v7 : FVec F S128 .f32 := Host.absf main_arg2
  let main_cst_1 : FVec F S_ .f32 := constant S_ .f32 0x7F800000#32
  let main_v8 : FVec F S128 .f32 := broadcastInDim S128 ![] bcast_S_S128 main_cst_1
  let main_v9 : IVec S128 1 := cmpf .olt main_v7 main_v8
  let main_v10 : FVec F S128 .f32 := Host.absf main_arg3
  let main_cst_2 : FVec F S_ .f32 := constant S_ .f32 0x7F800000#32
  let main_v11 : FVec F S128 .f32 := broadcastInDim S128 ![] bcast_S_S128 main_cst_2
  let main_v12 : IVec S128 1 := cmpf .olt main_v10 main_v11
  let main_v13 : FVec F S128 .f32 := Host.absf main_arg4
  let main_cst_3 : FVec F S_ .f32 := constant S_ .f32 0x7F800000#32
  let main_v14 : FVec F S128 .f32 := broadcastInDim S128 ![] bcast_S_S128 main_cst_3
  let main_v15 : IVec S128 1 := cmpf .olt main_v13 main_v14
  let main_v16 : FVec F S128 .f32 := Host.absf main_arg5
  let main_cst_4 : FVec F S_ .f32 := constant S_ .f32 0x7F800000#32
  let main_v17 : FVec F S128 .f32 := broadcastInDim S128 ![] bcast_S_S128 main_cst_4
  fn_part1 (F := F) main_v3 main_v6 main_v9 main_v12 main_v15 main_v16 main_v17
-- ==== Attn.lean ====
abbrev S17408x3072 : Shape := ⟨2, ![17408, 3072]⟩
abbrev S32x8 : Shape := ⟨2, ![32, 8]⟩
abbrev S128 : Shape := ⟨1, ![128]⟩
abbrev S256 : Shape := ⟨1, ![256]⟩
abbrev S511 : Shape := ⟨1, ![511]⟩
abbrev S384 : Shape := ⟨1, ![384]⟩
abbrev S128x1 : Shape := ⟨2, ![128, 1]⟩
abbrev S1x384 : Shape := ⟨2, ![1, 384]⟩
abbrev S_ : Shape := ⟨0, ![]⟩
abbrev S128x384 : Shape := ⟨2, ![128, 384]⟩
abbrev S128x384x1 : Shape := ⟨3, ![128, 384, 1]⟩
abbrev S8x128x384 : Shape := ⟨3, ![8, 128, 384]⟩
abbrev S1x128x384 : Shape := ⟨3, ![1, 128, 384]⟩
abbrev S1x1 : Shape := ⟨2, ![1, 1]⟩
abbrev S8x2176x3072 : Shape := ⟨3, ![8, 2176, 3072]⟩
abbrev S1x128 : Shape := ⟨2, ![1, 128]⟩
abbrev S1x256 : Shape := ⟨2, ![1, 256]⟩
abbrev S8x2176x1024 : Shape := ⟨3, ![8, 2176, 1024]⟩
abbrev S1x128x256 : Shape := ⟨3, ![1, 128, 256]⟩
abbrev S1x2176x256 : Shape := ⟨3, ![1, 2176, 256]⟩
abbrev S2x128x384 : Shape := ⟨3, ![2, 128, 384]⟩
abbrev S2x128x1 : Shape := ⟨3, ![2, 128, 1]⟩
abbrev S2x128x256 : Shape := ⟨3, ![2, 128, 256]⟩
abbrev S128x256 : Shape := ⟨2, ![128, 256]⟩
abbrev S128x128 : Shape := ⟨2, ![128, 128]⟩
abbrev S1x128x1 : Shape := ⟨3, ![1, 128, 1]⟩
abbrev S1x128x128 : Shape := ⟨3, ![1, 128, 128]⟩
abbrev S1 : Shape := ⟨1, ![1]⟩

abbrev nBuf : Space → Nat
  | .hbm => 39
  | .vmem => 22
  | .smem => 2
  | _ => 0

abbrev bufTy : (tb : Table) → Fin (tcTables nBuf tb) → BufTy
  | .hbm, ⟨0, _⟩ => ⟨S17408x3072, .bf16⟩
  | .hbm, ⟨1, _⟩ => ⟨S32x8, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S256, .f32⟩
  | .hbm, ⟨7, _⟩ => ⟨S511, .i32⟩
  | .hbm, ⟨8, _⟩ => ⟨S384, .i32⟩
  | .hbm, ⟨9, _⟩ => ⟨S128, .i32⟩
  | .hbm, ⟨10, _⟩ => ⟨S128, .i32⟩
  | .hbm, ⟨11, _⟩ => ⟨S128x1, .i32⟩
  | .hbm, ⟨12, _⟩ => ⟨S384, .i32⟩
  | .hbm, ⟨13, _⟩ => ⟨S1x384, .i32⟩
  | .hbm, ⟨14, _⟩ => ⟨S_, .i32⟩
  | .hbm, ⟨15, _⟩ => ⟨S1x384, .i32⟩
  | .hbm, ⟨16, _⟩ => ⟨S1x384, .i32⟩
  | .hbm, ⟨17, _⟩ => ⟨S128x384, .i32⟩
  | .hbm, ⟨18, _⟩ => ⟨S128x384, .i32⟩
  | .hbm, ⟨19, _⟩ => ⟨S128x384, .i32⟩
  | .hbm, ⟨20, _⟩ => ⟨S_, .i32⟩
  | .hbm, ⟨21, _⟩ => ⟨S128x384, .i32⟩
  | .hbm, ⟨22, _⟩ => ⟨S128x384, .i32⟩
  | .hbm, ⟨23, _⟩ => ⟨S128x384x1, .i32⟩
  | .hbm, ⟨24, _⟩ => ⟨S128x384, .i32⟩
  | .hbm, ⟨25, _⟩ => ⟨S1x384, .i32⟩
  | .hbm, ⟨26, _⟩ => ⟨S128x1, .i32⟩
  | .hbm, ⟨27, _⟩ => ⟨S128x384, .i32⟩
  | .hbm, ⟨28, _⟩ => ⟨S128x384, .i32⟩
  | .hbm, ⟨29, _⟩ => ⟨S128x384, .i1⟩
  | .hbm, ⟨30, _⟩ => ⟨S128x384, .i32⟩
  | .hbm, ⟨31, _⟩ => ⟨S8x128x384, .f32⟩
  | .hbm, ⟨32, _⟩ => ⟨S8x2176x3072, .bf16⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x256, .f32⟩
  | .hbm, ⟨38, _⟩ => ⟨S8x2176x1024, .bf16⟩
  | .local _ .vmem, ⟨0, _⟩ => ⟨S128x384, .i32⟩
  | .local _ .vmem, ⟨1, _⟩ => ⟨S128x384, .i32⟩
  | .local _ .vmem, ⟨2, _⟩ => ⟨S1x128x384, .f32⟩
  | .local _ .vmem, ⟨3, _⟩ => ⟨S1x128x384, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x256, .f32⟩
  | .local _ .vmem, ⟨9, _⟩ => ⟨S1x128x256, .bf16⟩
  | .local _ .vmem, ⟨10, _⟩ => ⟨S1x128x256, .bf16⟩
  | .local _ .vmem, ⟨11, _⟩ => ⟨S1x2176x256, .bf16⟩
  | .local _ .vmem, ⟨12, _⟩ => ⟨S1x2176x256, .bf16⟩
  | .local _ .vmem, ⟨13, _⟩ => ⟨S1x2176x256, .bf16⟩
  | .local _ .vmem, ⟨14, _⟩ => ⟨S1x2176x256, .bf16⟩
  | .local _ .vmem, ⟨15, _⟩ => ⟨S2x128x384, .f32⟩
  | .local _ .vmem, ⟨16, _⟩ => ⟨S2x128x384, .f32⟩
  | .local _ .vmem, ⟨17, _⟩ => ⟨S1x128x256, .bf16⟩
  | .local _ .vmem, ⟨18, _⟩ => ⟨S1x128x256, .bf16⟩
  | .local _ .vmem, ⟨19, _⟩ => ⟨S2x128x1, .f32⟩
  | .local _ .vmem, ⟨20, _⟩ => ⟨S2x128x1, .f32⟩
  | .local _ .vmem, ⟨21, _⟩ => ⟨S2x128x256, .f32⟩
  | .local _ .smem, ⟨0, _⟩ => ⟨S32x8, .f32⟩
  | .local _ .smem, ⟨1, _⟩ => ⟨S32x8, .f32⟩
  | _, _ => ⟨S17408x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg6_1 : Ref sig .tc := ⟨.vmem, 10, rfl⟩
abbrev cc1_stg7_0 : Ref sig .tc := ⟨.vmem, 11, rfl⟩
abbrev cc1_stg7_1 : Ref sig .tc := ⟨.vmem, 12, rfl⟩
abbrev cc1_stg8_0 : Ref sig .tc := ⟨.vmem, 13, rfl⟩
abbrev cc1_stg8_1 : Ref sig .tc := ⟨.vmem, 14, rfl⟩
abbrev cc1_stg9_0 : Ref sig .tc := ⟨.vmem, 15, rfl⟩
abbrev cc1_stg9_1 : Ref sig .tc := ⟨.vmem, 16, rfl⟩
abbrev cc1_stg10_0 : Ref sig .tc := ⟨.vmem, 17, rfl⟩
abbrev cc1_stg10_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc1_sem7_0 : DmaSem sig := 13
abbrev cc1_sem7_1 : DmaSem sig := 14
abbrev cc1_sem8_0 : DmaSem sig := 15
abbrev cc1_sem8_1 : DmaSem sig := 16
abbrev cc1_sem9_0 : DmaSem sig := 17
abbrev cc1_sem9_1 : DmaSem sig := 18
abbrev cc1_sem10_0 : DmaSem sig := 19
abbrev cc1_sem10_1 : DmaSem sig := 20

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_5 : Index := 0#32
  let arg0 : BitVec 32 := BitVec.ofNat 32 (i 0).val
  let v11 : Index := Scalar.indexCast arg0
  ![0, v11.toNat]
def k0_off2 (i : grid0.Coords) : Fin 2 → Nat :=
  let c1 : Index := 1#32
  let arg0 : BitVec 32 := BitVec.ofNat 32 (i 0).val
  let v19 : Index := Scalar.indexCast arg0
  ![1, v19.toNat]
def k0_off3 (i : grid0.Coords) : Fin 2 → Nat :=
  let c2 : Index := 2#32
  let arg0 : BitVec 32 := BitVec.ofNat 32 (i 0).val
  let v27 : Index := Scalar.indexCast arg0
  ![2, v27.toNat]
def k0_off4 (i : grid0.Coords) : Fin 2 → Nat :=
  let c3 : Index := 3#32
  let arg0 : BitVec 32 := BitVec.ofNat 32 (i 0).val
  let v35 : Index := Scalar.indexCast arg0
  ![3, v35.toNat]
def k0_off5 (i : grid0.Coords) : Fin 2 → Nat :=
  let c4 : Index := 4#32
  let arg0 : BitVec 32 := BitVec.ofNat 32 (i 0).val
  let v43 : Index := Scalar.indexCast arg0
  ![4, v43.toNat]
def k0_off6 (i : grid0.Coords) : Fin 2 → Nat :=
  let c5 : Index := 5#32
  let arg0 : BitVec 32 := BitVec.ofNat 32 (i 0).val
  let v51 : Index := Scalar.indexCast arg0
  ![5, v51.toNat]
def k0_off7 (i : grid0.Coords) : Fin 2 → Nat :=
  let c6 : Index := 6#32
  let arg0 : BitVec 32 := BitVec.ofNat 32 (i 0).val
  let v59 : Index := Scalar.indexCast arg0
  ![6, v59.toNat]
def k0_off8 (i : grid0.Coords) : Fin 2 → Nat :=
  let c7 : Index := 7#32
  let arg0 : BitVec 32 := BitVec.ofNat 32 (i 0).val
  let v67 : Index := Scalar.indexCast arg0
  ![7, v67.toNat]
def k0_off9 (i : grid0.Coords) : Fin 2 → Nat :=
  let c8 : Index := 8#32
  let arg0 : BitVec 32 := BitVec.ofNat 32 (i 0).val
  let v75 : Index := Scalar.indexCast arg0
  ![8, v75.toNat]
def k0_off10 (i : grid0.Coords) : Fin 2 → Nat :=
  let c9 : Index := 9#32
  let arg0 : BitVec 32 := BitVec.ofNat 32 (i 0).val
  let v83 : Index := Scalar.indexCast arg0
  ![9, v83.toNat]
def k0_off11 (i : grid0.Coords) : Fin 2 → Nat :=
  let c10 : Index := 10#32
  let arg0 : BitVec 32 := BitVec.ofNat 32 (i 0).val
  let v91 : Index := Scalar.indexCast arg0
  ![10, v91.toNat]
def k0_off12 (i : grid0.Coords) : Fin 2 → Nat :=
  let c11 : Index := 11#32
  let arg0 : BitVec 32 := BitVec.ofNat 32 (i 0).val
  let v99 : Index := Scalar.indexCast arg0
  ![11, v99.toNat]
def k0_off13 (i : grid0.Coords) : Fin 2 → Nat :=
  let c12 : Index := 12#32
  let arg0 : BitVec 32 := BitVec.ofNat 32 (i 0).val
  let v107 : Index := Scalar.indexCast arg0
  ![12, v107.toNat]
def k0_off14 (i : grid0.Coords) : Fin 2 → Nat :=
  let c13 : Index := 13#32
  let arg0 : BitVec 32 := BitVec.ofNat 32 (i 0).val
  let v115 : Index := Scalar.indexCast arg0
  ![13, v115.toNat]
def k0_off15 (i : grid0.Coords) : Fin 2 → Nat :=
  let c14 : Index := 14#32
  let arg0 : BitVec 32 := BitVec.ofNat 32 (i 0).val
  let v123 : Index := Scalar.indexCast arg0
  ![14, v123.toNat]
def k0_off16 (i : grid0.Coords) : Fin 2 → Nat :=
  let c15 : Index := 15#32
  let arg0 : BitVec 32 := BitVec.ofNat 32 (i 0).val
  let v131 : Index := Scalar.indexCast arg0
  ![15, v131.toNat]
def k0_off17 (i : grid0.Coords) : Fin 2 → Nat :=
  let c16 : Index := 16#32
  let arg0 : BitVec 32 := BitVec.ofNat 32 (i 0).val
  let v139 : Index := Scalar.indexCast arg0
  ![16, v139.toNat]
def k0_off18 (i : grid0.Coords) : Fin 2 → Nat :=
  let c17 : Index := 17#32
  let arg0 : BitVec 32 := BitVec.ofNat 32 (i 0).val
  let v147 : Index := Scalar.indexCast arg0
  ![17, v147.toNat]
def k0_off19 (i : grid0.Coords) : Fin 2 → Nat :=
  let c18 : Index := 18#32
  let arg0 : BitVec 32 := BitVec.ofNat 32 (i 0).val
  let v155 : Index := Scalar.indexCast arg0
  ![18, v155.toNat]
def k0_off20 (i : grid0.Coords) : Fin 2 → Nat :=
  let c19 : Index := 19#32
  let arg0 : BitVec 32 := BitVec.ofNat 32 (i 0).val
  let v163 : Index := Scalar.indexCast arg0
  ![19, v163.toNat]
def k0_off21 (i : grid0.Coords) : Fin 2 → Nat :=
  let c20 : Index := 20#32
  let arg0 : BitVec 32 := BitVec.ofNat 32 (i 0).val
  let v171 : Index := Scalar.indexCast arg0
  ![20, v171.toNat]
def k0_off22 (i : grid0.Coords) : Fin 2 → Nat :=
  let c21 : Index := 21#32
  let arg0 : BitVec 32 := BitVec.ofNat 32 (i 0).val
  let v179 : Index := Scalar.indexCast arg0
  ![21, v179.toNat]
def k0_off23 (i : grid0.Coords) : Fin 2 → Nat :=
  let c22 : Index := 22#32
  let arg0 : BitVec 32 := BitVec.ofNat 32 (i 0).val
  let v187 : Index := Scalar.indexCast arg0
  ![22, v187.toNat]
def k0_off24 (i : grid0.Coords) : Fin 2 → Nat :=
  let c23 : Index := 23#32
  let arg0 : BitVec 32 := BitVec.ofNat 32 (i 0).val
  let v195 : Index := Scalar.indexCast arg0
  ![23, v195.toNat]
def k0_off25 (i : grid0.Coords) : Fin 2 → Nat :=
  let c24 : Index := 24#32
  let arg0 : BitVec 32 := BitVec.ofNat 32 (i 0).val
  let v203 : Index := Scalar.indexCast arg0
  ![24, v203.toNat]
def k0_off26 (i : grid0.Coords) : Fin 2 → Nat :=
  let c25 : Index := 25#32
  let arg0 : BitVec 32 := BitVec.ofNat 32 (i 0).val
  let v211 : Index := Scalar.indexCast arg0
  ![25, v211.toNat]
def k0_off27 (i : grid0.Coords) : Fin 2 → Nat :=
  let c26 : Index := 26#32
  let arg0 : BitVec 32 := BitVec.ofNat 32 (i 0).val
  let v219 : Index := Scalar.indexCast arg0
  ![26, v219.toNat]
def k0_off28 (i : grid0.Coords) : Fin 2 → Nat :=
  let c27 : Index := 27#32
  let arg0 : BitVec 32 := BitVec.ofNat 32 (i 0).val
  let v227 : Index := Scalar.indexCast arg0
  ![27, v227.toNat]
def k0_off29 (i : grid0.Coords) : Fin 2 → Nat :=
  let c28 : Index := 28#32
  let arg0 : BitVec 32 := BitVec.ofNat 32 (i 0).val
  let v235 : Index := Scalar.indexCast arg0
  ![28, v235.toNat]
def k0_off30 (i : grid0.Coords) : Fin 2 → Nat :=
  let c29 : Index := 29#32
  let arg0 : BitVec 32 := BitVec.ofNat 32 (i 0).val
  let v243 : Index := Scalar.indexCast arg0
  ![29, v243.toNat]
def k0_off31 (i : grid0.Coords) : Fin 2 → Nat :=
  let c30 : Index := 30#32
  let arg0 : BitVec 32 := BitVec.ofNat 32 (i 0).val
  let v251 : Index := Scalar.indexCast arg0
  ![30, v251.toNat]
def k0_off32 (i : grid0.Coords) : Fin 2 → Nat :=
  let c31 : Index := 31#32
  let arg0 : BitVec 32 := BitVec.ofNat 32 (i 0).val
  let v259 : Index := Scalar.indexCast arg0
  ![31, v259.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x384 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 17], ![false, false, false]⟩

@[reducible] def k1_t1_loop (i : grid1.Coords) : Scf.Loop 32 :=
  let c0_i32_14 : BitVec 32 := 0#32
  let arg2 : BitVec 32 := BitVec.ofNat 32 (i 2).val
  let c1_i32 : BitVec 32 := 1#32
  let v14 : BitVec 32 := Scalar.subi arg2 c1_i32
  let c0_i32 : BitVec 32 := 0#32
  let v15 : BitVec 32 := Scalar.maxsi v14 c0_i32
  let v16 : BitVec 32 := Scalar.subi v15 c0_i32_14
  let c1_i32_15 : BitVec 32 := 1#32
  let v18 : BitVec 32 := Scalar.divsi v16 c1_i32_15
  let v19 : BitVec 32 := Scalar.muli v18 c1_i32_15
  let v20 : BitVec 32 := Scalar.addi c0_i32_14 v19
  let c1_i32_16 : BitVec 32 := 1#32
  ⟨c0_i32_14, v20, c1_i32_16⟩
def k1_mult1 (i : grid1.Coords) (k1_t1 : Fin (k1_t1_loop i).trips) : BitVec 32 :=
  let c0_i32_14 : BitVec 32 := 0#32
  let c1_i32_16 : BitVec 32 := 1#32
  let arg17 : BitVec 32 := Scf.iv c0_i32_14 c1_i32_16 k1_t1
  let c128_i32_230 : BitVec 32 := 128#32
  let v366 : BitVec 32 := Scalar.muli arg17 c128_i32_230
  v366
def k1_off1 (i : grid1.Coords) (k1_t1 : Fin (k1_t1_loop i).trips) : Fin 3 → Nat :=
  let c0_231 : Index := 0#32
  let c0_i32_14 : BitVec 32 := 0#32
  let c1_i32_16 : BitVec 32 := 1#32
  let arg17 : BitVec 32 := Scf.iv c0_i32_14 c1_i32_16 k1_t1
  let c128_i32_230 : BitVec 32 := 128#32
  let v366 : BitVec 32 := Scalar.muli arg17 c128_i32_230
  let v367 : BitVec 32 := v366
  let v368 : Index := Scalar.indexCast v367
  let c0_232 : Index := 0#32
  ![0, v368.toNat, 0]
def k1_off2 (i : grid1.Coords) (c0_i32_237 : BitVec 32) : Fin 2 → Nat :=
  let c15 : Index := 15#32
  let c2_i32 : BitVec 32 := 2#32
  let arg1 : BitVec 32 := BitVec.ofNat 32 (i 1).val
  let v379 : BitVec 32 := Scalar.muli c2_i32 arg1
  let v380 : BitVec 32 := Scalar.addi v379 c0_i32_237
  let v381 : Index := Scalar.indexCast v380
  ![15, v381.toNat]
@[reducible] def k1_t2_loop (i : grid1.Coords) : Scf.Loop 32 :=
  let c0_i32_14 : BitVec 32 := 0#32
  let arg2 : BitVec 32 := BitVec.ofNat 32 (i 2).val
  let c1_i32 : BitVec 32 := 1#32
  let v14 : BitVec 32 := Scalar.subi arg2 c1_i32
  let c0_i32 : BitVec 32 := 0#32
  let v15 : BitVec 32 := Scalar.maxsi v14 c0_i32
  let v16 : BitVec 32 := Scalar.subi v15 c0_i32_14
  let c1_i32_15 : BitVec 32 := 1#32
  let v18 : BitVec 32 := Scalar.divsi v16 c1_i32_15
  let v19 : BitVec 32 := Scalar.muli v18 c1_i32_15
  let v20 : BitVec 32 := Scalar.addi c0_i32_14 v19
  let v17 : BitVec 32 := Scalar.addi c0_i32_14 v16
  let c1_i32_17 : BitVec 32 := 1#32
  ⟨v20, v17, c1_i32_17⟩
def k1_mult2 (i : grid1.Coords) (k1_t2 : Fin (k1_t2_loop i).trips) : BitVec 32 :=
  let c0_i32_14 : BitVec 32 := 0#32
  let arg2 : BitVec 32 := BitVec.ofNat 32 (i 2).val
  let c1_i32 : BitVec 32 := 1#32
  let v14 : BitVec 32 := Scalar.subi arg2 c1_i32
  let c0_i32 : BitVec 32 := 0#32
  let v15 : BitVec 32 := Scalar.maxsi v14 c0_i32
  let v16 : BitVec 32 := Scalar.subi v15 c0_i32_14
  let c1_i32_15 : BitVec 32 := 1#32
  let v18 : BitVec 32 := Scalar.divsi v16 c1_i32_15
  let v19 : BitVec 32 := Scalar.muli v18 c1_i32_15
  let v20 : BitVec 32 := Scalar.addi c0_i32_14 v19
  let c1_i32_17 : BitVec 32 := 1#32
  let arg17 : BitVec 32 := Scf.iv v20 c1_i32_17 k1_t2
  let c128_i32_230 : BitVec 32 := 128#32
  let v366 : BitVec 32 := Scalar.muli arg17 c128_i32_230
  v366
def k1_off3 (i : grid1.Coords) (k1_t2 : Fin (k1_t2_loop i).trips) : Fin 3 → Nat :=
  let c0_231 : Index := 0#32
  let c0_i32_14 : BitVec 32 := 0#32
  let arg2 : BitVec 32 := BitVec.ofNat 32 (i 2).val
  let c1_i32 : BitVec 32 := 1#32
  let v14 : BitVec 32 := Scalar.subi arg2 c1_i32
  let c0_i32 : BitVec 32 := 0#32
  let v15 : BitVec 32 := Scalar.maxsi v14 c0_i32
  let v16 : BitVec 32 := Scalar.subi v15 c0_i32_14
  let c1_i32_15 : BitVec 32 := 1#32
  let v18 : BitVec 32 := Scalar.divsi v16 c1_i32_15
  let v19 : BitVec 32 := Scalar.muli v18 c1_i32_15
  let v20 : BitVec 32 := Scalar.addi c0_i32_14 v19
  let c1_i32_17 : BitVec 32 := 1#32
  let arg17 : BitVec 32 := Scf.iv v20 c1_i32_17 k1_t2
  let c128_i32_230 : BitVec 32 := 128#32
  let v366 : BitVec 32 := Scalar.muli arg17 c128_i32_230
  let v367 : BitVec 32 := v366
  let v368 : Index := Scalar.indexCast v367
  let c0_232 : Index := 0#32
  ![0, v368.toNat, 0]
def k1_off4 (i : grid1.Coords) (c0_i32_237 : BitVec 32) : Fin 2 → Nat :=
  let c15 : Index := 15#32
  let c2_i32 : BitVec 32 := 2#32
  let arg1 : BitVec 32 := BitVec.ofNat 32 (i 1).val
  let v379 : BitVec 32 := Scalar.muli c2_i32 arg1
  let v380 : BitVec 32 := Scalar.addi v379 c0_i32_237
  let v381 : Index := Scalar.indexCast v380
  ![15, v381.toNat]
def k1_mult3 (i : grid1.Coords) : BitVec 32 :=
  let c16_i32 : BitVec 32 := 16#32
  let c0_i32_18 : BitVec 32 := 0#32
  let arg2 : BitVec 32 := BitVec.ofNat 32 (i 2).val
  let c_m1_i32 : BitVec 32 := 4294967295#32
  let v21 : BitVec 32 := Scalar.addi arg2 c_m1_i32
  let v22 : BitVec 32 := Scalar.maxsi c0_i32_18 v21
  let v23 : BitVec 32 := Scalar.minsi c16_i32 v22
  let c128_i32 : BitVec 32 := 128#32
  let v26 : BitVec 32 := Scalar.muli v23 c128_i32
  v26
def k1_off5 (i : grid1.Coords) (c_m1_i32 : BitVec 32) : Fin 3 → Nat :=
  let c0_21 : Index := 0#32
  let c16_i32 : BitVec 32 := 16#32
  let c0_i32_18 : BitVec 32 := 0#32
  let arg2 : BitVec 32 := BitVec.ofNat 32 (i 2).val
  let v21 : BitVec 32 := Scalar.addi arg2 c_m1_i32
  let v22 : BitVec 32 := Scalar.maxsi c0_i32_18 v21
  let v23 : BitVec 32 := Scalar.minsi c16_i32 v22
  let c128_i32 : BitVec 32 := 128#32
  let v26 : BitVec 32 := Scalar.muli v23 c128_i32
  let v27 : BitVec 32 := v26
  let v28 : Index := Scalar.indexCast v27
  let c0_22 : Index := 0#32
  ![0, v28.toNat, 0]
def k1_off5_at (r : Fin 3) : BitVec 32 :=
  if r.val < 1 then
    4294967295#32
  else
    if r.val < 2 then
      0#32
    else
      1#32
def k1_mult4 (i : grid1.Coords) : BitVec 32 :=
  let c16_i32_78 : BitVec 32 := 16#32
  let c0_i32_77 : BitVec 32 := 0#32
  let arg2 : BitVec 32 := BitVec.ofNat 32 (i 2).val
  let c0_i32_76 : BitVec 32 := 0#32
  let v118 : BitVec 32 := Scalar.addi arg2 c0_i32_76
  let v119 : BitVec 32 := Scalar.maxsi c0_i32_77 v118
  let v120 : BitVec 32 := Scalar.minsi c16_i32_78 v119
  let c128_i32_81 : BitVec 32 := 128#32
  let v123 : BitVec 32 := Scalar.muli v120 c128_i32_81
  v123
def k1_mult5 (i : grid1.Coords) : BitVec 32 :=
  let c16_i32_139 : BitVec 32 := 16#32
  let c0_i32_138 : BitVec 32 := 0#32
  let arg2 : BitVec 32 := BitVec.ofNat 32 (i 2).val
  let c1_i32_137 : BitVec 32 := 1#32
  let v215 : BitVec 32 := Scalar.addi arg2 c1_i32_137
  let v216 : BitVec 32 := Scalar.maxsi c0_i32_138 v215
  let v217 : BitVec 32 := Scalar.minsi c16_i32_139 v216
  let c128_i32_142 : BitVec 32 := 128#32
  let v220 : BitVec 32 := Scalar.muli v217 c128_i32_142
  v220
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_9 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 1 → Memref sig .tc .smem S32x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x128x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S1x2176x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S1x2176x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

abbrev stage1_9 : Fin 2 → Memref sig .tc .vmem S2x128x384 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![false, true, false]

abbrev stage1_10 : Fin 2 → Memref sig .tc .vmem S1x128x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, true]
-- ==== AttnIdeal.lean ====
variable {F : FTy → Type} [FloatOps F] [Named F]
def κ : String → Option EReal := fun
  | "mask" => some ⊥
  | _ => none
-- ==== AttnRefIdeal.lean ====
abbrev S17408x3072 : Shape := ⟨2, ![17408, 3072]⟩
abbrev S32x8 : Shape := ⟨2, ![32, 8]⟩
abbrev S128 : Shape := ⟨1, ![128]⟩
abbrev S256 : Shape := ⟨1, ![256]⟩
abbrev S2176 : Shape := ⟨1, ![2176]⟩
abbrev S4351 : Shape := ⟨1, ![4351]⟩
abbrev S8x2176x3072 : Shape := ⟨3, ![8, 2176, 3072]⟩
abbrev S8x2176x1024 : Shape := ⟨3, ![8, 2176, 1024]⟩
abbrev S8x2176x8x128 : Shape := ⟨4, ![8, 2176, 8, 128]⟩
abbrev S8x2176x4x256 : Shape := ⟨4, ![8, 2176, 4, 256]⟩
abbrev S_ : Shape := ⟨0, ![]⟩
abbrev S1x2176 : Shape := ⟨2, ![1, 2176]⟩
abbrev S2176x1 : Shape := ⟨2, ![2176, 1]⟩
abbrev S2176x2176 : Shape := ⟨2, ![2176, 2176]⟩
abbrev S2176x2176x1 : Shape := ⟨3, ![2176, 2176, 1]⟩
abbrev S2176x2176x8 : Shape := ⟨3, ![2176, 2176, 8]⟩
abbrev S8x2176x2176 : Shape := ⟨3, ![8, 2176, 2176]⟩
abbrev S8x8x2176x2176 : Shape := ⟨4, ![8, 8, 2176, 2176]⟩
abbrev S1x8x2176x2176 : Shape := ⟨4, ![1, 8, 2176, 2176]⟩
abbrev S8x8x2176 : Shape := ⟨3, ![8, 8, 2176]⟩
abbrev S8x8x2176x1 : Shape := ⟨4, ![8, 8, 2176, 1]⟩
abbrev S8x4x2x2176x2176 : Shape := ⟨5, ![8, 4, 2, 2176, 2176]⟩
abbrev S8x4x1x2176x2176 : Shape := ⟨5, ![8, 4, 1, 2176, 2176]⟩
abbrev S8x4x2176x2176 : Shape := ⟨4, ![8, 4, 2176, 2176]⟩
abbrev S8x4x256x2176 : Shape := ⟨4, ![8, 4, 256, 2176]⟩
abbrev S8x2176x4 : Shape := ⟨3, ![8, 2176, 4]⟩
abbrev S8x2176x4x1 : Shape := ⟨4, ![8, 2176, 4, 1]⟩
abbrev S1x1x1x256 : Shape := ⟨4, ![1, 1, 1, 256]⟩

abbrev nBuf : Space → Nat
  | .hbm => 104
  | .vmem => 0
  | .smem => 0
  | _ => 0

abbrev bufTy : (tb : Table) → Fin (tcTables nBuf tb) → BufTy
  | .hbm, ⟨0, _⟩ => ⟨S17408x3072, .bf16⟩
  | .hbm, ⟨1, _⟩ => ⟨S32x8, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S256, .f32⟩
  | .hbm, ⟨7, _⟩ => ⟨S2176, .i32⟩
  | .hbm, ⟨8, _⟩ => ⟨S4351, .i32⟩
  | .hbm, ⟨9, _⟩ => ⟨S17408x3072, .f32⟩
  | .hbm, ⟨10, _⟩ => ⟨S8x2176x3072, .f32⟩
  | .hbm, ⟨11, _⟩ => ⟨S8x2176x1024, .f32⟩
  | .hbm, ⟨12, _⟩ => ⟨S8x2176x8x128, .f32⟩
  | .hbm, ⟨13, _⟩ => ⟨S8x2176x1024, .f32⟩
  | .hbm, ⟨14, _⟩ => ⟨S8x2176x8x128, .f32⟩
  | .hbm, ⟨15, _⟩ => ⟨S8x2176x1024, .f32⟩
  | .hbm, ⟨16, _⟩ => ⟨S8x2176x4x256, .f32⟩
  | .hbm, ⟨17, _⟩ => ⟨S128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2176, .i32⟩
  | .hbm, ⟨29, _⟩ => ⟨S1x2176, .i32⟩
  | .hbm, ⟨30, _⟩ => ⟨S2176x1, .i32⟩
  | .hbm, ⟨31, _⟩ => ⟨S2176x2176, .i32⟩
  | .hbm, ⟨32, _⟩ => ⟨S2176x2176, .i32⟩
  | .hbm, ⟨33, _⟩ => ⟨S2176x2176, .i32⟩
  | .hbm, ⟨34, _⟩ => ⟨S_, .i32⟩
  | .hbm, ⟨35, _⟩ => ⟨S2176x2176, .i32⟩
  | .hbm, ⟨36, _⟩ => ⟨S2176x2176, .i32⟩
  | .hbm, ⟨37, _⟩ => ⟨S2176x2176x1, .i32⟩
  | .hbm, ⟨38, _⟩ => ⟨S2176x2176, .i32⟩
  | .hbm, ⟨39, _⟩ => ⟨S2176x2176x1, .i32⟩
  | .hbm, ⟨40, _⟩ => ⟨S2176x2176x8, .f32⟩
  | .hbm, ⟨41, _⟩ => ⟨S8x2176x2176, .f32⟩
  | .hbm, ⟨42, _⟩ => ⟨S1x2176, .i32⟩
  | .hbm, ⟨43, _⟩ => ⟨S2176x1, .i32⟩
  | .hbm, ⟨44, _⟩ => ⟨S2176x2176, .i32⟩
  | .hbm, ⟨45, _⟩ => ⟨S2176x2176, .i32⟩
  | .hbm, ⟨46, _⟩ => ⟨S2176x2176, .i1⟩
  | .hbm, ⟨47, _⟩ => ⟨S8x8x2176x2176, .f32⟩
  | .hbm, ⟨48, _⟩ => ⟨S_, .f32⟩
  | .hbm, ⟨49, _⟩ => ⟨S8x8x2176x2176, .f32⟩
  | .hbm, ⟨50, _⟩ => ⟨S8x8x2176x2176, .f32⟩
  | .hbm, ⟨51, _⟩ => ⟨S1x8x2176x2176, .f32⟩
  | .hbm, ⟨52, _⟩ => ⟨S8x8x2176x2176, .f32⟩
  | .hbm, ⟨53, _⟩ => ⟨S8x8x2176x2176, .f32⟩
  | .hbm, ⟨54, _⟩ => ⟨S_, .f32⟩
  | .hbm, ⟨55, _⟩ => ⟨S_, .f32⟩
  | .hbm, ⟨56, _⟩ => ⟨S8x8x2176x2176, .i1⟩
  | .hbm, ⟨57, _⟩ => ⟨S8x8x2176x2176, .f32⟩
  | .hbm, ⟨58, _⟩ => ⟨S8x8x2176x2176, .f32⟩
  | .hbm, ⟨59, _⟩ => ⟨S_, .f32⟩
  | .hbm, ⟨60, _⟩ => ⟨S8x8x2176, .f32⟩
  | .hbm, ⟨61, _⟩ => ⟨S_, .f32⟩
  | .hbm, ⟨62, _⟩ => ⟨S8x8x2176, .f32⟩
  | .hbm, ⟨63, _⟩ => ⟨S8x8x2176, .f32⟩
  | .hbm, ⟨64, _⟩ => ⟨S8x8x2176x1, .f32⟩
  | .hbm, ⟨65, _⟩ => ⟨S8x8x2176x2176, .f32⟩
  | .hbm, ⟨66, _⟩ => ⟨S8x8x2176x2176, .f32⟩
  | .hbm, ⟨67, _⟩ => ⟨S8x8x2176x2176, .f32⟩
  | .hbm, ⟨68, _⟩ => ⟨S_, .f32⟩
  | .hbm, ⟨69, _⟩ => ⟨S8x8x2176, .f32⟩
  | .hbm, ⟨70, _⟩ => ⟨S8x8x2176x1, .f32⟩
  | .hbm, ⟨71, _⟩ => ⟨S8x8x2176x2176, .f32⟩
  | .hbm, ⟨72, _⟩ => ⟨S8x8x2176x2176, .f32⟩
  | .hbm, ⟨73, _⟩ => ⟨S8x4x2x2176x2176, .f32⟩
  | .hbm, ⟨74, _⟩ => ⟨S8x4x1x2176x2176, .f32⟩
  | .hbm, ⟨75, _⟩ => ⟨S8x4x2176x2176, .f32⟩
  | .hbm, ⟨76, _⟩ => ⟨S8x4x1x2176x2176, .f32⟩
  | .hbm, ⟨77, _⟩ => ⟨S8x4x2176x2176, .f32⟩
  | .hbm, ⟨78, _⟩ => ⟨S8x4x2176x2176, .f32⟩
  | .hbm, ⟨79, _⟩ => ⟨S8x4x2176x2176, .f32⟩
  | .hbm, ⟨80, _⟩ => ⟨S8x4x2176x2176, .f32⟩
  | .hbm, ⟨81, _⟩ => ⟨S8x4x256x2176, .f32⟩
  | .hbm, ⟨82, _⟩ => ⟨S8x2176x4x256, .f32⟩
  | .hbm, ⟨83, _⟩ => ⟨S8x2176x4x256, .f32⟩
  | .hbm, ⟨84, _⟩ => ⟨S_, .f32⟩
  | .hbm, ⟨85, _⟩ => ⟨S8x2176x4, .f32⟩
  | .hbm, ⟨86, _⟩ => ⟨S8x2176x4x1, .f32⟩
  | .hbm, ⟨87, _⟩ => ⟨S_, .f32⟩
  | .hbm, ⟨88, _⟩ => ⟨S8x2176x4x1, .f32⟩
  | .hbm, ⟨89, _⟩ => ⟨S8x2176x4x1, .f32⟩
  | .hbm, ⟨90, _⟩ => ⟨S_, .f32⟩
  | .hbm, ⟨91, _⟩ => ⟨S8x2176x4x1, .f32⟩
  | .hbm, ⟨92, _⟩ => ⟨S8x2176x4x1, .f32⟩
  | .hbm, ⟨93, _⟩ => ⟨S8x2176x4x1, .f32⟩
  | .hbm, ⟨94, _⟩ => ⟨S8x2176x4x256, .f32⟩
  | .hbm, ⟨95, _⟩ => ⟨S8x2176x4x256, .f32⟩
  | .hbm, ⟨96, _⟩ => ⟨S1x1x1x256, .f32⟩
  | .hbm, ⟨97, _⟩ => ⟨S8x2176x4x256, .f32⟩
  | .hbm, ⟨98, _⟩ => ⟨S8x2176x4x256, .f32⟩
  | .hbm, ⟨99, _⟩ => ⟨S_, .f32⟩
  | .hbm, ⟨100, _⟩ => ⟨S8x2176x4x256, .f32⟩
  | .hbm, ⟨101, _⟩ => ⟨S8x2176x4x256, .f32⟩
  | .hbm, ⟨102, _⟩ => ⟨S8x2176x1024, .f32⟩
  | .hbm, ⟨103, _⟩ => ⟨S8x2176x1024, .bf16⟩
  | _, _ => ⟨S17408x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== Gate.lean ====
abbrev S17408x2048 : Shape := ⟨2, ![17408, 2048]⟩
abbrev S2048x11424 : Shape := ⟨2, ![2048, 11424]⟩
abbrev S2048x6144 : Shape := ⟨2, ![2048, 6144]⟩
abbrev S17408x6144 : Shape := ⟨2, ![17408, 6144]⟩
abbrev S1088x2048 : Shape := ⟨2, ![1088, 2048]⟩
abbrev S2048x768 : Shape := ⟨2, ![2048, 768]⟩
abbrev S1088x768 : Shape := ⟨2, ![1088, 768]⟩

abbrev nBuf : Space → Nat
  | .hbm => 5
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S2048x11424, .f32⟩
  | .hbm, ⟨2, _⟩ => ⟨S2048x6144, .f32⟩
  | .hbm, ⟨3, _⟩ => ⟨S2048x6144, .bf16⟩
  | .hbm, ⟨4, _⟩ => ⟨S17408x6144, .bf16⟩
  | .local _ .vmem, ⟨0, _⟩ => ⟨S1088x2048, .bf16⟩
  | .local _ .vmem, ⟨1, _⟩ => ⟨S1088x2048, .bf16⟩
  | .local _ .vmem, ⟨2, _⟩ => ⟨S2048x768, .bf16⟩
  | .local _ .vmem, ⟨3, _⟩ => ⟨S2048x768, .bf16⟩
  | .local _ .vmem, ⟨4, _⟩ => ⟨S1088x768, .bf16⟩
  | .local _ .vmem, ⟨5, _⟩ => ⟨S1088x768, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S17408x2048 : Shape := ⟨2, ![17408, 2048]⟩
abbrev S2048x11424 : Shape := ⟨2, ![2048, 11424]⟩
abbrev S17408x11424 : Shape := ⟨2, ![17408, 11424]⟩
abbrev S17408x512 : Shape := ⟨2, ![17408, 512]⟩
abbrev S17408x1024 : Shape := ⟨2, ![17408, 1024]⟩
abbrev S17408x1696 : Shape := ⟨2, ![17408, 1696]⟩
abbrev S17408x6144 : Shape := ⟨2, ![17408, 6144]⟩

abbrev nBuf : Space → Nat
  | .hbm => 11
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x11424, .f32⟩
  | .hbm, ⟨2, _⟩ => ⟨S17408x2048, .f32⟩
  | .hbm, ⟨3, _⟩ => ⟨S17408x11424, .f32⟩
  | .hbm, ⟨4, _⟩ => ⟨S17408x512, .f32⟩
  | .hbm, ⟨5, _⟩ => ⟨S17408x1024, .f32⟩
  | .hbm, ⟨6, _⟩ => ⟨S17408x1024, .f32⟩
  | .hbm, ⟨7, _⟩ => ⟨S17408x1024, .f32⟩
  | .hbm, ⟨8, _⟩ => ⟨S17408x1696, .f32⟩
  | .hbm, ⟨9, _⟩ => ⟨S17408x6144, .f32⟩
  | .hbm, ⟨10, _⟩ => ⟨S17408x6144, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Up.lean ====
abbrev S17408x2048 : Shape := ⟨2, ![17408, 2048]⟩
abbrev S2048x11264 : Shape := ⟨2, ![2048, 11264]⟩
abbrev S3x11264 : Shape := ⟨2, ![3, 11264]⟩
abbrev S11264 : Shape := ⟨1, ![11264]⟩
abbrev S1x11264 : Shape := ⟨2, ![1, 11264]⟩
abbrev S17408x5632 : Shape := ⟨2, ![17408, 5632]⟩
abbrev S2176x2048 : Shape := ⟨2, ![2176, 2048]⟩
abbrev S2048x256 : Shape := ⟨2, ![2048, 256]⟩
abbrev S3x256 : Shape := ⟨2, ![3, 256]⟩
abbrev S1x256 : Shape := ⟨2, ![1, 256]⟩
abbrev S2176x256 : Shape := ⟨2, ![2176, 256]⟩

abbrev nBuf : Space → Nat
  | .hbm => 8
  | .vmem => 16
  | .smem => 0
  | _ => 0

abbrev bufTy : (tb : Table) → Fin (tcTables nBuf tb) → BufTy
  | .hbm, ⟨0, _⟩ => ⟨S17408x2048, .bf16⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S2048x11264, .bf16⟩
  | .hbm, ⟨5, _⟩ => ⟨S1x11264, .f32⟩
  | .hbm, ⟨6, _⟩ => ⟨S1x11264, .f32⟩
  | .hbm, ⟨7, _⟩ => ⟨S17408x5632, .bf16⟩
  | .local _ .vmem, ⟨0, _⟩ => ⟨S2176x2048, .bf16⟩
  | .local _ .vmem, ⟨1, _⟩ => ⟨S2176x2048, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2176x256, .bf16⟩
  | .local _ .vmem, ⟨15, _⟩ => ⟨S2176x256, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2176x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S17408x2048 : Shape := ⟨2, ![17408, 2048]⟩
abbrev S2048x11264 : Shape := ⟨2, ![2048, 11264]⟩
abbrev S3x11264 : Shape := ⟨2, ![3, 11264]⟩
abbrev S11264 : Shape := ⟨1, ![11264]⟩
abbrev S8x2176x2048 : Shape := ⟨3, ![8, 2176, 2048]⟩
abbrev S8x2176x11264 : Shape := ⟨3, ![8, 2176, 11264]⟩
abbrev S_ : Shape := ⟨0, ![]⟩
abbrev S8x2178x11264 : Shape := ⟨3, ![8, 2178, 11264]⟩
abbrev S1x11264 : Shape := ⟨2, ![1, 11264]⟩
abbrev S1x1x11264 : Shape := ⟨3, ![1, 1, 11264]⟩
abbrev S8x2176x5632 : Shape := ⟨3, ![8, 2176, 5632]⟩
abbrev S17408x5632 : Shape := ⟨2, ![17408, 5632]⟩

abbrev nBuf : Space → Nat
  | .hbm => 55
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S17408x2048, .f32⟩
  | .hbm, ⟨5, _⟩ => ⟨S8x2176x2048, .f32⟩
  | .hbm, ⟨6, _⟩ => ⟨S8x2176x11264, .f32⟩
  | .hbm, ⟨7, _⟩ => ⟨S_, .i32⟩
  | .hbm, ⟨8, _⟩ => ⟨S_, .f32⟩
  | .hbm, ⟨9, _⟩ => ⟨S8x2178x11264, .f32⟩
  | .hbm, ⟨10, _⟩ => ⟨S8x2176x11264, .f32⟩
  | .hbm, ⟨11, _⟩ => ⟨S1x11264, .f32⟩
  | .hbm, ⟨12, _⟩ => ⟨S11264, .f32⟩
  | .hbm, ⟨13, _⟩ => ⟨S1x1x11264, .f32⟩
  | .hbm, ⟨14, _⟩ => ⟨S8x2176x11264, .f32⟩
  | .hbm, ⟨15, _⟩ => ⟨S8x2176x11264, .f32⟩
  | .hbm, ⟨16, _⟩ => ⟨S1x1x11264, .f32⟩
  | .hbm, ⟨17, _⟩ => ⟨S8x2176x11264, .f32⟩
  | .hbm, ⟨18, _⟩ => ⟨S8x2176x11264, .f32⟩
  | .hbm, ⟨19, _⟩ => ⟨S8x2176x11264, .f32⟩
  | .hbm, ⟨20, _⟩ => ⟨S1x11264, .f32⟩
  | .hbm, ⟨21, _⟩ => ⟨S11264, .f32⟩
  | .hbm, ⟨22, _⟩ => ⟨S1x1x11264, .f32⟩
  | .hbm, ⟨23, _⟩ => ⟨S8x2176x11264, .f32⟩
  | .hbm, ⟨24, _⟩ => ⟨S8x2176x11264, .f32⟩
  | .hbm, ⟨25, _⟩ => ⟨S8x2176x11264, .f32⟩
  | .hbm, ⟨26, _⟩ => ⟨S8x2176x11264, .f32⟩
  | .hbm, ⟨27, _⟩ => ⟨S1x11264, .f32⟩
  | .hbm, ⟨28, _⟩ => ⟨S11264, .f32⟩
  | .hbm, ⟨29, _⟩ => ⟨S1x1x11264, .f32⟩
  | .hbm, ⟨30, _⟩ => ⟨S8x2176x11264, .f32⟩
  | .hbm, ⟨31, _⟩ => ⟨S8x2176x11264, .f32⟩
  | .hbm, ⟨32, _⟩ => ⟨S8x2176x11264, .f32⟩
  | .hbm, ⟨33, _⟩ => ⟨S8x2176x5632, .f32⟩
  | .hbm, ⟨34, _⟩ => ⟨S8x2176x5632, .f32⟩
  | .hbm, ⟨35, _⟩ => ⟨S8x2176x5632, .f32⟩
  | .hbm, ⟨36, _⟩ => ⟨S8x2176x5632, .f32⟩
  | .hbm, ⟨37, _⟩ => ⟨S_, .f32⟩
  | .hbm, ⟨38, _⟩ => ⟨S8x2176x5632, .f32⟩
  | .hbm, ⟨39, _⟩ => ⟨S8x2176x5632, .f32⟩
  | .hbm, ⟨40, _⟩ => ⟨S8x2176x5632, .f32⟩
  | .hbm, ⟨41, _⟩ => ⟨S_, .f32⟩
  | .hbm, ⟨42, _⟩ => ⟨S8x2176x5632, .f32⟩
  | .hbm, ⟨43, _⟩ => ⟨S8x2176x5632, .f32⟩
  | .hbm, ⟨44, _⟩ => ⟨S8x2176x5632, .f32⟩
  | .hbm, ⟨45, _⟩ => ⟨S_, .f32⟩
  | .hbm, ⟨46, _⟩ => ⟨S8x2176x5632, .f32⟩
  | .hbm, ⟨47, _⟩ => ⟨S8x2176x5632, .f32⟩
  | .hbm, ⟨48, _⟩ => ⟨S_, .f32⟩
  | .hbm, ⟨49, _⟩ => ⟨S8x2176x5632, .f32⟩
  | .hbm, ⟨50, _⟩ => ⟨S8x2176x5632, .f32⟩
  | .hbm, ⟨51, _⟩ => ⟨S8x2176x5632, .f32⟩
  | .hbm, ⟨52, _⟩ => ⟨S8x2176x5632, .f32⟩
  | .hbm, ⟨53, _⟩ => ⟨S17408x5632, .f32⟩
  | .hbm, ⟨54, _⟩ => ⟨S17408x5632, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_0 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_1 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Down.lean ====
abbrev S17408x5632 : Shape := ⟨2, ![17408, 5632]⟩
abbrev S5632x2048 : Shape := ⟨2, ![5632, 2048]⟩
abbrev S17408x2048 : Shape := ⟨2, ![17408, 2048]⟩
abbrev S2048 : Shape := ⟨1, ![2048]⟩
abbrev S1x2048 : Shape := ⟨2, ![1, 2048]⟩
abbrev S544x512 : Shape := ⟨2, ![544, 512]⟩
abbrev S512x2048 : Shape := ⟨2, ![512, 2048]⟩
abbrev S544x2048 : Shape := ⟨2, ![544, 2048]⟩
abbrev S544 : Shape := ⟨1, ![544]⟩
abbrev S544x1 : Shape := ⟨2, ![544, 1]⟩

abbrev nBuf : Space → Nat
  | .hbm => 10
  | .vmem => 13
  | .smem => 0
  | _ => 0

abbrev bufTy : (tb : Table) → Fin (tcTables nBuf tb) → BufTy
  | .hbm, ⟨0, _⟩ => ⟨S17408x5632, .bf16⟩
  | .hbm, ⟨1, _⟩ => ⟨S5632x2048, .f32⟩
  | .hbm, ⟨2, _⟩ => ⟨S17408x2048, .f32⟩
  | .hbm, ⟨3, _⟩ => ⟨S2048, .f32⟩
  | .hbm, ⟨4, _⟩ => ⟨S2048, .f32⟩
  | .hbm, ⟨5, _⟩ => ⟨S5632x2048, .bf16⟩
  | .hbm, ⟨6, _⟩ => ⟨S1x2048, .f32⟩
  | .hbm, ⟨7, _⟩ => ⟨S1x2048, .f32⟩
  | .hbm, ⟨8, _⟩ => ⟨S17408x2048, .f32⟩
  | .hbm, ⟨9, _⟩ => ⟨S17408x2048, .bf16⟩
  | .local _ .vmem, ⟨0, _⟩ => ⟨S544x512, .bf16⟩
  | .local _ .vmem, ⟨1, _⟩ => ⟨S544x512, .bf16⟩
  | .local _ .vmem, ⟨2, _⟩ => ⟨S512x2048, .bf16⟩
  | .local _ .vmem, ⟨3, _⟩ => ⟨S512x2048, .bf16⟩
  | .local _ .vmem, ⟨4, _⟩ => ⟨S544x2048, .f32⟩
  | .local _ .vmem, ⟨5, _⟩ => ⟨S544x2048, .f32⟩
  | .local _ .vmem, ⟨6, _⟩ => ⟨S1x2048, .f32⟩
  | .local _ .vmem, ⟨7, _⟩ => ⟨S1x2048, .f32⟩
  | .local _ .vmem, ⟨8, _⟩ => ⟨S544x2048, .f32⟩
  | .local _ .vmem, ⟨9, _⟩ => ⟨S544x2048, .f32⟩
  | .local _ .vmem, ⟨10, _⟩ => ⟨S544x2048, .bf16⟩
  | .local _ .vmem, ⟨11, _⟩ => ⟨S544x2048, .bf16⟩
  | .local _ .vmem, ⟨12, _⟩ => ⟨S544x2048, .f32⟩
  | _, _ => ⟨S17408x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v12 : BitVec 1 := Scalar.cmpi .eq arg1 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S544x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S544x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DownRefIdeal.lean ====
abbrev S17408x5632 : Shape := ⟨2, ![17408, 5632]⟩
abbrev S5632x2048 : Shape := ⟨2, ![5632, 2048]⟩
abbrev S17408x2048 : Shape := ⟨2, ![17408, 2048]⟩
abbrev S2048 : Shape := ⟨1, ![2048]⟩
abbrev S_ : Shape := ⟨0, ![]⟩
abbrev S17408 : Shape := ⟨1, ![17408]⟩
abbrev S17408x1 : Shape := ⟨2, ![17408, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S17408x5632, .bf16⟩
  | .hbm, ⟨1, _⟩ => ⟨S5632x2048, .f32⟩
  | .hbm, ⟨2, _⟩ => ⟨S17408x2048, .f32⟩
  | .hbm, ⟨3, _⟩ => ⟨S2048, .f32⟩
  | .hbm, ⟨4, _⟩ => ⟨S2048, .f32⟩
  | .hbm, ⟨5, _⟩ => ⟨S17408x5632, .f32⟩
  | .hbm, ⟨6, _⟩ => ⟨S17408x2048, .f32⟩
  | .hbm, ⟨7, _⟩ => ⟨S17408x2048, .f32⟩
  | .hbm, ⟨8, _⟩ => ⟨S_, .f32⟩
  | .hbm, ⟨9, _⟩ => ⟨S17408, .f32⟩
  | .hbm, ⟨10, _⟩ => ⟨S17408x1, .f32⟩
  | .hbm, ⟨11, _⟩ => ⟨S_, .f32⟩
  | .hbm, ⟨12, _⟩ => ⟨S17408x1, .f32⟩
  | .hbm, ⟨13, _⟩ => ⟨S17408x1, .f32⟩
  | .hbm, ⟨14, _⟩ => ⟨S_, .f32⟩
  | .hbm, ⟨15, _⟩ => ⟨S17408x1, .f32⟩
  | .hbm, ⟨16, _⟩ => ⟨S17408x1, .f32⟩
  | .hbm, ⟨17, _⟩ => ⟨S17408x1, .f32⟩
  | .hbm, ⟨18, _⟩ => ⟨S17408x2048, .f32⟩
  | .hbm, ⟨19, _⟩ => ⟨S17408x2048, .f32⟩
  | .hbm, ⟨20, _⟩ => ⟨S1x2048, .f32⟩
  | .hbm, ⟨21, _⟩ => ⟨S17408x2048, .f32⟩
  | .hbm, ⟨22, _⟩ => ⟨S17408x2048, .f32⟩
  | .hbm, ⟨23, _⟩ => ⟨S17408x2048, .f32⟩
  | .hbm, ⟨24, _⟩ => ⟨S17408x2048, .f32⟩
  | .hbm, ⟨25, _⟩ => ⟨S_, .f32⟩
  | .hbm, ⟨26, _⟩ => ⟨S17408, .f32⟩
  | .hbm, ⟨27, _⟩ => ⟨S17408x1, .f32⟩
  | .hbm, ⟨28, _⟩ => ⟨S_, .f32⟩
  | .hbm, ⟨29, _⟩ => ⟨S17408x1, .f32⟩
  | .hbm, ⟨30, _⟩ => ⟨S17408x1, .f32⟩
  | .hbm, ⟨31, _⟩ => ⟨S_, .f32⟩
  | .hbm, ⟨32, _⟩ => ⟨S17408x1, .f32⟩
  | .hbm, ⟨33, _⟩ => ⟨S17408x1, .f32⟩
  | .hbm, ⟨34, _⟩ => ⟨S17408x1, .f32⟩
  | .hbm, ⟨35, _⟩ => ⟨S17408x2048, .f32⟩
  | .hbm, ⟨36, _⟩ => ⟨S17408x2048, .f32⟩
  | .hbm, ⟨37, _⟩ => ⟨S1x2048, .f32⟩
  | .hbm, ⟨38, _⟩ => ⟨S17408x2048, .f32⟩
  | .hbm, ⟨39, _⟩ => ⟨S17408x2048, .f32⟩
  | .hbm, ⟨40, _⟩ => ⟨S17408x2048, .bf16⟩
  | _, _ => ⟨S17408x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Out.lean ====
abbrev S17408x2048 : Shape := ⟨2, ![17408, 2048]⟩
abbrev S2048x2048 : Shape := ⟨2, ![2048, 2048]⟩
abbrev S2048 : Shape := ⟨1, ![2048]⟩
abbrev S1x2048 : Shape := ⟨2, ![1, 2048]⟩
abbrev S544x512 : Shape := ⟨2, ![544, 512]⟩
abbrev S512x2048 : Shape := ⟨2, ![512, 2048]⟩
abbrev S544x2048 : Shape := ⟨2, ![544, 2048]⟩
abbrev S544 : Shape := ⟨1, ![544]⟩
abbrev S544x1 : Shape := ⟨2, ![544, 1]⟩

abbrev nBuf : Space → Nat
  | .hbm => 10
  | .vmem => 13
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S17408x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S17408x2048, .f32⟩
  | .hbm, ⟨9, _⟩ => ⟨S17408x2048, .bf16⟩
  | .local _ .vmem, ⟨0, _⟩ => ⟨S544x512, .bf16⟩
  | .local _ .vmem, ⟨1, _⟩ => ⟨S544x512, .bf16⟩
  | .local _ .vmem, ⟨2, _⟩ => ⟨S512x2048, .bf16⟩
  | .local _ .vmem, ⟨3, _⟩ => ⟨S512x2048, .bf16⟩
  | .local _ .vmem, ⟨4, _⟩ => ⟨S544x2048, .f32⟩
  | .local _ .vmem, ⟨5, _⟩ => ⟨S544x2048, .f32⟩
  | .local _ .vmem, ⟨6, _⟩ => ⟨S1x2048, .f32⟩
  | .local _ .vmem, ⟨7, _⟩ => ⟨S1x2048, .f32⟩
  | .local _ .vmem, ⟨8, _⟩ => ⟨S544x2048, .f32⟩
  | .local _ .vmem, ⟨9, _⟩ => ⟨S544x2048, .f32⟩
  | .local _ .vmem, ⟨10, _⟩ => ⟨S544x2048, .bf16⟩
  | .local _ .vmem, ⟨11, _⟩ => ⟨S544x2048, .bf16⟩
  | .local _ .vmem, ⟨12, _⟩ => ⟨S544x2048, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S544x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S544x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutRefIdeal.lean ====
abbrev S17408x2048 : Shape := ⟨2, ![17408, 2048]⟩
abbrev S2048x2048 : Shape := ⟨2, ![2048, 2048]⟩
abbrev S2048 : Shape := ⟨1, ![2048]⟩
abbrev S_ : Shape := ⟨0, ![]⟩
abbrev S17408 : Shape := ⟨1, ![17408]⟩
abbrev S17408x1 : Shape := ⟨2, ![17408, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S17408x2048, .f32⟩
  | .hbm, ⟨3, _⟩ => ⟨S2048, .f32⟩
  | .hbm, ⟨4, _⟩ => ⟨S2048, .f32⟩
  | .hbm, ⟨5, _⟩ => ⟨S17408x2048, .f32⟩
  | .hbm, ⟨6, _⟩ => ⟨S17408x2048, .f32⟩
  | .hbm, ⟨7, _⟩ => ⟨S17408x2048, .f32⟩
  | .hbm, ⟨8, _⟩ => ⟨S_, .f32⟩
  | .hbm, ⟨9, _⟩ => ⟨S17408, .f32⟩
  | .hbm, ⟨10, _⟩ => ⟨S17408x1, .f32⟩
  | .hbm, ⟨11, _⟩ => ⟨S_, .f32⟩
  | .hbm, ⟨12, _⟩ => ⟨S17408x1, .f32⟩
  | .hbm, ⟨13, _⟩ => ⟨S17408x1, .f32⟩
  | .hbm, ⟨14, _⟩ => ⟨S_, .f32⟩
  | .hbm, ⟨15, _⟩ => ⟨S17408x1, .f32⟩
  | .hbm, ⟨16, _⟩ => ⟨S17408x1, .f32⟩
  | .hbm, ⟨17, _⟩ => ⟨S17408x1, .f32⟩
  | .hbm, ⟨18, _⟩ => ⟨S17408x2048, .f32⟩
  | .hbm, ⟨19, _⟩ => ⟨S17408x2048, .f32⟩
  | .hbm, ⟨20, _⟩ => ⟨S1x2048, .f32⟩
  | .hbm, ⟨21, _⟩ => ⟨S17408x2048, .f32⟩
  | .hbm, ⟨22, _⟩ => ⟨S17408x2048, .f32⟩
  | .hbm, ⟨23, _⟩ => ⟨S17408x2048, .f32⟩
  | .hbm, ⟨24, _⟩ => ⟨S17408x2048, .f32⟩
  | .hbm, ⟨25, _⟩ => ⟨S_, .f32⟩
  | .hbm, ⟨26, _⟩ => ⟨S17408, .f32⟩
  | .hbm, ⟨27, _⟩ => ⟨S17408x1, .f32⟩
  | .hbm, ⟨28, _⟩ => ⟨S_, .f32⟩
  | .hbm, ⟨29, _⟩ => ⟨S17408x1, .f32⟩
  | .hbm, ⟨30, _⟩ => ⟨S17408x1, .f32⟩
  | .hbm, ⟨31, _⟩ => ⟨S_, .f32⟩
  | .hbm, ⟨32, _⟩ => ⟨S17408x1, .f32⟩
  | .hbm, ⟨33, _⟩ => ⟨S17408x1, .f32⟩
  | .hbm, ⟨34, _⟩ => ⟨S17408x1, .f32⟩
  | .hbm, ⟨35, _⟩ => ⟨S17408x2048, .f32⟩
  | .hbm, ⟨36, _⟩ => ⟨S17408x2048, .f32⟩
  | .hbm, ⟨37, _⟩ => ⟨S1x2048, .f32⟩
  | .hbm, ⟨38, _⟩ => ⟨S17408x2048, .f32⟩
  | .hbm, ⟨39, _⟩ => ⟨S17408x2048, .f32⟩
  | .hbm, ⟨40, _⟩ => ⟨S17408x2048, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Merge.lean ====
abbrev S17408x512 : Shape := ⟨2, ![17408, 512]⟩
abbrev S17408x1024 : Shape := ⟨2, ![17408, 1024]⟩
abbrev S17408x6144 : Shape := ⟨2, ![17408, 6144]⟩
abbrev S512x2048 : Shape := ⟨2, ![512, 2048]⟩
abbrev S1024x2048 : Shape := ⟨2, ![1024, 2048]⟩
abbrev S17408x2048 : Shape := ⟨2, ![17408, 2048]⟩
abbrev S544x512 : Shape := ⟨2, ![544, 512]⟩
abbrev S544x1024 : Shape := ⟨2, ![544, 1024]⟩
abbrev S544x2048 : Shape := ⟨2, ![544, 2048]⟩

abbrev nBuf : Space → Nat
  | .hbm => 11
  | .vmem => 17
  | .smem => 0
  | _ => 0

abbrev bufTy : (tb : Table) → Fin (tcTables nBuf tb) → BufTy
  | .hbm, ⟨0, _⟩ => ⟨S17408x512, .bf16⟩
  | .hbm, ⟨1, _⟩ => ⟨S17408x1024, .bf16⟩
  | .hbm, ⟨2, _⟩ => ⟨S17408x512, .bf16⟩
  | .hbm, ⟨3, _⟩ => ⟨S17408x6144, .bf16⟩
  | .hbm, ⟨4, _⟩ => ⟨S512x2048, .f32⟩
  | .hbm, ⟨5, _⟩ => ⟨S1024x2048, .f32⟩
  | .hbm, ⟨6, _⟩ => ⟨S512x2048, .f32⟩
  | .hbm, ⟨7, _⟩ => ⟨S512x2048, .bf16⟩
  | .hbm, ⟨8, _⟩ => ⟨S1024x2048, .bf16⟩
  | .hbm, ⟨9, _⟩ => ⟨S512x2048, .bf16⟩
  | .hbm, ⟨10, _⟩ => ⟨S17408x2048, .bf16⟩
  | .local _ .vmem, ⟨0, _⟩ => ⟨S544x512, .bf16⟩
  | .local _ .vmem, ⟨1, _⟩ => ⟨S544x512, .bf16⟩
  | .local _ .vmem, ⟨2, _⟩ => ⟨S544x1024, .bf16⟩
  | .local _ .vmem, ⟨3, _⟩ => ⟨S544x1024, .bf16⟩
  | .local _ .vmem, ⟨4, _⟩ => ⟨S544x512, .bf16⟩
  | .local _ .vmem, ⟨5, _⟩ => ⟨S544x512, .bf16⟩
  | .local _ .vmem, ⟨6, _⟩ => ⟨S544x2048, .bf16⟩
  | .local _ .vmem, ⟨7, _⟩ => ⟨S544x2048, .bf16⟩
  | .local _ .vmem, ⟨8, _⟩ => ⟨S544x2048, .bf16⟩
  | .local _ .vmem, ⟨9, _⟩ => ⟨S544x2048, .bf16⟩
  | .local _ .vmem, ⟨10, _⟩ => ⟨S544x2048, .bf16⟩
  | .local _ .vmem, ⟨11, _⟩ => ⟨S544x2048, .bf16⟩
  | .local _ .vmem, ⟨12, _⟩ => ⟨S512x2048, .bf16⟩
  | .local _ .vmem, ⟨13, _⟩ => ⟨S1024x2048, .bf16⟩
  | .local _ .vmem, ⟨14, _⟩ => ⟨S512x2048, .bf16⟩
  | .local _ .vmem, ⟨15, _⟩ => ⟨S544x2048, .bf16⟩
  | .local _ .vmem, ⟨16, _⟩ => ⟨S544x2048, .bf16⟩
  | _, _ => ⟨S17408x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S544x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S17408x512 : Shape := ⟨2, ![17408, 512]⟩
abbrev S17408x1024 : Shape := ⟨2, ![17408, 1024]⟩
abbrev S17408x6144 : Shape := ⟨2, ![17408, 6144]⟩
abbrev S512x2048 : Shape := ⟨2, ![512, 2048]⟩
abbrev S1024x2048 : Shape := ⟨2, ![1024, 2048]⟩
abbrev S17408x3x2048 : Shape := ⟨3, ![17408, 3, 2048]⟩
abbrev S_ : Shape := ⟨0, ![]⟩
abbrev S17408x1x2048 : Shape := ⟨3, ![17408, 1, 2048]⟩
abbrev S17408x2048 : Shape := ⟨2, ![17408, 2048]⟩

abbrev nBuf : Space → Nat
  | .hbm => 35
  | .vmem => 0
  | .smem => 0
  | _ => 0

abbrev bufTy : (tb : Table) → Fin (tcTables nBuf tb) → BufTy
  | .hbm, ⟨0, _⟩ => ⟨S17408x512, .bf16⟩
  | .hbm, ⟨1, _⟩ => ⟨S17408x1024, .bf16⟩
  | .hbm, ⟨2, _⟩ => ⟨S17408x512, .bf16⟩
  | .hbm, ⟨3, _⟩ => ⟨S17408x6144, .bf16⟩
  | .hbm, ⟨4, _⟩ => ⟨S512x2048, .f32⟩
  | .hbm, ⟨5, _⟩ => ⟨S1024x2048, .f32⟩
  | .hbm, ⟨6, _⟩ => ⟨S512x2048, .f32⟩
  | .hbm, ⟨7, _⟩ => ⟨S17408x6144, .f32⟩
  | .hbm, ⟨8, _⟩ => ⟨S17408x3x2048, .f32⟩
  | .hbm, ⟨9, _⟩ => ⟨S17408x3x2048, .f32⟩
  | .hbm, ⟨10, _⟩ => ⟨S17408x3x2048, .f32⟩
  | .hbm, ⟨11, _⟩ => ⟨S_, .f32⟩
  | .hbm, ⟨12, _⟩ => ⟨S17408x3x2048, .f32⟩
  | .hbm, ⟨13, _⟩ => ⟨S17408x3x2048, .f32⟩
  | .hbm, ⟨14, _⟩ => ⟨S_, .f32⟩
  | .hbm, ⟨15, _⟩ => ⟨S17408x3x2048, .f32⟩
  | .hbm, ⟨16, _⟩ => ⟨S17408x3x2048, .f32⟩
  | .hbm, ⟨17, _⟩ => ⟨S17408x1x2048, .f32⟩
  | .hbm, ⟨18, _⟩ => ⟨S17408x2048, .f32⟩
  | .hbm, ⟨19, _⟩ => ⟨S17408x512, .f32⟩
  | .hbm, ⟨20, _⟩ => ⟨S17408x2048, .f32⟩
  | .hbm, ⟨21, _⟩ => ⟨S17408x2048, .f32⟩
  | .hbm, ⟨22, _⟩ => ⟨S17408x1x2048, .f32⟩
  | .hbm, ⟨23, _⟩ => ⟨S17408x2048, .f32⟩
  | .hbm, ⟨24, _⟩ => ⟨S17408x1024, .f32⟩
  | .hbm, ⟨25, _⟩ => ⟨S17408x2048, .f32⟩
  | .hbm, ⟨26, _⟩ => ⟨S17408x2048, .f32⟩
  | .hbm, ⟨27, _⟩ => ⟨S17408x2048, .f32⟩
  | .hbm, ⟨28, _⟩ => ⟨S17408x1x2048, .f32⟩
  | .hbm, ⟨29, _⟩ => ⟨S17408x2048, .f32⟩
  | .hbm, ⟨30, _⟩ => ⟨S17408x512, .f32⟩
  | .hbm, ⟨31, _⟩ => ⟨S17408x2048, .f32⟩
  | .hbm, ⟨32, _⟩ => ⟨S17408x2048, .f32⟩
  | .hbm, ⟨33, _⟩ => ⟨S17408x2048, .f32⟩
  | .hbm, ⟨34, _⟩ => ⟨S17408x2048, .bf16⟩
  | _, _ => ⟨S17408x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Qkv.lean ====
abbrev S17408x2048 : Shape := ⟨2, ![17408, 2048]⟩
abbrev S2048x11424 : Shape := ⟨2, ![2048, 11424]⟩
abbrev S2048x3072 : Shape := ⟨2, ![2048, 3072]⟩
abbrev S17408x3072 : Shape := ⟨2, ![17408, 3072]⟩
abbrev S1088x2048 : Shape := ⟨2, ![1088, 2048]⟩
abbrev S2048x768 : Shape := ⟨2, ![2048, 768]⟩
abbrev S1088x768 : Shape := ⟨2, ![1088, 768]⟩

abbrev nBuf : Space → Nat
  | .hbm => 5
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S2048x11424, .f32⟩
  | .hbm, ⟨2, _⟩ => ⟨S2048x3072, .f32⟩
  | .hbm, ⟨3, _⟩ => ⟨S2048x3072, .bf16⟩
  | .hbm, ⟨4, _⟩ => ⟨S17408x3072, .bf16⟩
  | .local _ .vmem, ⟨0, _⟩ => ⟨S1088x2048, .bf16⟩
  | .local _ .vmem, ⟨1, _⟩ => ⟨S1088x2048, .bf16⟩
  | .local _ .vmem, ⟨2, _⟩ => ⟨S2048x768, .bf16⟩
  | .local _ .vmem, ⟨3, _⟩ => ⟨S2048x768, .bf16⟩
  | .local _ .vmem, ⟨4, _⟩ => ⟨S1088x768, .bf16⟩
  | .local _ .vmem, ⟨5, _⟩ => ⟨S1088x768, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvRefIdeal.lean ====
abbrev S17408x2048 : Shape := ⟨2, ![17408, 2048]⟩
abbrev S2048x11424 : Shape := ⟨2, ![2048, 11424]⟩
abbrev S17408x11424 : Shape := ⟨2, ![17408, 11424]⟩
abbrev S17408x512 : Shape := ⟨2, ![17408, 512]⟩
abbrev S17408x1024 : Shape := ⟨2, ![17408, 1024]⟩
abbrev S17408x1696 : Shape := ⟨2, ![17408, 1696]⟩
abbrev S17408x6144 : Shape := ⟨2, ![17408, 6144]⟩
abbrev S17408x3072 : Shape := ⟨2, ![17408, 3072]⟩

abbrev nBuf : Space → Nat
  | .hbm => 12
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x11424, .f32⟩
  | .hbm, ⟨2, _⟩ => ⟨S17408x2048, .f32⟩
  | .hbm, ⟨3, _⟩ => ⟨S17408x11424, .f32⟩
  | .hbm, ⟨4, _⟩ => ⟨S17408x512, .f32⟩
  | .hbm, ⟨5, _⟩ => ⟨S17408x1024, .f32⟩
  | .hbm, ⟨6, _⟩ => ⟨S17408x1024, .f32⟩
  | .hbm, ⟨7, _⟩ => ⟨S17408x1024, .f32⟩
  | .hbm, ⟨8, _⟩ => ⟨S17408x1696, .f32⟩
  | .hbm, ⟨9, _⟩ => ⟨S17408x6144, .f32⟩
  | .hbm, ⟨10, _⟩ => ⟨S17408x3072, .f32⟩
  | .hbm, ⟨11, _⟩ => ⟨S17408x3072, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== PoolIn.lean ====
abbrev S17408x2048 : Shape := ⟨2, ![17408, 2048]⟩
abbrev S2048x11424 : Shape := ⟨2, ![2048, 11424]⟩
abbrev S2048x512 : Shape := ⟨2, ![2048, 512]⟩
abbrev S17408x512 : Shape := ⟨2, ![17408, 512]⟩
abbrev S1088x2048 : Shape := ⟨2, ![1088, 2048]⟩
abbrev S1088x512 : Shape := ⟨2, ![1088, 512]⟩

abbrev nBuf : Space → Nat
  | .hbm => 5
  | .vmem => 5
  | .smem => 0
  | _ => 0

abbrev bufTy : (tb : Table) → Fin (tcTables nBuf tb) → BufTy
  | .hbm, ⟨0, _⟩ => ⟨S17408x2048, .bf16⟩
  | .hbm, ⟨1, _⟩ => ⟨S2048x11424, .f32⟩
  | .hbm, ⟨2, _⟩ => ⟨S2048x512, .f32⟩
  | .hbm, ⟨3, _⟩ => ⟨S2048x512, .bf16⟩
  | .hbm, ⟨4, _⟩ => ⟨S17408x512, .bf16⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S1088x512, .bf16⟩
  | .local _ .vmem, ⟨4, _⟩ => ⟨S1088x512, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PoolInRefIdeal.lean ====
abbrev S17408x2048 : Shape := ⟨2, ![17408, 2048]⟩
abbrev S2048x11424 : Shape := ⟨2, ![2048, 11424]⟩
abbrev S17408x11424 : Shape := ⟨2, ![17408, 11424]⟩
abbrev S17408x512 : Shape := ⟨2, ![17408, 512]⟩
abbrev S17408x1024 : Shape := ⟨2, ![17408, 1024]⟩
abbrev S17408x1696 : Shape := ⟨2, ![17408, 1696]⟩
abbrev S17408x6144 : Shape := ⟨2, ![17408, 6144]⟩

abbrev nBuf : Space → Nat
  | .hbm => 11
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x11424, .f32⟩
  | .hbm, ⟨2, _⟩ => ⟨S17408x2048, .f32⟩
  | .hbm, ⟨3, _⟩ => ⟨S17408x11424, .f32⟩
  | .hbm, ⟨4, _⟩ => ⟨S17408x512, .f32⟩
  | .hbm, ⟨5, _⟩ => ⟨S17408x1024, .f32⟩
  | .hbm, ⟨6, _⟩ => ⟨S17408x1024, .f32⟩
  | .hbm, ⟨7, _⟩ => ⟨S17408x1024, .f32⟩
  | .hbm, ⟨8, _⟩ => ⟨S17408x1696, .f32⟩
  | .hbm, ⟨9, _⟩ => ⟨S17408x6144, .f32⟩
  | .hbm, ⟨10, _⟩ => ⟨S17408x512, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== RwkvIn.lean ====
abbrev S17408x2048 : Shape := ⟨2, ![17408, 2048]⟩
abbrev S2048x11424 : Shape := ⟨2, ![2048, 11424]⟩
abbrev S2048x1696 : Shape := ⟨2, ![2048, 1696]⟩
abbrev S2048x1536 : Shape := ⟨2, ![2048, 1536]⟩
abbrev S2048x32 : Shape := ⟨2, ![2048, 32]⟩
abbrev S_ : Shape := ⟨0, ![]⟩
abbrev S2048x128 : Shape := ⟨2, ![2048, 128]⟩
abbrev S2048x96 : Shape := ⟨2, ![2048, 96]⟩
abbrev S2048x1920 : Shape := ⟨2, ![2048, 1920]⟩
abbrev S17408x1920 : Shape := ⟨2, ![17408, 1920]⟩
abbrev S1088x2048 : Shape := ⟨2, ![1088, 2048]⟩
abbrev S2048x640 : Shape := ⟨2, ![2048, 640]⟩
abbrev S1088x640 : Shape := ⟨2, ![1088, 640]⟩

abbrev nBuf : Space → Nat
  | .hbm => 19
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S2048x11424, .f32⟩
  | .hbm, ⟨2, _⟩ => ⟨S2048x1696, .f32⟩
  | .hbm, ⟨3, _⟩ => ⟨S2048x1536, .f32⟩
  | .hbm, ⟨4, _⟩ => ⟨S2048x32, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x32, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x96, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x1920, .f32⟩
  | .hbm, ⟨17, _⟩ => ⟨S2048x1920, .bf16⟩
  | .hbm, ⟨18, _⟩ => ⟨S17408x1920, .f32⟩
  | .local _ .vmem, ⟨0, _⟩ => ⟨S1088x2048, .bf16⟩
  | .local _ .vmem, ⟨1, _⟩ => ⟨S1088x2048, .bf16⟩
  | .local _ .vmem, ⟨2, _⟩ => ⟨S2048x640, .bf16⟩
  | .local _ .vmem, ⟨3, _⟩ => ⟨S2048x640, .bf16⟩
  | .local _ .vmem, ⟨4, _⟩ => ⟨S1088x640, .f32⟩
  | .local _ .vmem, ⟨5, _⟩ => ⟨S1088x640, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call2_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RwkvInRefIdeal.lean ====
abbrev S17408x2048 : Shape := ⟨2, ![17408, 2048]⟩
abbrev S2048x11424 : Shape := ⟨2, ![2048, 11424]⟩
abbrev S17408x11424 : Shape := ⟨2, ![17408, 11424]⟩
abbrev S17408x512 : Shape := ⟨2, ![17408, 512]⟩
abbrev S17408x1024 : Shape := ⟨2, ![17408, 1024]⟩
abbrev S17408x1696 : Shape := ⟨2, ![17408, 1696]⟩
abbrev S17408x6144 : Shape := ⟨2, ![17408, 6144]⟩
abbrev S17408x1536 : Shape := ⟨2, ![17408, 1536]⟩
abbrev S17408x32 : Shape := ⟨2, ![17408, 32]⟩
abbrev S17408x96 : Shape := ⟨2, ![17408, 96]⟩
abbrev S_ : Shape := ⟨0, ![]⟩
abbrev S17408x1920 : Shape := ⟨2, ![17408, 1920]⟩

abbrev nBuf : Space → Nat
  | .hbm => 18
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x11424, .f32⟩
  | .hbm, ⟨2, _⟩ => ⟨S17408x2048, .f32⟩
  | .hbm, ⟨3, _⟩ => ⟨S17408x11424, .f32⟩
  | .hbm, ⟨4, _⟩ => ⟨S17408x512, .f32⟩
  | .hbm, ⟨5, _⟩ => ⟨S17408x1024, .f32⟩
  | .hbm, ⟨6, _⟩ => ⟨S17408x1024, .f32⟩
  | .hbm, ⟨7, _⟩ => ⟨S17408x1024, .f32⟩
  | .hbm, ⟨8, _⟩ => ⟨S17408x1696, .f32⟩
  | .hbm, ⟨9, _⟩ => ⟨S17408x6144, .f32⟩
  | .hbm, ⟨10, _⟩ => ⟨S17408x1536, .f32⟩
  | .hbm, ⟨11, _⟩ => ⟨S17408x32, .f32⟩
  | .hbm, ⟨12, _⟩ => ⟨S17408x32, .f32⟩
  | .hbm, ⟨13, _⟩ => ⟨S17408x96, .f32⟩
  | .hbm, ⟨14, _⟩ => ⟨S_, .f32⟩
  | .hbm, ⟨15, _⟩ => ⟨S17408x96, .f32⟩
  | .hbm, ⟨16, _⟩ => ⟨S17408x32, .f32⟩
  | .hbm, ⟨17, _⟩ => ⟨S17408x1920, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Rms.lean ====
abbrev S17408x2048 : Shape := ⟨2, ![17408, 2048]⟩
abbrev S2048 : Shape := ⟨1, ![2048]⟩
abbrev S1x2048 : Shape := ⟨2, ![1, 2048]⟩
abbrev S544x2048 : Shape := ⟨2, ![544, 2048]⟩
abbrev S544 : Shape := ⟨1, ![544]⟩
abbrev S544x1 : Shape := ⟨2, ![544, 1]⟩

abbrev nBuf : Space → Nat
  | .hbm => 4
  | .vmem => 5
  | .smem => 0
  | _ => 0

abbrev bufTy : (tb : Table) → Fin (tcTables nBuf tb) → BufTy
  | .hbm, ⟨0, _⟩ => ⟨S17408x2048, .f32⟩
  | .hbm, ⟨1, _⟩ => ⟨S2048, .f32⟩
  | .hbm, ⟨2, _⟩ => ⟨S1x2048, .f32⟩
  | .hbm, ⟨3, _⟩ => ⟨S17408x2048, .bf16⟩
  | .local _ .vmem, ⟨0, _⟩ => ⟨S544x2048, .f32⟩
  | .local _ .vmem, ⟨1, _⟩ => ⟨S544x2048, .f32⟩
  | .local _ .vmem, ⟨2, _⟩ => ⟨S1x2048, .f32⟩
  | .local _ .vmem, ⟨3, _⟩ => ⟨S544x2048, .bf16⟩
  | .local _ .vmem, ⟨4, _⟩ => ⟨S544x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S17408x2048 : Shape := ⟨2, ![17408, 2048]⟩
abbrev S2048 : Shape := ⟨1, ![2048]⟩
abbrev S_ : Shape := ⟨0, ![]⟩
abbrev S17408 : Shape := ⟨1, ![17408]⟩
abbrev S17408x1 : Shape := ⟨2, ![17408, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S2048, .f32⟩
  | .hbm, ⟨2, _⟩ => ⟨S17408x2048, .f32⟩
  | .hbm, ⟨3, _⟩ => ⟨S_, .f32⟩
  | .hbm, ⟨4, _⟩ => ⟨S17408, .f32⟩
  | .hbm, ⟨5, _⟩ => ⟨S17408x1, .f32⟩
  | .hbm, ⟨6, _⟩ => ⟨S_, .f32⟩
  | .hbm, ⟨7, _⟩ => ⟨S17408x1, .f32⟩
  | .hbm, ⟨8, _⟩ => ⟨S17408x1, .f32⟩
  | .hbm, ⟨9, _⟩ => ⟨S_, .f32⟩
  | .hbm, ⟨10, _⟩ => ⟨S17408x1, .f32⟩
  | .hbm, ⟨11, _⟩ => ⟨S17408x1, .f32⟩
  | .hbm, ⟨12, _⟩ => ⟨S17408x1, .f32⟩
  | .hbm, ⟨13, _⟩ => ⟨S17408x2048, .f32⟩
  | .hbm, ⟨14, _⟩ => ⟨S17408x2048, .f32⟩
  | .hbm, ⟨15, _⟩ => ⟨S1x2048, .f32⟩
  | .hbm, ⟨16, _⟩ => ⟨S17408x2048, .f32⟩
  | .hbm, ⟨17, _⟩ => ⟨S17408x2048, .f32⟩
  | .hbm, ⟨18, _⟩ => ⟨S17408x2048, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Mix.lean ====
abbrev S17408x512 : Shape := ⟨2, ![17408, 512]⟩
abbrev S4x128x128 : Shape := ⟨3, ![4, 128, 128]⟩
abbrev S512 : Shape := ⟨1, ![512]⟩
abbrev S8x2176x512 : Shape := ⟨3, ![8, 2176, 512]⟩
abbrev S1x512 : Shape := ⟨2, ![1, 512]⟩
abbrev S1x2176x512 : Shape := ⟨3, ![1, 2176, 512]⟩
abbrev S2176x128 : Shape := ⟨2, ![2176, 128]⟩
abbrev S1x2176x128 : Shape := ⟨3, ![1, 2176, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 7
  | .vmem => 6
  | .smem => 0
  | _ => 0

abbrev bufTy : (tb : Table) → Fin (tcTables nBuf tb) → BufTy
  | .hbm, ⟨0, _⟩ => ⟨S17408x512, .bf16⟩
  | .hbm, ⟨1, _⟩ => ⟨S4x128x128, .f32⟩
  | .hbm, ⟨2, _⟩ => ⟨S512, .f32⟩
  | .hbm, ⟨3, _⟩ => ⟨S8x2176x512, .bf16⟩
  | .hbm, ⟨4, _⟩ => ⟨S4x128x128, .bf16⟩
  | .hbm, ⟨5, _⟩ => ⟨S1x512, .f32⟩
  | .hbm, ⟨6, _⟩ => ⟨S8x2176x512, .bf16⟩
  | .local _ .vmem, ⟨0, _⟩ => ⟨S1x2176x512, .bf16⟩
  | .local _ .vmem, ⟨1, _⟩ => ⟨S1x2176x512, .bf16⟩
  | .local _ .vmem, ⟨2, _⟩ => ⟨S4x128x128, .bf16⟩
  | .local _ .vmem, ⟨3, _⟩ => ⟨S1x512, .f32⟩
  | .local _ .vmem, ⟨4, _⟩ => ⟨S1x2176x512, .bf16⟩
  | .local _ .vmem, ⟨5, _⟩ => ⟨S1x2176x512, .bf16⟩
  | _, _ => ⟨S17408x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2176x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixRefIdeal.lean ====
abbrev S17408x512 : Shape := ⟨2, ![17408, 512]⟩
abbrev S4x128x128 : Shape := ⟨3, ![4, 128, 128]⟩
abbrev S512 : Shape := ⟨1, ![512]⟩
abbrev S4 : Shape := ⟨1, ![4]⟩
abbrev S8x2176x4x128 : Shape := ⟨4, ![8, 2176, 4, 128]⟩
abbrev S2176 : Shape := ⟨1, ![2176]⟩
abbrev S2176x1 : Shape := ⟨2, ![2176, 1]⟩
abbrev S1x2176 : Shape := ⟨2, ![1, 2176]⟩
abbrev S2176x2176 : Shape := ⟨2, ![2176, 2176]⟩
abbrev S4x1x1 : Shape := ⟨3, ![4, 1, 1]⟩
abbrev S1x2176x1 : Shape := ⟨3, ![1, 2176, 1]⟩
abbrev S4x2176x1 : Shape := ⟨3, ![4, 2176, 1]⟩
abbrev S1x1x2176 : Shape := ⟨3, ![1, 1, 2176]⟩
abbrev S4x2176x2176 : Shape := ⟨3, ![4, 2176, 2176]⟩
abbrev S1x2176x2176 : Shape := ⟨3, ![1, 2176, 2176]⟩
abbrev S4x8x128x2176 : Shape := ⟨4, ![4, 8, 128, 2176]⟩
abbrev S_ : Shape := ⟨0, ![]⟩
abbrev S1x4 : Shape := ⟨2, ![1, 4]⟩
abbrev S2176x4 : Shape := ⟨2, ![2176, 4]⟩
abbrev S2176x4x1 : Shape := ⟨3, ![2176, 4, 1]⟩
abbrev S1x2176x4x1 : Shape := ⟨4, ![1, 2176, 4, 1]⟩
abbrev S4x128x8x2176 : Shape := ⟨4, ![4, 128, 8, 2176]⟩
abbrev S8x2176x512 : Shape := ⟨3, ![8, 2176, 512]⟩
abbrev S1x1x512 : Shape := ⟨3, ![1, 1, 512]⟩

abbrev nBuf : Space → Nat
  | .hbm => 49
  | .vmem => 0
  | .smem => 0
  | _ => 0

abbrev bufTy : (tb : Table) → Fin (tcTables nBuf tb) → BufTy
  | .hbm, ⟨0, _⟩ => ⟨S17408x512, .bf16⟩
  | .hbm, ⟨1, _⟩ => ⟨S4x128x128, .f32⟩
  | .hbm, ⟨2, _⟩ => ⟨S512, .f32⟩
  | .hbm, ⟨3, _⟩ => ⟨S4, .i32⟩
  | .hbm, ⟨4, _⟩ => ⟨S17408x512, .f32⟩
  | .hbm, ⟨5, _⟩ => ⟨S8x2176x4x128, .f32⟩
  | .hbm, ⟨6, _⟩ => ⟨S2176, .i32⟩
  | .hbm, ⟨7, _⟩ => ⟨S2176x1, .i32⟩
  | .hbm, ⟨8, _⟩ => ⟨S1x2176, .i32⟩
  | .hbm, ⟨9, _⟩ => ⟨S2176x2176, .i32⟩
  | .hbm, ⟨10, _⟩ => ⟨S2176x2176, .i32⟩
  | .hbm, ⟨11, _⟩ => ⟨S2176x2176, .i1⟩
  | .hbm, ⟨12, _⟩ => ⟨S2176x1, .i32⟩
  | .hbm, ⟨13, _⟩ => ⟨S4x1x1, .i32⟩
  | .hbm, ⟨14, _⟩ => ⟨S1x2176x1, .i32⟩
  | .hbm, ⟨15, _⟩ => ⟨S4x2176x1, .i32⟩
  | .hbm, ⟨16, _⟩ => ⟨S4x2176x1, .i32⟩
  | .hbm, ⟨17, _⟩ => ⟨S4x2176x1, .i32⟩
  | .hbm, ⟨18, _⟩ => ⟨S1x1x2176, .i32⟩
  | .hbm, ⟨19, _⟩ => ⟨S4x2176x2176, .i32⟩
  | .hbm, ⟨20, _⟩ => ⟨S4x2176x2176, .i32⟩
  | .hbm, ⟨21, _⟩ => ⟨S4x2176x2176, .i1⟩
  | .hbm, ⟨22, _⟩ => ⟨S1x2176x2176, .i1⟩
  | .hbm, ⟨23, _⟩ => ⟨S4x2176x2176, .i1⟩
  | .hbm, ⟨24, _⟩ => ⟨S4x2176x2176, .i1⟩
  | .hbm, ⟨25, _⟩ => ⟨S4x2176x2176, .f32⟩
  | .hbm, ⟨26, _⟩ => ⟨S4x8x128x2176, .f32⟩
  | .hbm, ⟨27, _⟩ => ⟨S8x2176x4x128, .f32⟩
  | .hbm, ⟨28, _⟩ => ⟨S2176x1, .i32⟩
  | .hbm, ⟨29, _⟩ => ⟨S_, .i32⟩
  | .hbm, ⟨30, _⟩ => ⟨S2176x1, .i32⟩
  | .hbm, ⟨31, _⟩ => ⟨S2176x1, .i32⟩
  | .hbm, ⟨32, _⟩ => ⟨S1x4, .i32⟩
  | .hbm, ⟨33, _⟩ => ⟨S2176x4, .i32⟩
  | .hbm, ⟨34, _⟩ => ⟨S2176x4, .i32⟩
  | .hbm, ⟨35, _⟩ => ⟨S2176x4, .i32⟩
  | .hbm, ⟨36, _⟩ => ⟨S2176x4, .f32⟩
  | .hbm, ⟨37, _⟩ => ⟨S2176x4x1, .f32⟩
  | .hbm, ⟨38, _⟩ => ⟨S1x2176x4x1, .f32⟩
  | .hbm, ⟨39, _⟩ => ⟨S8x2176x4x128, .f32⟩
  | .hbm, ⟨40, _⟩ => ⟨S8x2176x4x128, .f32⟩
  | .hbm, ⟨41, _⟩ => ⟨S8x2176x4x128, .f32⟩
  | .hbm, ⟨42, _⟩ => ⟨S4x128x8x2176, .f32⟩
  | .hbm, ⟨43, _⟩ => ⟨S8x2176x4x128, .f32⟩
  | .hbm, ⟨44, _⟩ => ⟨S8x2176x512, .f32⟩
  | .hbm, ⟨45, _⟩ => ⟨S1x1x512, .f32⟩
  | .hbm, ⟨46, _⟩ => ⟨S8x2176x512, .f32⟩
  | .hbm, ⟨47, _⟩ => ⟨S8x2176x512, .f32⟩
  | .hbm, ⟨48, _⟩ => ⟨S8x2176x512, .bf16⟩
  | _, _ => ⟨S17408x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c_0 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩

abbrev nD : Nat := 1
abbrev τ : Topo := Topo.v7x

variable {F : FTy → Type} [FloatOps F]
-- ==== Proof.GateValue.lean ====
/- The gate's input projection: the blocked product is the product of the whole arrays, restricted to the gate's
   columns. -/
module

public import proofs.«01_k».proof.Proof.Gen.GateIdeal.Value
public import proofs.«01_k».proof.Proof.Gen.GateRefIdeal.Run
public import Idealize.ShloMosaic.Lib.Pipeline.ValueKit

@[expose] public section

set_option maxRecDepth 16384

noncomputable section

namespace Cert.GateIdeal.Hand

open Idealize.ShloMosaic Idealize.ShloMosaic.TcCoe Idealize.SL.Sem
open Idealize.ShloMosaic.Pipeline (Dat)
open Cert.GateIdeal Cert.GateIdeal.Gen

variable (m : (ℓ : Loc nD τ sig) → Buf (Elt Ideal) ℓ)

/-- The reference's result over the two argument arrays. -/
abbrev REF (X : FVec Ideal S17408x2048 .bf16) (W : FVec Ideal S2048x11424 .f32) : FVec Ideal S17408x6144 .bf16 :=
  truncf .bf16 (extractStridedSlice Cert.GateRefIdeal.S17408x6144 ![0, 5280]
    (Host.dotGeneral Cert.GateRefIdeal.dot_S17408x2048_S2048x11424_S17408x11424_1_0_0_1_n_n none
      (extf .f32 X Cert.GateRefIdeal.Gen.bitsLt_bf16_f32) W)
    Cert.GateRefIdeal.Gen.slices_S17408x11424_S17408x6144_0_5280) Cert.GateRefIdeal.Gen.bitsLt_bf16_f32

theorem idx : ∀ t : Fin cfg0.N, win0_0.index t = ![(grid0.coords t 0).val, 0]
    ∧ win0_1.index t = ![0, (grid0.coords t 1).val] ∧ win0_2.index t = ![(grid0.coords t 0).val, (grid0.coords t 1).val] :=
  (by decide +kernel : ∀ t : Fin grid0.N, _)

/-- One block: what the body stores at block index `y` is the reference at the array index `y` sits at. -/
theorem point (c : Dev nD) (t : Fin cfg0.N) (y : S1088x768.Idx) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GateIdeal.Hand

end
-- ==== Proof.UpValue.lean ====
module
public import proofs.«01_k».proof.Proof.Gen.UpIdeal.Value
public import proofs.«01_k».proof.Proof.Gen.UpRefIdeal.Run
public import Idealize.ShloMosaic.Lib.Pipeline.ValueKit

/-! The up projection of the feed-forward part with its causal convolution of three taps and its gated activation:
    the array the kernel leaves is the reference's term. Both sides are read at one position as the same sum of
    products, convolved and gated. -/

@[expose] public section
set_option maxRecDepth 16384
noncomputable section
namespace Cert.UpIdeal.Hand
open Idealize.ShloMosaic Idealize.ShloMosaic.TcCoe Idealize.SL.Sem
open Idealize.ShloMosaic.Pipeline (Dat)
open Cert.UpIdeal Cert.UpIdeal.Gen

/-- The causal convolution of three taps over one sequence of values, the two rows before the first read as zero. -/
def conv (D : Fin 2176 → EReal) (b w0 w1 w2 : EReal) (r : Fin 2176) : EReal :=
  b + (if h : 2 ≤ r.val then D ⟨r.val - 2, by omega⟩ * w0 else 0)
    + (if h : 1 ≤ r.val then D ⟨r.val - 1, by omega⟩ * w1 else 0) + D r * w2

/-- The gate's approximate Gaussian unit times the value. -/
def geglu (v g : EReal) : EReal :=
  g * (Ideal.ofBits .f32 1056964608#32 * (1 + Ideal.tanh (Ideal.ofBits .f32 1061962282#32
    * (g + Ideal.ofBits .f32 1027024659#32 * (g * g * g))))) * v

theorem ge_two : ∀ r : Fin 2176, IntOp.cmpi .sge (BitVec.ofNat 32 r.val) 2#32 = if 2 ≤ r.val then 1#1 else 0#1 := by
  decide +kernel

theorem ge_one : ∀ r : Fin 2176, IntOp.cmpi .sge (BitVec.ofNat 32 r.val) 1#32 = if 1 ≤ r.val then 1#1 else 0#1 := by
  decide +kernel

theorem sel_two (D : Fin 2176 → EReal) (w : EReal) (r : Fin 2176) (h : (r.val + 2176 - 2) % 2176 < 2176) :
    Scalar.select (IntOp.cmpi .sge (BitVec.ofNat 32 r.val) 2#32) (D ⟨(r.val + 2176 - 2) % 2176, h⟩ * w) 0
      = if h : 2 ≤ r.val then D ⟨r.val - 2, by omega⟩ * w else 0 := by
  rw [ge_two]
  by_cases hr : 2 ≤ r.val
  · rw [if_pos hr, dif_pos hr]
    have e : (r.val + 2176 - 2) % 2176 = r.val - 2 := by have := r.isLt; omega
    simp only [e]
    rfl
  · rw [if_neg hr, dif_neg hr]
    rfl

theorem sel_one (D : Fin 2176 → EReal) (w : EReal) (r : Fin 2176) (h : (r.val + 2176 - 1) % 2176 < 2176) :
    Scalar.select (IntOp.cmpi .sge (BitVec.ofNat 32 r.val) 1#32) (D ⟨(r.val + 2176 - 1) % 2176, h⟩ * w) 0
      = if h : 1 ≤ r.val then D ⟨r.val - 1, by omega⟩ * w else 0 := by
  rw [ge_one]
  by_cases hr : 1 ≤ r.val
  · rw [if_pos hr, dif_pos hr]
    have e : (r.val + 2176 - 1) % 2176 = r.val - 1 := by have := r.isLt; omega
    simp only [e]
    rfl
  · rw [if_neg hr, dif_neg hr]
    rfl

/-- The kernel's order of the convolution's terms. -/
theorem conv_kernel (D : Fin 2176 → EReal) (b w0 w1 w2 : EReal) (r : Fin 2176)
    (h : (r.val + 2176 - 2) % 2176 < 2176) (h' : (r.val + 2176 - 1) % 2176 < 2176) :
    b + D r * w2 + Scalar.select (IntOp.cmpi .sge (BitVec.ofNat 32 r.val) 2#32) (D ⟨(r.val + 2176 - 2) % 2176, h⟩ * w0) 0
      + Scalar.select (IntOp.cmpi .sge (BitVec.ofNat 32 r.val) 1#32) (D ⟨(r.val + 2176 - 1) % 2176, h'⟩ * w1) 0
      = conv D b w0 w1 w2 r := by
  rw [sel_two, sel_one, conv]
  ac_rfl

/-- The kernel's order of the gate's factors. -/
theorem geglu_kernel (v g : EReal) :
    Ideal.ofBits .f32 1056964608#32 * g * (1 + Ideal.tanh (Ideal.ofBits .f32 1061962282#32
      * (g + Ideal.ofBits .f32 1027024659#32 * g * g * g))) * v = geglu v g := by
  rw [geglu, show Ideal.ofBits .f32 1027024659#32 * g * g * g = Ideal.ofBits .f32 1027024659#32 * (g * g * g) by ac_rfl]
  ac_rfl

theorem pay1_at (x0 : Vec Ideal S2176x2048 .bf16) (x1 : Vec Ideal S2048x256 .bf16) (b w2 w0 w1 : Vec Ideal S1x256 .f32)
    (r : Fin 2176) (j : Fin 256) :
    k0_pay1 (F := Ideal) x0 x1 b w2 w0 w1 (ix2 r j)
      = conv (fun r => ∑ k : Fin 2048, x0 (ix2 r k) * x1 (ix2 k j)) (b (ix2 0 j)) (w0 (ix2 0 j)) (w1 (ix2 0 j))
          (w2 (ix2 0 j)) r := by
  pointwise [k0_pay1]
  exact conv_kernel (fun r => ∑ k : Fin 2048, x0 (ix2 r k) * x1 (ix2 k j)) _ _ _ _ r _ _

theorem pay2_at (x0 : Vec Ideal S2176x2048 .bf16) (x1 : Vec Ideal S2048x256 .bf16) (r : Fin 2176) (j : Fin 256) :
    k0_pay2 (F := Ideal) x0 x1 (ix2 r j) = ∑ k : Fin 2048, x0 (ix2 r k) * x1 (ix2 k j) := by
  pointwise [k0_pay2]

theorem pay3_at (V G : FVec Ideal S2176x256 .f32) (b w2 w0 w1 : Vec Ideal S1x256 .f32) (r : Fin 2176) (j : Fin 256) :
    k0_pay3 (F := Ideal) V G b w2 w0 w1 (ix2 r j)
      = geglu (V (ix2 r j)) (conv (fun r => G (ix2 r j)) (b (ix2 0 j)) (w0 (ix2 0 j)) (w1 (ix2 0 j)) (w2 (ix2 0 j)) r) := by
  pointwise [k0_pay3]
  rw [conv_kernel (fun r => G (ix2 r j)) (b (ix2 0 j)) (w0 (ix2 0 j)) (w1 (ix2 0 j)) (w2 (ix2 0 j)) r]
  exact geglu_kernel _ _

/-- The reference's product with two rows of zeros before each sequence. -/
abbrev PROD (X : FVec Ideal S17408x2048 .bf16) (W : FVec Ideal S2048x11264 .f32) :
    FVec Ideal Cert.UpRefIdeal.S8x2178x11264 .f32 :=
    pad Cert.UpRefIdeal.S8x2178x11264 ![0, 2, 0] ![0, 0, 0] ![0, 0, 0] (Host.dotGeneral
      Cert.UpRefIdeal.dot_S8x2176x2048_S2048x11264_S8x2176x11264_2_0_01_1_n_n none (shapeCast _ (extf .f32 X
      Cert.UpRefIdeal.Gen.bitsLt_bf16_f32) Cert.UpRefIdeal.Gen.shapeCasts_S17408x2048_S8x2176x2048) W) (sitofp .f32
      (constantI Cert.UpRefIdeal.S_ 32 0#32)) Cert.UpRefIdeal.Gen.pads_S8x2176x11264_S8x2178x11264_000_200_000
      Cert.UpRefIdeal.Gen.h_S_

/-- The reference's convolution of that product. -/
abbrev CONV (D : FVec Ideal Cert.UpRefIdeal.S8x2178x11264 .f32) (cw : FVec Ideal S3x11264 .f32)
    (cb : FVec Ideal Cert.UpRefIdeal.S11264 .f32) : FVec Ideal Cert.UpRefIdeal.S8x2176x11264 .f32 :=
    addf (addf (addf (broadcastInDim Cert.UpRefIdeal.S8x2176x11264 ![0, 1, 2]
      Cert.UpRefIdeal.Gen.bcast_S1x1x11264_S8x2176x11264_0_1_2 (broadcastInDim Cert.UpRefIdeal.S1x1x11264 ![2]
      Cert.UpRefIdeal.Gen.bcast_S11264_S1x1x11264_2 cb)) (mulf (extractStridedSlice Cert.UpRefIdeal.S8x2176x11264 ![0, 0, 0]
      D Cert.UpRefIdeal.Gen.slices_S8x2178x11264_S8x2176x11264_0_0_0) (broadcastInDim Cert.UpRefIdeal.S8x2176x11264 ![0, 1,
      2] Cert.UpRefIdeal.Gen.bcast_S1x1x11264_S8x2176x11264_0_1_2 (broadcastInDim Cert.UpRefIdeal.S1x1x11264 ![2]
      Cert.UpRefIdeal.Gen.bcast_S11264_S1x1x11264_2 (shapeCast _ (extractStridedSlice Cert.UpRefIdeal.S1x11264 ![0, 0] cw
      Cert.UpRefIdeal.Gen.slices_S3x11264_S1x11264_0_0) Cert.UpRefIdeal.Gen.shapeCasts_S1x11264_S11264))))) (mulf
      (extractStridedSlice Cert.UpRefIdeal.S8x2176x11264 ![0, 1, 0] D
      Cert.UpRefIdeal.Gen.slices_S8x2178x11264_S8x2176x11264_0_1_0) (broadcastInDim Cert.UpRefIdeal.S8x2176x11264 ![0, 1, 2]
      Cert.UpRefIdeal.Gen.bcast_S1x1x11264_S8x2176x11264_0_1_2 (broadcastInDim Cert.UpRefIdeal.S1x1x11264 ![2]
      Cert.UpRefIdeal.Gen.bcast_S11264_S1x1x11264_2 (shapeCast _ (extractStridedSlice Cert.UpRefIdeal.S1x11264 ![1, 0] cw
      Cert.UpRefIdeal.Gen.slices_S3x11264_S1x11264_1_0) Cert.UpRefIdeal.Gen.shapeCasts_S1x11264_S11264))))) (mulf
      (extractStridedSlice Cert.UpRefIdeal.S8x2176x11264 ![0, 2, 0] D
      Cert.UpRefIdeal.Gen.slices_S8x2178x11264_S8x2176x11264_0_2_0) (broadcastInDim Cert.UpRefIdeal.S8x2176x11264 ![0, 1, 2]
      Cert.UpRefIdeal.Gen.bcast_S1x1x11264_S8x2176x11264_0_1_2 (broadcastInDim Cert.UpRefIdeal.S1x1x11264 ![2]
      Cert.UpRefIdeal.Gen.bcast_S11264_S1x1x11264_2 (shapeCast _ (extractStridedSlice Cert.UpRefIdeal.S1x11264 ![2, 0] cw
      Cert.UpRefIdeal.Gen.slices_S3x11264_S1x11264_2_0) Cert.UpRefIdeal.Gen.shapeCasts_S1x11264_S11264))))

/-- The reference's gate applied to the two halves, the sequences laid end to end. -/
abbrev GEGLU (C : FVec Ideal Cert.UpRefIdeal.S8x2176x11264 .f32) : FVec Ideal S17408x5632 .bf16 :=
    truncf .bf16 (shapeCast _ (mulf (mulf (extractStridedSlice Cert.UpRefIdeal.S8x2176x5632 ![0, 0, 5632] C
      Cert.UpRefIdeal.Gen.slices_S8x2176x11264_S8x2176x5632_0_0_5632) (mulf (broadcastInDim Cert.UpRefIdeal.S8x2176x5632 ![]
      Cert.UpRefIdeal.Gen.bcast_S_S8x2176x5632 (constant Cert.UpRefIdeal.S_ .f32 0x3F000000#32)) (addf (broadcastInDim
      Cert.UpRefIdeal.S8x2176x5632 ![] Cert.UpRefIdeal.Gen.bcast_S_S8x2176x5632 (constant Cert.UpRefIdeal.S_ .f32
      0x3F800000#32)) (Host.tanh (mulf (broadcastInDim Cert.UpRefIdeal.S8x2176x5632 ![]
      Cert.UpRefIdeal.Gen.bcast_S_S8x2176x5632 (constant Cert.UpRefIdeal.S_ .f32 0x3F4C422A#32)) (addf (extractStridedSlice
      Cert.UpRefIdeal.S8x2176x5632 ![0, 0, 5632] C Cert.UpRefIdeal.Gen.slices_S8x2176x11264_S8x2176x5632_0_0_5632) (mulf
      (broadcastInDim Cert.UpRefIdeal.S8x2176x5632 ![] Cert.UpRefIdeal.Gen.bcast_S_S8x2176x5632 (constant Cert.UpRefIdeal.S_
      .f32 0x3D372713#32)) (mulf (mulf (extractStridedSlice Cert.UpRefIdeal.S8x2176x5632 ![0, 0, 5632] C
      Cert.UpRefIdeal.Gen.slices_S8x2176x11264_S8x2176x5632_0_0_5632) (extractStridedSlice Cert.UpRefIdeal.S8x2176x5632 ![0,
      0, 5632] C Cert.UpRefIdeal.Gen.slices_S8x2176x11264_S8x2176x5632_0_0_5632)) (extractStridedSlice
      Cert.UpRefIdeal.S8x2176x5632 ![0, 0, 5632] C Cert.UpRefIdeal.Gen.slices_S8x2176x11264_S8x2176x5632_0_0_5632)))))))))
      (extractStridedSlice Cert.UpRefIdeal.S8x2176x5632 ![0, 0, 0] C
      Cert.UpRefIdeal.Gen.slices_S8x2176x11264_S8x2176x5632_0_0_0)) Cert.UpRefIdeal.Gen.shapeCasts_S8x2176x5632_S17408x5632)
      Cert.UpRefIdeal.Gen.bitsLt_bf16_f32

/-- The reference's term over the arguments. -/
abbrev REF (X : FVec Ideal S17408x2048 .bf16) (W : FVec Ideal S2048x11264 .f32) (cw : FVec Ideal S3x11264 .f32)
    (cb : FVec Ideal Cert.UpRefIdeal.S11264 .f32) : FVec Ideal S17408x5632 .bf16 :=
  GEGLU (CONV (PROD X W) cw cb)

/-- One column of the convolved product in one sequence. -/
def col (X : FVec Ideal S17408x2048 .bf16) (W : FVec Ideal S2048x11264 .f32) (cw : FVec Ideal S3x11264 .f32)
    (cb : FVec Ideal Cert.UpRefIdeal.S11264 .f32) (b : Fin 8) (r : Fin 2176) (d : Fin 11264) : EReal :=
  conv (fun r => ∑ k : Fin 2048, X (ix2 ⟨b.val * 2176 + r.val, by omega⟩ k) * W (ix2 k d)) (cb (ix1 d)) (cw (ix2 0 d))
    (cw (ix2 1 d)) (cw (ix2 2 d)) r

theorem zero_word : (FloatOps.sitofp FTy.f32 0#32 : Ideal .f32) = (0 : EReal) := by
  show (((0#32 : BitVec 32).toInt : ℝ) : EReal) = 0
  simp

theorem conv_at (X : FVec Ideal S17408x2048 .bf16) (W : FVec Ideal S2048x11264 .f32) (cw : FVec Ideal S3x11264 .f32)
    (cb : FVec Ideal Cert.UpRefIdeal.S11264 .f32) (b : Fin 8) (r : Fin 2176) (d : Fin 11264) :
    CONV (PROD X W) cw cb (ix3 b r d) = col X W cw cb b r d := by
  pointwise [CONV, PROD]
  rw [zero_word, col, conv]
  refine congrArg₂ (fun a b : EReal => a + b) (congrArg₂ (fun a b : EReal => a + b) (congrArg (fun a : EReal => cb (ix1 d) + a) ?_) ?_) rfl
  · by_cases h : 2 ≤ r.val
    · rw [dif_pos h, dif_pos ⟨h, by omega⟩]
    · rw [dif_neg h, dif_neg fun h' => h h'.1, zero_mul]
  · by_cases h : 1 ≤ r.val
    · rw [dif_pos h, dif_pos ⟨by omega, by omega⟩]
      have e : 1 + r.val - 2 = r.val - 1 := by omega
      simp only [e]
    · rw [dif_neg h, dif_neg fun h' => h (by omega), zero_mul]

theorem geglu_at (C : FVec Ideal Cert.UpRefIdeal.S8x2176x11264 .f32) (b : Fin 8) (r : Fin 2176) (d : Fin 5632)
    (h : b.val * 2176 + r.val < 17408) :
    GEGLU C (ix2 ⟨b.val * 2176 + r.val, h⟩ d)
      = geglu (C (ix3 b r ⟨d.val, by omega⟩)) (C (ix3 b r ⟨5632 + d.val, by omega⟩)) := by
  pointwise [GEGLU, geglu]

theorem conv_congr {D D' : Fin 2176 → EReal} {b b' w0 w0' w1 w1' w2 w2' : EReal} (r : Fin 2176) (hD : ∀ r, D r = D' r)
    (hb : b = b') (h0 : w0 = w0') (h1 : w1 = w1') (h2 : w2 = w2') : conv D b w0 w1 w2 r = conv D' b' w0' w1' w2' r := by
  rw [show D = D' from funext hD, hb, h0, h1, h2]

variable (m : (ℓ : Loc nD τ sig) → Buf (Elt Ideal) ℓ)

theorem idx : ∀ t : Fin cfg0.N, win0_0.index t = ![(grid0.coords t 0).val, 0]
    ∧ win0_1.index t = ![0, (grid0.coords t 1).val] ∧ win0_2.index t = ![0, 22 + (grid0.coords t 1).val]
    ∧ win0_3.index t = ![0, (grid0.coords t 1).val] ∧ win0_4.index t = ![0, 22 + (grid0.coords t 1).val]
    ∧ win0_5.index t = ![0, (grid0.coords t 1).val] ∧ win0_6.index t = ![0, 22 + (grid0.coords t 1).val]
    ∧ win0_7.index t = ![(grid0.coords t 0).val, (grid0.coords t 1).val] :=
  (by decide +kernel : ∀ t : Fin grid0.N, _)

theorem point (c : Dev nD) (t : Fin cfg0.N) (y : S2176x256.Idx) :
    out0_7 (iblk m c 0 t) (iblk m c 1 t) (iblk m c 2 t) (iblk m c 3 t) (iblk m c 4 t) (iblk m c 5 t) (iblk m c 6 t) y
      = REF (m ((c : Thread nD τ).loc main_arg0)) (m ((c : Thread nD τ).loc main_arg1)) (m ((c : Thread nD τ).loc main_arg2)) (m ((c : Thread nD τ).loc main_arg3)) (((cfg0.win 7).blk t).view.emb y) := by
  idx_vars y
  have l0 : (grid0.coords t 0).val < 8 := (grid0.coords t 0).isLt
  have l1 : (grid0.coords t 1).val < 22 := (grid0.coords t 1).isLt
  rw [show ((cfg0.win 7).blk t).view.emb (ix2 y0 y1) = ix2 ⟨(grid0.coords t 0).val * 2176 + y0.val, by omega⟩
    ⟨(grid0.coords t 1).val * 256 + y1.val, by omega⟩ by blk_ext [idx t]]
  rw [REF, geglu_at _ ⟨(grid0.coords t 0).val, l0⟩ y0, conv_at, conv_at]
  rw [out0_7]
  frame_out
  rw [pay3_at, pay1_at]
  simp only [pay2_at]
  rw [col, col]
  refine congrArg₂ geglu (conv_congr _ (fun r => ?_) ?_ ?_ ?_ ?_) (conv_congr _ (fun r => ?_) ?_ ?_ ?_ ?_)
  all_goals pointwise []
  all_goals blk_point [iblk, V, idx t]

theorem final (c : Dev nD) : (dats m 0 c).arrAt 7 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 7 _ (by decide +kernel) fun t _ y => ?_
  blk_simp
  rw [after0_7]
  exact point m c t y

/-- The reference's named result is that term. -/
theorem res_eq (m : (ℓ : Loc Cert.UpRefIdeal.nD Cert.UpRefIdeal.τ Cert.UpRefIdeal.sig) → Buf (Elt Ideal) ℓ)
    (c : Dev Cert.UpRefIdeal.nD) : Cert.UpRefIdeal.Value.res_out0 m c
    = REF (m ((c.tc : Thread Cert.UpRefIdeal.nD Cert.UpRefIdeal.τ).loc Cert.UpRefIdeal.main_arg0))
        (m ((c.tc : Thread Cert.UpRefIdeal.nD Cert.UpRefIdeal.τ).loc Cert.UpRefIdeal.main_arg1))
        (m ((c.tc : Thread Cert.UpRefIdeal.nD Cert.UpRefIdeal.τ).loc Cert.UpRefIdeal.main_arg2))
        (m ((c.tc : Thread Cert.UpRefIdeal.nD Cert.UpRefIdeal.τ).loc Cert.UpRefIdeal.main_arg3)) := rfl

end Cert.UpIdeal.Hand
-- ==== Proof.ResNorm.lean ====
module
public import proofs.«01_k».proof.Proof.Gen.DownIdeal.Value
public import proofs.«01_k».proof.Proof.Gen.DownRefIdeal.Run
public import Idealize.ShloMosaic.Lib.Pipeline.ValueKit

/-! The residual sum with its two norms, a row at a time: what the down and the output projection share. -/

@[expose] public section
set_option maxRecDepth 16384
noncomputable section
namespace Cert.ResNorm
open Idealize.ShloMosaic Idealize.ShloMosaic.TcCoe Idealize.SL.Sem
open Cert.DownRefIdeal Cert.DownRefIdeal.Gen

/-- The reference's norm of every row, times the gain. -/
abbrev RMS (y : FVec Ideal S17408x2048 .f32) (g : FVec Ideal S2048 .f32) : FVec Ideal S17408x2048 .f32 :=
  mulf (mulf y (broadcastInDim S17408x2048 ![0, 1] bcast_S17408x1_S17408x2048_0_1 (Host.rsqrt (addf (Host.divf
    (broadcastInDim S17408x1 ![0] bcast_S17408_S17408x1_0 (Host.reduceAdd (mulf y y) (constant S_ .f32 0x00000000#32)
      reducesTo_S17408x2048_S17408_d1 h_S_))
    (broadcastInDim S17408x1 ![] bcast_S_S17408x1 (constant S_ .f32 0x45000000#32)))
    (broadcastInDim S17408x1 ![] bcast_S_S17408x1 (constant S_ .f32 0x358637BD#32))))))
    (broadcastInDim S17408x2048 ![0, 1] bcast_S1x2048_S17408x2048_0_1 (broadcastInDim S1x2048 ![1] bcast_S2048_S1x2048_1 g))

/-- The new states: the old ones plus the normed update. -/
abbrev SUM (h f : FVec Ideal S17408x2048 .f32) (g : FVec Ideal S2048 .f32) : FVec Ideal S17408x2048 .f32 :=
  addf h (RMS f g)

/-- The new states normed for the next stage. -/
abbrev NORM (h f : FVec Ideal S17408x2048 .f32) (g gn : FVec Ideal S2048 .f32) : FVec Ideal S17408x2048 .bf16 :=
  truncf .bf16 (RMS (SUM h f g) gn) bitsLt_bf16_f32

/-- One row's norm, times a gain, at one place. -/
def nrm (v : Fin 2048 → EReal) (g : EReal) (d : Fin 2048) : EReal :=
  v d * Ideal.rsqrt (Ideal.div (∑ x, v x * v x) (Ideal.ofBits .f32 0x45000000#32) + Ideal.ofBits .f32 0x358637BD#32) * g

theorem rms_at (y : FVec Ideal S17408x2048 .f32) (g : FVec Ideal S2048 .f32) (r : Fin 17408) (d : Fin 2048) :
    RMS y g (ix2 r d) = nrm (fun e => y (ix2 r e)) (g (ix1 d)) d := by
  pointwise [RMS, nrm]

theorem pay3_at (acc g h) (r : Fin 544) (d : Fin 2048) : Cert.DownIdeal.Gen.k0_pay3 (F := Ideal) acc g h (ix2 r d)
    = h (ix2 r d) + nrm (fun e => acc (ix2 r e)) (g (ix2 0 d)) d := by
  pointwise [Cert.DownIdeal.Gen.k0_pay3, nrm]

theorem pay4_at (acc g h gn) (r : Fin 544) (d : Fin 2048) : Cert.DownIdeal.Gen.k0_pay4 (F := Ideal) acc g h gn (ix2 r d)
    = nrm (fun e => Cert.DownIdeal.Gen.k0_pay3 (F := Ideal) acc g h (ix2 r e)) (gn (ix2 0 d)) d := by
  pointwise [Cert.DownIdeal.Gen.k0_pay4, nrm]

section Row
variable {acc : Vec Ideal Cert.DownIdeal.S544x2048 .f32} {g gn : Vec Ideal Cert.DownIdeal.S1x2048 .f32}
  {h : Vec Ideal Cert.DownIdeal.S544x2048 .f32} {f H : FVec Ideal S17408x2048 .f32} {G GN : FVec Ideal S2048 .f32}
  {y : Fin 544} {r : Fin 17408}

/-- A block's row that holds a row's product and old states makes the row's new states. -/
theorem sum_row (hacc : ∀ e, acc (ix2 y e) = f (ix2 r e)) (hh : ∀ e, h (ix2 y e) = H (ix2 r e))
    (hg : ∀ e, g (ix2 0 e) = G (ix1 e)) (d : Fin 2048) :
    Cert.DownIdeal.Gen.k0_pay3 (F := Ideal) acc g h (ix2 y d) = SUM H f G (ix2 r d) := by
  rw [pay3_at, hh, hg, funext hacc, ← rms_at]
  rfl

/-- The same for the normed new states. -/
theorem norm_row (hacc : ∀ e, acc (ix2 y e) = f (ix2 r e)) (hh : ∀ e, h (ix2 y e) = H (ix2 r e))
    (hg : ∀ e, g (ix2 0 e) = G (ix1 e)) (hgn : ∀ e, gn (ix2 0 e) = GN (ix1 e)) (d : Fin 2048) :
    Cert.DownIdeal.Gen.k0_pay4 (F := Ideal) acc g h gn (ix2 y d) = NORM H f G GN (ix2 r d) := by
  rw [pay4_at, hgn, funext (sum_row hacc hh hg), ← rms_at]
  rfl
end Row

end Cert.ResNorm
-- ==== Proof.DownValue.lean ====
module
public import proofs.«01_k».proof.Proof.ResNorm
public import Idealize.ShloMosaic.Lib.Pipeline.ReadBack

/-! The down projection with its residual and norms: the two arrays the kernel leaves are the reference's terms. -/

@[expose] public section
set_option maxRecDepth 16384
noncomputable section
namespace Cert.DownIdeal.Hand
open Idealize.ShloMosaic Idealize.ShloMosaic.TcCoe Idealize.SL.Sem
open Idealize.ShloMosaic.Pipeline (Dat)
open Cert.DownIdeal Cert.DownIdeal.Gen
open Cert.ResNorm (SUM NORM sum_row norm_row)

variable (m : (ℓ : Loc nD τ sig) → Buf (Elt Ideal) ℓ)

/-- The reference's product over the arguments. -/
abbrev DOT (X : FVec Ideal S17408x5632 .bf16) (W : FVec Ideal S5632x2048 .f32) : FVec Ideal S17408x2048 .f32 :=
  Host.dotGeneral Cert.DownRefIdeal.dot_S17408x5632_S5632x2048_S17408x2048_1_0_0_1_n_n none
    (extf .f32 X Cert.DownRefIdeal.Gen.bitsLt_bf16_f32) W

theorem idx : ∀ t : Fin cfg0.N, win0_0.index t = ![t.val / 11, t.val % 11] ∧ win0_1.index t = ![t.val % 11, 0]
    ∧ win0_2.index t = ![t.val / 11, 0] ∧ win0_3.index t = ![0, 0] ∧ win0_4.index t = ![0, 0]
    ∧ win0_5.index t = ![t.val / 11, 0] ∧ win0_6.index t = ![t.val / 11, 0] :=
  (by decide +kernel : ∀ t : Fin grid0.N, _)

theorem hzero (j) : k0_pay1 (F := Ideal) j = 0 := by pointwise [k0_pay1]

theorem hpay (acc x0 x1) (j) : k0_pay2 (F := Ideal) acc x0 x1 j
    = acc j + ∑ k : Fin 512, x0 (ix2 (j 0) k) * x1 (ix2 k (j 1)) := by pointwise [k0_pay2]

/-- One step's share of the product. -/
abbrev part (x0 : Vec Ideal S544x512 .bf16) (x1 : Vec Ideal S512x2048 .bf16) (j : S544x2048.Idx) : EReal :=
  ∑ k : Fin 512, x0 (ix2 (j 0) k) * x1 (ix2 k (j 1))

/-- What the scratch holds at a last step: the whole product's block. -/
theorem acc_at (c : Dev nD) (t : Fin cfg0.N) (hf : t.val % 11 = 10) (y : Fin 544) (d : Fin 2048) (hr : t.val / 11 * 544 + y.val < 17408) :
    (outsAt0 m c t.val t.isLt).2.2 (ix2 y d)
      = DOT (m ((c : Thread nD τ).loc main_arg0)) (m ((c : Thread nD τ).loc main_arg1)) (ix2 ⟨t.val / 11 * 544 + y.val, hr⟩ d) := by
  rw [Pipeline.eq_sum_fin_of_reset_step_apply_of_flush (fun n h => (outsAt0 m c n h).2.2) 11 (fun _ => 0)
    (fun t j => part (iblk m c 0 t) (iblk m c 1 t) j)
    (fun t h j => by rw [outsAt0_A m c t h (by omega)]; frame_out; rw [hpay, hzero])
    (fun t h j => by
      by_cases h1 : t.val % 11 = 10
      · rw [outsAt0_C m c t h h1]; frame_out; rw [hpay, read_unread_whole]
      · rw [outsAt0_B m c t h h1]; frame_out; rw [hpay, read_unread_whole]) t hf _, zero_add]
  pointwise [DOT]
  refine Fin.sum_mul_add_congr fun s k hl => ?_
  have l0 : t.val < 352 := t.isLt
  blk_point [iblk, V, idx t, idx ⟨_, Pipeline.run_point_lt_of_flush t hf s⟩]

section Blocks
variable (c : Dev nD) (t : Fin cfg0.N) (y : Fin 544) (d : Fin 2048) (hr : t.val / 11 * 544 + y.val < 17408)

theorem old_at : iblk m c 2 t (ix2 y d) = m ((c : Thread nD τ).loc main_arg2) (ix2 ⟨t.val / 11 * 544 + y.val, hr⟩ d) := by
  blk_point [iblk, V, idx t]

theorem gain_at : iblk m c 3 t (ix2 0 d) = m ((c : Thread nD τ).loc main_arg3) (ix1 d) := by
  blk_point [iblk, V, idx t]

theorem next_at : iblk m c 4 t (ix2 0 d) = m ((c : Thread nD τ).loc main_arg4) (ix1 d) := by
  blk_point [iblk, V, idx t]
end Blocks

/-- The first array after the run: the new states. -/
theorem final_sum (c : Dev nD) : (dats m 0 c).arrAt 5 (cfgs 0).N
    = SUM (m ((c : Thread nD τ).loc main_arg2)) (DOT (m ((c : Thread nD τ).loc main_arg0)) (m ((c : Thread nD τ).loc main_arg1)))
        (m ((c : Thread nD τ).loc main_arg3)) := by
  refine (dats m 0 c).arrAt_eq_of_covers 5 _ (by decide +kernel) fun t hf y => ?_
  have hl := (flush0_5 t).mp hf
  have l0 : t.val < 352 := t.isLt
  blk_simp
  rw [after0_5]
  have hacc := acc_at m c t hl
  rw [outsAt0_C m c t (by omega) hl] at hacc ⊢
  frame_out at hacc ⊢
  idx_vars y
  have hr : t.val / 11 * 544 + y0.val < 17408 := by omega
  refine (sum_row (fun e => hacc y0 e hr) (fun e => old_at m c t y0 e hr) (gain_at m c t) y1).trans ?_
  rw [show ((cfg0.win 5).blk t).view.emb (ix2 y0 y1) = ix2 ⟨t.val / 11 * 544 + y0.val, hr⟩ y1 by blk_ext [idx t]]

/-- The second array after the run: the new states normed. -/
theorem final_norm (c : Dev nD) : (dats m 0 c).arrAt 6 (cfgs 0).N
    = NORM (m ((c : Thread nD τ).loc main_arg2)) (DOT (m ((c : Thread nD τ).loc main_arg0)) (m ((c : Thread nD τ).loc main_arg1)))
        (m ((c : Thread nD τ).loc main_arg3)) (m ((c : Thread nD τ).loc main_arg4)) := by
  refine (dats m 0 c).arrAt_eq_of_covers 6 _ (by decide +kernel) fun t hf y => ?_
  have hl := (flush0_6 t).mp hf
  have l0 : t.val < 352 := t.isLt
  blk_simp
  rw [after0_6]
  have hacc := acc_at m c t hl
  rw [outsAt0_C m c t (by omega) hl] at hacc ⊢
  frame_out at hacc ⊢
  idx_vars y
  have hr : t.val / 11 * 544 + y0.val < 17408 := by omega
  refine (norm_row (fun e => hacc y0 e hr) (fun e => old_at m c t y0 e hr) (gain_at m c t) (next_at m c t) y1).trans ?_
  rw [show ((cfg0.win 6).blk t).view.emb (ix2 y0 y1) = ix2 ⟨t.val / 11 * 544 + y0.val, hr⟩ y1 by blk_ext [idx t]]

/-- The reference's second result is that term. -/
theorem norm_eq (m : (ℓ : Loc Cert.DownRefIdeal.nD Cert.DownRefIdeal.τ Cert.DownRefIdeal.sig) → Buf (Elt Ideal) ℓ)
    (c : Dev Cert.DownRefIdeal.nD) : Cert.DownRefIdeal.Value.res_out1 m c
    = NORM (m ((c.tc : Thread Cert.DownRefIdeal.nD Cert.DownRefIdeal.τ).loc Cert.DownRefIdeal.main_arg2))
        (DOT (m ((c.tc : Thread Cert.DownRefIdeal.nD Cert.DownRefIdeal.τ).loc Cert.DownRefIdeal.main_arg0))
          (m ((c.tc : Thread Cert.DownRefIdeal.nD Cert.DownRefIdeal.τ).loc Cert.DownRefIdeal.main_arg1)))
        (m ((c.tc : Thread Cert.DownRefIdeal.nD Cert.DownRefIdeal.τ).loc Cert.DownRefIdeal.main_arg3))
        (m ((c.tc : Thread Cert.DownRefIdeal.nD Cert.DownRefIdeal.τ).loc Cert.DownRefIdeal.main_arg4)) := rfl

end Cert.DownIdeal.Hand
-- ==== Proof.OutValue.lean ====
module
public import proofs.«01_k».proof.Proof.ResNorm
public import proofs.«01_k».proof.Proof.Gen.OutIdeal.Value
public import proofs.«01_k».proof.Proof.Gen.OutRefIdeal.Run
public import Idealize.ShloMosaic.Lib.Pipeline.ReadBack

/-! The output projection with its residual and norms: the two arrays the kernel leaves are the reference's terms. -/

@[expose] public section
set_option maxRecDepth 16384
noncomputable section
namespace Cert.OutIdeal.Hand
open Idealize.ShloMosaic Idealize.ShloMosaic.TcCoe Idealize.SL.Sem
open Idealize.ShloMosaic.Pipeline (Dat)
open Cert.OutIdeal Cert.OutIdeal.Gen
open Cert.ResNorm (SUM NORM sum_row norm_row)

variable (m : (ℓ : Loc nD τ sig) → Buf (Elt Ideal) ℓ)

/-- The reference's product over the arguments. -/
abbrev DOT (X : FVec Ideal S17408x2048 .bf16) (W : FVec Ideal S2048x2048 .f32) : FVec Ideal S17408x2048 .f32 :=
  Host.dotGeneral Cert.OutRefIdeal.dot_S17408x2048_S2048x2048_S17408x2048_1_0_0_1_n_n none
    (extf .f32 X Cert.OutRefIdeal.Gen.bitsLt_bf16_f32) W

theorem idx : ∀ t : Fin cfg0.N, win0_0.index t = ![t.val / 4, t.val % 4] ∧ win0_1.index t = ![t.val % 4, 0]
    ∧ win0_2.index t = ![t.val / 4, 0] ∧ win0_3.index t = ![0, 0] ∧ win0_4.index t = ![0, 0]
    ∧ win0_5.index t = ![t.val / 4, 0] ∧ win0_6.index t = ![t.val / 4, 0] :=
  (by decide +kernel : ∀ t : Fin grid0.N, _)

theorem hzero (j) : k0_pay1 (F := Ideal) j = 0 := by pointwise [k0_pay1]

theorem hpay (acc x0 x1) (j) : k0_pay2 (F := Ideal) acc x0 x1 j
    = acc j + ∑ k : Fin 512, x0 (ix2 (j 0) k) * x1 (ix2 k (j 1)) := by pointwise [k0_pay2]

/-- One step's share of the product. -/
abbrev part (x0 : Vec Ideal S544x512 .bf16) (x1 : Vec Ideal S512x2048 .bf16) (j : S544x2048.Idx) : EReal :=
  ∑ k : Fin 512, x0 (ix2 (j 0) k) * x1 (ix2 k (j 1))

/-- What the scratch holds at a last step: the whole product's block. -/
theorem acc_at (c : Dev nD) (t : Fin cfg0.N) (hf : t.val % 4 = 3) (y : Fin 544) (d : Fin 2048) (hr : t.val / 4 * 544 + y.val < 17408) :
    (outsAt0 m c t.val t.isLt).2.2 (ix2 y d)
      = DOT (m ((c : Thread nD τ).loc main_arg0)) (m ((c : Thread nD τ).loc main_arg1)) (ix2 ⟨t.val / 4 * 544 + y.val, hr⟩ d) := by
  rw [Pipeline.eq_sum_fin_of_reset_step_apply_of_flush (fun n h => (outsAt0 m c n h).2.2) 4 (fun _ => 0)
    (fun t j => part (iblk m c 0 t) (iblk m c 1 t) j)
    (fun t h j => by rw [outsAt0_A m c t h (by omega)]; frame_out; rw [hpay, hzero])
    (fun t h j => by
      by_cases h1 : t.val % 4 = 3
      · rw [outsAt0_C m c t h h1]; frame_out; rw [hpay, read_unread_whole]
      · rw [outsAt0_B m c t h h1]; frame_out; rw [hpay, read_unread_whole]) t hf _, zero_add]
  pointwise [DOT]
  refine Fin.sum_mul_add_congr fun s k hl => ?_
  have l0 : t.val < 128 := t.isLt
  blk_point [iblk, V, idx t, idx ⟨_, Pipeline.run_point_lt_of_flush t hf s⟩]

section Blocks
variable (c : Dev nD) (t : Fin cfg0.N) (y : Fin 544) (d : Fin 2048) (hr : t.val / 4 * 544 + y.val < 17408)

theorem old_at : iblk m c 2 t (ix2 y d) = m ((c : Thread nD τ).loc main_arg2) (ix2 ⟨t.val / 4 * 544 + y.val, hr⟩ d) := by
  blk_point [iblk, V, idx t]

theorem gain_at : iblk m c 3 t (ix2 0 d) = m ((c : Thread nD τ).loc main_arg3) (ix1 d) := by
  blk_point [iblk, V, idx t]

theorem next_at : iblk m c 4 t (ix2 0 d) = m ((c : Thread nD τ).loc main_arg4) (ix1 d) := by
  blk_point [iblk, V, idx t]
end Blocks

/-- The first array after the run: the new states. -/
theorem final_sum (c : Dev nD) : (dats m 0 c).arrAt 5 (cfgs 0).N
    = SUM (m ((c : Thread nD τ).loc main_arg2)) (DOT (m ((c : Thread nD τ).loc main_arg0)) (m ((c : Thread nD τ).loc main_arg1)))
        (m ((c : Thread nD τ).loc main_arg3)) := by
  refine (dats m 0 c).arrAt_eq_of_covers 5 _ (by decide +kernel) fun t hf y => ?_
  have hl := (flush0_5 t).mp hf
  have l0 : t.val < 128 := t.isLt
  blk_simp
  rw [after0_5]
  have hacc := acc_at m c t hl
  rw [outsAt0_C m c t (by omega) hl] at hacc ⊢
  frame_out at hacc ⊢
  idx_vars y
  have hr : t.val / 4 * 544 + y0.val < 17408 := by omega
  refine (sum_row (fun e => hacc y0 e hr) (fun e => old_at m c t y0 e hr) (gain_at m c t) y1).trans ?_
  rw [show ((cfg0.win 5).blk t).view.emb (ix2 y0 y1) = ix2 ⟨t.val / 4 * 544 + y0.val, hr⟩ y1 by blk_ext [idx t]]

/-- The second array after the run: the new states normed. -/
theorem final_norm (c : Dev nD) : (dats m 0 c).arrAt 6 (cfgs 0).N
    = NORM (m ((c : Thread nD τ).loc main_arg2)) (DOT (m ((c : Thread nD τ).loc main_arg0)) (m ((c : Thread nD τ).loc main_arg1)))
        (m ((c : Thread nD τ).loc main_arg3)) (m ((c : Thread nD τ).loc main_arg4)) := by
  refine (dats m 0 c).arrAt_eq_of_covers 6 _ (by decide +kernel) fun t hf y => ?_
  have hl := (flush0_6 t).mp hf
  have l0 : t.val < 128 := t.isLt
  blk_simp
  rw [after0_6]
  have hacc := acc_at m c t hl
  rw [outsAt0_C m c t (by omega) hl] at hacc ⊢
  frame_out at hacc ⊢
  idx_vars y
  have hr : t.val / 4 * 544 + y0.val < 17408 := by omega
  refine (norm_row (fun e => hacc y0 e hr) (fun e => old_at m c t y0 e hr) (gain_at m c t) (next_at m c t) y1).trans ?_
  rw [show ((cfg0.win 6).blk t).view.emb (ix2 y0 y1) = ix2 ⟨t.val / 4 * 544 + y0.val, hr⟩ y1 by blk_ext [idx t]]

/-- The reference's second result is that term. -/
theorem norm_eq (m : (ℓ : Loc Cert.OutRefIdeal.nD Cert.OutRefIdeal.τ Cert.OutRefIdeal.sig) → Buf (Elt Ideal) ℓ)
    (c : Dev Cert.OutRefIdeal.nD) : Cert.OutRefIdeal.Value.res_out1 m c
    = NORM (m ((c.tc : Thread Cert.OutRefIdeal.nD Cert.OutRefIdeal.τ).loc Cert.OutRefIdeal.main_arg2))
        (DOT (m ((c.tc : Thread Cert.OutRefIdeal.nD Cert.OutRefIdeal.τ).loc Cert.OutRefIdeal.main_arg0))
          (m ((c.tc : Thread Cert.OutRefIdeal.nD Cert.OutRefIdeal.τ).loc Cert.OutRefIdeal.main_arg1)))
        (m ((c.tc : Thread Cert.OutRefIdeal.nD Cert.OutRefIdeal.τ).loc Cert.OutRefIdeal.main_arg3))
        (m ((c.tc : Thread Cert.OutRefIdeal.nD Cert.OutRefIdeal.τ).loc Cert.OutRefIdeal.main_arg4)) := rfl

end Cert.OutIdeal.Hand
-- ==== Proof.MergeValue.lean ====
module
public import proofs.«01_k».proof.Proof.Gen.MergeIdeal.Value
public import proofs.«01_k».proof.Proof.Gen.MergeRefIdeal.Run
public import Idealize.ShloMosaic.Lib.Pipeline.ValueKit

/-! The gated sum of the three branches' projections: the array the kernel leaves is the reference's term. -/

@[expose] public section
set_option maxRecDepth 16384
noncomputable section
namespace Cert.MergeIdeal.Hand
open Idealize.ShloMosaic Idealize.ShloMosaic.TcCoe Idealize.SL.Sem
open Idealize.ShloMosaic.Pipeline (Dat)
open Cert.MergeIdeal Cert.MergeIdeal.Gen

variable (m : (ℓ : Loc nD τ sig) → Buf (Elt Ideal) ℓ)

/-- The reference's term over the arguments. -/
abbrev REF (yp : FVec Ideal S17408x512 .bf16) (yd : FVec Ideal S17408x1024 .bf16) (yr : FVec Ideal S17408x512 .bf16) (zg : FVec
      Ideal S17408x6144 .bf16) (pa : FVec Ideal S512x2048 .f32) (pb : FVec Ideal S1024x2048 .f32) (pc : FVec Ideal S512x2048
      .f32) :
    FVec Ideal S17408x2048 .bf16 :=
    truncf .bf16 (addf (addf (mulf (shapeCast _ (extractStridedSlice Cert.MergeRefIdeal.S17408x1x2048 ![0, 0, 0] (Host.divf
      (broadcastInDim Cert.MergeRefIdeal.S17408x3x2048 ![] Cert.MergeRefIdeal.Gen.bcast_S_S17408x3x2048 (constant
      Cert.MergeRefIdeal.S_ .f32 0x3F800000#32)) (addf (broadcastInDim Cert.MergeRefIdeal.S17408x3x2048 ![]
      Cert.MergeRefIdeal.Gen.bcast_S_S17408x3x2048 (constant Cert.MergeRefIdeal.S_ .f32 0x3F800000#32)) (Host.exp (Host.negf
      (shapeCast _ (extf .f32 zg Cert.MergeRefIdeal.Gen.bitsLt_bf16_f32)
      Cert.MergeRefIdeal.Gen.shapeCasts_S17408x6144_S17408x3x2048)))))
      Cert.MergeRefIdeal.Gen.slices_S17408x3x2048_S17408x1x2048_0_0_0)
      Cert.MergeRefIdeal.Gen.shapeCasts_S17408x1x2048_S17408x2048) (Host.dotGeneral
      Cert.MergeRefIdeal.dot_S17408x512_S512x2048_S17408x2048_1_0_0_1_n_n none (extf .f32 yp
      Cert.MergeRefIdeal.Gen.bitsLt_bf16_f32) pa)) (mulf (shapeCast _ (extractStridedSlice Cert.MergeRefIdeal.S17408x1x2048
      ![0, 1, 0] (Host.divf (broadcastInDim Cert.MergeRefIdeal.S17408x3x2048 ![] Cert.MergeRefIdeal.Gen.bcast_S_S17408x3x2048
      (constant Cert.MergeRefIdeal.S_ .f32 0x3F800000#32)) (addf (broadcastInDim Cert.MergeRefIdeal.S17408x3x2048 ![]
      Cert.MergeRefIdeal.Gen.bcast_S_S17408x3x2048 (constant Cert.MergeRefIdeal.S_ .f32 0x3F800000#32)) (Host.exp (Host.negf
      (shapeCast _ (extf .f32 zg Cert.MergeRefIdeal.Gen.bitsLt_bf16_f32)
      Cert.MergeRefIdeal.Gen.shapeCasts_S17408x6144_S17408x3x2048)))))
      Cert.MergeRefIdeal.Gen.slices_S17408x3x2048_S17408x1x2048_0_1_0)
      Cert.MergeRefIdeal.Gen.shapeCasts_S17408x1x2048_S17408x2048) (Host.dotGeneral
      Cert.MergeRefIdeal.dot_S17408x1024_S1024x2048_S17408x2048_1_0_0_1_n_n none (extf .f32 yd
      Cert.MergeRefIdeal.Gen.bitsLt_bf16_f32) pb))) (mulf (shapeCast _ (extractStridedSlice Cert.MergeRefIdeal.S17408x1x2048
      ![0, 2, 0] (Host.divf (broadcastInDim Cert.MergeRefIdeal.S17408x3x2048 ![] Cert.MergeRefIdeal.Gen.bcast_S_S17408x3x2048
      (constant Cert.MergeRefIdeal.S_ .f32 0x3F800000#32)) (addf (broadcastInDim Cert.MergeRefIdeal.S17408x3x2048 ![]
      Cert.MergeRefIdeal.Gen.bcast_S_S17408x3x2048 (constant Cert.MergeRefIdeal.S_ .f32 0x3F800000#32)) (Host.exp (Host.negf
      (shapeCast _ (extf .f32 zg Cert.MergeRefIdeal.Gen.bitsLt_bf16_f32)
      Cert.MergeRefIdeal.Gen.shapeCasts_S17408x6144_S17408x3x2048)))))
      Cert.MergeRefIdeal.Gen.slices_S17408x3x2048_S17408x1x2048_0_2_0)
      Cert.MergeRefIdeal.Gen.shapeCasts_S17408x1x2048_S17408x2048) (Host.dotGeneral
      Cert.MergeRefIdeal.dot_S17408x512_S512x2048_S17408x2048_1_0_0_1_n_n none (extf .f32 yr
      Cert.MergeRefIdeal.Gen.bitsLt_bf16_f32) pc))) Cert.MergeRefIdeal.Gen.bitsLt_bf16_f32

theorem idx : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![t.val, 2]
    ∧ win0_6.index t = ![0, 0] ∧ win0_7.index t = ![0, 0] ∧ win0_8.index t = ![0, 0] ∧ win0_9.index t = ![t.val, 0] :=
  (by decide +kernel : ∀ t : Fin grid0.N, _)

theorem neg_eq (x : EReal) : 0 - x = -x := by rw [sub_eq_add_neg, zero_add]

theorem point (c : Dev nD) (t : Fin cfg0.N) (y : S544x2048.Idx) :
    k0_pay1 (F := Ideal) (k0_pay2 (iblk m c 3 t) (iblk m c 0 t) (iblk m c 6 t) (iblk m c 4 t) (iblk m c 1 t) (iblk m c 7 t))
        (k0_pay3 (iblk m c 5 t)) k0_pay4 (iblk m c 2 t) (iblk m c 8 t) y
      = REF (m ((c : Thread nD τ).loc main_arg0)) (m ((c : Thread nD τ).loc main_arg1)) (m ((c : Thread nD τ).loc main_arg2)) (m ((c
      : Thread nD τ).loc main_arg3)) (m ((c : Thread nD τ).loc main_arg4)) (m ((c : Thread nD τ).loc main_arg5)) (m ((c :
      Thread nD τ).loc main_arg6))
          (((cfg0.win 9).blk t).view.emb y) := by
  pointwise [k0_pay1, k0_pay2, k0_pay3, k0_pay4, REF]
  simp only [neg_eq]
  blk_point [iblk, V, idx t]

/-- The array after the run is the reference's term. -/
theorem final (c : Dev nD) : (dats m 0 c).arrAt 9 (cfgs 0).N
    = REF (m ((c : Thread nD τ).loc main_arg0)) (m ((c : Thread nD τ).loc main_arg1)) (m ((c : Thread nD τ).loc main_arg2)) (m ((c
      : Thread nD τ).loc main_arg3)) (m ((c : Thread nD τ).loc main_arg4)) (m ((c : Thread nD τ).loc main_arg5)) (m ((c :
      Thread nD τ).loc main_arg6)) := by
  refine (dats m 0 c).arrAt_eq_of_covers 9 _ (by decide +kernel) fun t _ y => ?_
  blk_simp
  rw [after0_9]
  frame_out
  exact point m c t y

end Cert.MergeIdeal.Hand
-- ==== Proof.QkvValue.lean ====
module
public import proofs.«01_k».proof.Proof.Gen.QkvIdeal.Value
public import proofs.«01_k».proof.Proof.Gen.QkvRefIdeal.Run
public import Idealize.ShloMosaic.Lib.Pipeline.ValueKit

/-! The input projection of the queries, keys and values: the array the kernel leaves is the reference's term. -/

@[expose] public section
set_option maxRecDepth 16384
noncomputable section
namespace Cert.QkvIdeal.Hand
open Idealize.ShloMosaic Idealize.ShloMosaic.TcCoe Idealize.SL.Sem
open Idealize.ShloMosaic.Pipeline (Dat)
open Cert.QkvIdeal Cert.QkvIdeal.Gen

variable (m : (ℓ : Loc nD τ sig) → Buf (Elt Ideal) ℓ)

/-- The reference's term over the arguments. -/
abbrev REF (X : FVec Ideal S17408x2048 .bf16) (W : FVec Ideal S2048x11424 .f32) : FVec Ideal S17408x3072 .bf16 :=
    truncf .bf16 ((concatenate Cert.QkvRefIdeal.S17408x3072 1 [⟨Cert.QkvRefIdeal.S17408x1024, ((extractStridedSlice
      Cert.QkvRefIdeal.S17408x1024 ![0, 512] (Host.dotGeneral
      Cert.QkvRefIdeal.dot_S17408x2048_S2048x11424_S17408x11424_1_0_0_1_n_n none (extf .f32 X
      Cert.QkvRefIdeal.Gen.bitsLt_bf16_f32) W) Cert.QkvRefIdeal.Gen.slices_S17408x11424_S17408x1024_0_512) :
      (⟨Cert.QkvRefIdeal.S17408x1024, .f32⟩ : BufTy).Contents (Elt Ideal))⟩, ⟨Cert.QkvRefIdeal.S17408x1024,
      ((extractStridedSlice Cert.QkvRefIdeal.S17408x1024 ![0, 1536] (Host.dotGeneral
      Cert.QkvRefIdeal.dot_S17408x2048_S2048x11424_S17408x11424_1_0_0_1_n_n none (extf .f32 X
      Cert.QkvRefIdeal.Gen.bitsLt_bf16_f32) W) Cert.QkvRefIdeal.Gen.slices_S17408x11424_S17408x1024_0_1536) :
      (⟨Cert.QkvRefIdeal.S17408x1024, .f32⟩ : BufTy).Contents (Elt Ideal))⟩, ⟨Cert.QkvRefIdeal.S17408x1024,
      ((extractStridedSlice Cert.QkvRefIdeal.S17408x1024 ![0, 2560] (Host.dotGeneral
      Cert.QkvRefIdeal.dot_S17408x2048_S2048x11424_S17408x11424_1_0_0_1_n_n none (extf .f32 X
      Cert.QkvRefIdeal.Gen.bitsLt_bf16_f32) W) Cert.QkvRefIdeal.Gen.slices_S17408x11424_S17408x1024_0_2560) :
      (⟨Cert.QkvRefIdeal.S17408x1024, .f32⟩ : BufTy).Contents (Elt Ideal))⟩]
      Cert.QkvRefIdeal.Gen.concatenates_S17408x1024_S17408x1024_S17408x1024_S17408x3072_d1 : (⟨Cert.QkvRefIdeal.S17408x3072,
      .f32⟩ : BufTy).Contents (Elt Ideal))) Cert.QkvRefIdeal.Gen.bitsLt_bf16_f32

theorem idx : ∀ t : Fin cfg0.N, win0_0.index t = ![(grid0.coords t 0).val, 0]
    ∧ win0_1.index t = ![0, (grid0.coords t 1).val] ∧ win0_2.index t = ![(grid0.coords t 0).val, (grid0.coords t 1).val] :=
  (by decide +kernel : ∀ t : Fin grid0.N, _)

/-- The three slices laid side by side are the columns from 512 on. -/
theorem ref_at (X : FVec Ideal S17408x2048 .bf16) (W : FVec Ideal S2048x11424 .f32) (r : Fin 17408) (d : Fin 3072) :
    REF X W (ix2 r d) = ∑ k : Fin 2048, X (ix2 r k) * W (ix2 k ⟨512 + d.val, by omega⟩) := by
  pointwise [REF]
  split_ifs
  all_goals refine Finset.sum_congr rfl fun k _ => congrArg (fun a : Fin 11424 => X (ix2 r k) * W (ix2 k a)) (Fin.ext ?_)
  all_goals dsimp only
  all_goals omega

theorem point (c : Dev nD) (t : Fin cfg0.N) (y : S1088x768.Idx) :
    k0_pay1 (iblk m c 0 t) (iblk m c 1 t) y
      = REF (m ((c : Thread nD τ).loc main_arg0)) (m ((c : Thread nD τ).loc main_arg1)) (((cfg0.win 2).blk t).view.emb y) := by
  idx_vars y
  have l0 : (grid0.coords t 0).val < 16 := (grid0.coords t 0).isLt
  have l1 : (grid0.coords t 1).val < 4 := (grid0.coords t 1).isLt
  rw [show ((cfg0.win 2).blk t).view.emb (ix2 y0 y1) = ix2 ⟨(grid0.coords t 0).val * 1088 + y0.val, by omega⟩
    ⟨(grid0.coords t 1).val * 768 + y1.val, by omega⟩ by blk_ext [idx t]]
  rw [ref_at]
  pointwise [k0_pay1]
  blk_point [iblk, V, idx t]

/-- The array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.QkvIdeal.Hand
-- ==== Proof.PoolInValue.lean ====
module
public import proofs.«01_k».proof.Proof.Gen.PoolInIdeal.Value
public import proofs.«01_k».proof.Proof.Gen.PoolInRefIdeal.Run
public import Idealize.ShloMosaic.Lib.Pipeline.ValueKit

/-! The pool's input projection: the array the kernel leaves is the reference's term. -/

@[expose] public section
set_option maxRecDepth 16384
noncomputable section
namespace Cert.PoolInIdeal.Hand
open Idealize.ShloMosaic Idealize.ShloMosaic.TcCoe Idealize.SL.Sem
open Idealize.ShloMosaic.Pipeline (Dat)
open Cert.PoolInIdeal Cert.PoolInIdeal.Gen

variable (m : (ℓ : Loc nD τ sig) → Buf (Elt Ideal) ℓ)

/-- The reference's term over the arguments. -/
abbrev REF (X : FVec Ideal S17408x2048 .bf16) (W : FVec Ideal S2048x11424 .f32) : FVec Ideal S17408x512 .bf16 :=
    truncf .bf16 (extractStridedSlice Cert.PoolInRefIdeal.S17408x512 ![0, 0] (Host.dotGeneral
      Cert.PoolInRefIdeal.dot_S17408x2048_S2048x11424_S17408x11424_1_0_0_1_n_n none (extf .f32 X
      Cert.PoolInRefIdeal.Gen.bitsLt_bf16_f32) W) Cert.PoolInRefIdeal.Gen.slices_S17408x11424_S17408x512_0_0)
      Cert.PoolInRefIdeal.Gen.bitsLt_bf16_f32

theorem idx : ∀ t : Fin cfg0.N, win0_0.index t = ![(grid0.coords t 0).val, 0]
    ∧ win0_1.index t = ![0, (grid0.coords t 1).val] ∧ win0_2.index t = ![(grid0.coords t 0).val, (grid0.coords t 1).val] :=
  (by decide +kernel : ∀ t : Fin grid0.N, _)

theorem point (c : Dev nD) (t : Fin cfg0.N) (y : S1088x512.Idx) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- The array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.PoolInIdeal.Hand
-- ==== Proof.RwkvInValue.lean ====
module
public import proofs.«01_k».proof.Proof.Gen.RwkvInIdeal.Value
public import proofs.«01_k».proof.Proof.Gen.RwkvInRefIdeal.Run
public import Idealize.ShloMosaic.Lib.Pipeline.ValueKit

/-! The input projection of the recurrence: the array the kernel leaves is the reference's term. The kernel
    widens each low-rank part of the weight with zero columns; a product with such a column is zero. -/

@[expose] public section
set_option maxRecDepth 16384
noncomputable section
namespace Cert.RwkvInIdeal.Hand
open Idealize.ShloMosaic Idealize.ShloMosaic.TcCoe Idealize.SL.Sem
open Idealize.ShloMosaic.Pipeline (Dat)
open Cert.RwkvInIdeal Cert.RwkvInIdeal.Gen

variable (m : (ℓ : Loc nD τ sig) → Buf (Elt Ideal) ℓ)

/-- The reference's term over the arguments. -/
abbrev REF (X : FVec Ideal S17408x2048 .bf16) (W : FVec Ideal S2048x11424 .f32) : FVec Ideal S17408x1920 .f32 :=
    (concatenate Cert.RwkvInRefIdeal.S17408x1920 1 [⟨Cert.RwkvInRefIdeal.S17408x1536, ((extractStridedSlice
      Cert.RwkvInRefIdeal.S17408x1536 ![0, 0] (extractStridedSlice Cert.RwkvInRefIdeal.S17408x1696 ![0, 3584]
      (Host.dotGeneral Cert.RwkvInRefIdeal.dot_S17408x2048_S2048x11424_S17408x11424_1_0_0_1_n_n none (extf .f32 X
      Cert.RwkvInRefIdeal.Gen.bitsLt_bf16_f32) W) Cert.RwkvInRefIdeal.Gen.slices_S17408x11424_S17408x1696_0_3584)
      Cert.RwkvInRefIdeal.Gen.slices_S17408x1696_S17408x1536_0_0) : (⟨Cert.RwkvInRefIdeal.S17408x1536, .f32⟩ :
      BufTy).Contents (Elt Ideal))⟩, ⟨Cert.RwkvInRefIdeal.S17408x32, ((extractStridedSlice Cert.RwkvInRefIdeal.S17408x32
      ![0, 1536] (extractStridedSlice Cert.RwkvInRefIdeal.S17408x1696 ![0, 3584] (Host.dotGeneral
      Cert.RwkvInRefIdeal.dot_S17408x2048_S2048x11424_S17408x11424_1_0_0_1_n_n none (extf .f32 X
      Cert.RwkvInRefIdeal.Gen.bitsLt_bf16_f32) W) Cert.RwkvInRefIdeal.Gen.slices_S17408x11424_S17408x1696_0_3584)
      Cert.RwkvInRefIdeal.Gen.slices_S17408x1696_S17408x32_0_1536) : (⟨Cert.RwkvInRefIdeal.S17408x32, .f32⟩ :
      BufTy).Contents (Elt Ideal))⟩, ⟨Cert.RwkvInRefIdeal.S17408x96, ((broadcastInDim Cert.RwkvInRefIdeal.S17408x96 ![]
      Cert.RwkvInRefIdeal.Gen.bcast_S_S17408x96 (constant (F := Ideal) Cert.RwkvInRefIdeal.S_ .f32 0x00000000#32)) :
      (⟨Cert.RwkvInRefIdeal.S17408x96, .f32⟩ : BufTy).Contents (Elt Ideal))⟩, ⟨Cert.RwkvInRefIdeal.S17408x32,
      ((extractStridedSlice Cert.RwkvInRefIdeal.S17408x32 ![0, 1568] (extractStridedSlice
      Cert.RwkvInRefIdeal.S17408x1696 ![0, 3584] (Host.dotGeneral
      Cert.RwkvInRefIdeal.dot_S17408x2048_S2048x11424_S17408x11424_1_0_0_1_n_n none (extf .f32 X
      Cert.RwkvInRefIdeal.Gen.bitsLt_bf16_f32) W) Cert.RwkvInRefIdeal.Gen.slices_S17408x11424_S17408x1696_0_3584)
      Cert.RwkvInRefIdeal.Gen.slices_S17408x1696_S17408x32_0_1568) : (⟨Cert.RwkvInRefIdeal.S17408x32, .f32⟩ :
      BufTy).Contents (Elt Ideal))⟩, ⟨Cert.RwkvInRefIdeal.S17408x96, ((broadcastInDim Cert.RwkvInRefIdeal.S17408x96 ![]
      Cert.RwkvInRefIdeal.Gen.bcast_S_S17408x96 (constant (F := Ideal) Cert.RwkvInRefIdeal.S_ .f32 0x00000000#32)) :
      (⟨Cert.RwkvInRefIdeal.S17408x96, .f32⟩ : BufTy).Contents (Elt Ideal))⟩, ⟨Cert.RwkvInRefIdeal.S17408x96,
      ((extractStridedSlice Cert.RwkvInRefIdeal.S17408x96 ![0, 1600] (extractStridedSlice
      Cert.RwkvInRefIdeal.S17408x1696 ![0, 3584] (Host.dotGeneral
      Cert.RwkvInRefIdeal.dot_S17408x2048_S2048x11424_S17408x11424_1_0_0_1_n_n none (extf .f32 X
      Cert.RwkvInRefIdeal.Gen.bitsLt_bf16_f32) W) Cert.RwkvInRefIdeal.Gen.slices_S17408x11424_S17408x1696_0_3584)
      Cert.RwkvInRefIdeal.Gen.slices_S17408x1696_S17408x96_0_1600) : (⟨Cert.RwkvInRefIdeal.S17408x96, .f32⟩ :
      BufTy).Contents (Elt Ideal))⟩, ⟨Cert.RwkvInRefIdeal.S17408x32, ((extractStridedSlice Cert.RwkvInRefIdeal.S17408x32
      ![0, 0] (broadcastInDim Cert.RwkvInRefIdeal.S17408x96 ![] Cert.RwkvInRefIdeal.Gen.bcast_S_S17408x96 (constant (F := Ideal)
      Cert.RwkvInRefIdeal.S_ .f32 0x00000000#32)) Cert.RwkvInRefIdeal.Gen.slices_S17408x96_S17408x32_0_0) :
      (⟨Cert.RwkvInRefIdeal.S17408x32, .f32⟩ : BufTy).Contents (Elt Ideal))⟩]
      Cert.RwkvInRefIdeal.Gen.concatenates_S17408x1536_S17408x32_S17408x96_S17408x32_S17408x96_S17408x96_S17408x32_S17408x1920_d1
      : (⟨Cert.RwkvInRefIdeal.S17408x1920, .f32⟩ : BufTy).Contents (Elt Ideal))

/-- Columns 3584 to 5280 of a row, the three low-rank parts each followed by zeros up to 128 columns. -/
def spread (f : Fin 11424 → EReal) (d : Fin 1920) : EReal :=
  if h : d.val < 1568 then f ⟨3584 + d.val, by omega⟩
  else if d.val < 1664 then 0
  else if h : d.val < 1696 then f ⟨3488 + d.val, by omega⟩
  else if d.val < 1792 then 0
  else if h : d.val < 1888 then f ⟨3392 + d.val, by omega⟩
  else 0

/-- A row times the spread columns is the spread of the row's products. -/
theorem spread_sum (x : Fin 2048 → EReal) (w : Fin 2048 → Fin 11424 → EReal) (d : Fin 1920) :
    ∑ k, x k * spread (w k) d = spread (fun e => ∑ k, x k * w k e) d := by
  unfold spread
  split_ifs
  all_goals simp only [mul_zero, Finset.sum_const_zero]

theorem idx : ∀ t : Fin cfg0.N, win0_0.index t = ![(grid0.coords t 0).val, 0]
    ∧ win0_1.index t = ![0, (grid0.coords t 1).val] ∧ win0_2.index t = ![(grid0.coords t 0).val, (grid0.coords t 1).val] :=
  (by decide +kernel : ∀ t : Fin grid0.N, _)

/-- The reference's seven pieces side by side. -/
theorem spread_seven (f : Fin 11424 → EReal) (d : Fin 1920) :
    (if h : d.val < 1536 then f ⟨3584 + d.val, by omega⟩
    else if h : d.val - 1536 < 32 then f ⟨3584 + (1536 + (d.val - 1536)), by omega⟩
    else if d.val - 1536 - 32 < 96 then 0
    else if h : d.val - 1536 - 32 - 96 < 32 then f ⟨3584 + (1568 + (d.val - 1536 - 32 - 96)), by omega⟩
    else if d.val - 1536 - 32 - 96 - 32 < 96 then 0
    else if h : d.val - 1536 - 32 - 96 - 32 - 96 < 96 then
      f ⟨3584 + (1600 + (d.val - 1536 - 32 - 96 - 32 - 96)), by omega⟩
    else 0) = spread f d := by
  unfold spread
  repeat' split
  all_goals first
    | (exfalso; omega)
    | exact congrArg f (Fin.ext (by dsimp only; omega))
    | rfl

/-- The host's four pieces side by side, the last three padded. -/
theorem spread_four (f : Fin 11424 → EReal) (d : Fin 1920) :
    (if h : d.val < 1536 then f ⟨3584 + d.val, by omega⟩
    else if d.val - 1536 < 128 then
      if h : d.val - 1536 < 32 then f ⟨3584 + (1536 + (d.val - 1536)), by omega⟩ else 0
    else if d.val - 1536 - 128 < 128 then
      if h : d.val - 1536 - 128 < 32 then f ⟨3584 + (1568 + (d.val - 1536 - 128)), by omega⟩ else 0
    else if h : d.val - 1536 - 128 - 128 < 96 then f ⟨3584 + (1600 + (d.val - 1536 - 128 - 128)), by omega⟩
    else 0) = spread f d := by
  unfold spread
  repeat' split
  all_goals first
    | (exfalso; omega)
    | exact congrArg f (Fin.ext (by dsimp only; omega))
    | rfl

theorem ref_at (X : FVec Ideal S17408x2048 .bf16) (W : FVec Ideal S2048x11424 .f32) (r : Fin 17408) (d : Fin 1920) :
    REF X W (ix2 r d) = spread (fun e => ∑ k : Fin 2048, X (ix2 r k) * W (ix2 k e)) d := by
  pointwise [REF]
  exact spread_seven (fun e => ∑ k : Fin 2048, X (ix2 r k) * W (ix2 k e)) d

/-- The weight the host hands the kernel. -/
abbrev WIDE (W : FVec Ideal S2048x11424 .f32) : FVec Ideal S2048x1920 .bf16 :=
  truncf .bf16 (concatenate S2048x1920 1 [
    ⟨S2048x1536, (extractStridedSlice S2048x1536 ![0, 0] (extractStridedSlice S2048x1696 ![0, 3584] W
      slices_S2048x11424_S2048x1696_0_3584) slices_S2048x1696_S2048x1536_0_0 : FVec Ideal S2048x1536 .f32)⟩,
    ⟨S2048x128, (pad S2048x128 ![0, 0] ![0, 96] ![0, 0] (extractStridedSlice S2048x32 ![0, 1536] (extractStridedSlice
      S2048x1696 ![0, 3584] W slices_S2048x11424_S2048x1696_0_3584) slices_S2048x1696_S2048x32_0_1536)
      (sitofp .f32 (constantI S_ 32 0#32)) pads_S2048x32_S2048x128_000_0960 h_S_ : FVec Ideal S2048x128 .f32)⟩,
    ⟨S2048x128, (pad S2048x128 ![0, 0] ![0, 96] ![0, 0] (extractStridedSlice S2048x32 ![0, 1568] (extractStridedSlice
      S2048x1696 ![0, 3584] W slices_S2048x11424_S2048x1696_0_3584) slices_S2048x1696_S2048x32_0_1568)
      (sitofp .f32 (constantI S_ 32 0#32)) pads_S2048x32_S2048x128_000_0960 h_S_ : FVec Ideal S2048x128 .f32)⟩,
    ⟨S2048x128, (pad S2048x128 ![0, 0] ![0, 32] ![0, 0] (extractStridedSlice S2048x96 ![0, 1600] (extractStridedSlice
      S2048x1696 ![0, 3584] W slices_S2048x11424_S2048x1696_0_3584) slices_S2048x1696_S2048x96_0_1600)
      (sitofp .f32 (constantI S_ 32 0#32)) pads_S2048x96_S2048x128_000_0320 h_S_ : FVec Ideal S2048x128 .f32)⟩]
    concatenates_S2048x1536_S2048x128_S2048x128_S2048x128_S2048x1920_d1) bitsLt_bf16_f32

theorem weight (c : Dev nD) : V m c main_v9 = WIDE (m ((c : Thread nD τ).loc main_arg1)) := by
  show StableHlo.after _ (fun b => m (c, b)) (Proc.devRef .tc main_v9) = _
  simp only [hostOps0, hostOps0_1, hostOps0_2, hostOps0_3, hostOps0_4, hostOps0_5, hostOps0_6, List.flatten_cons,
    List.flatten_nil, List.append_nil, List.cons_append, List.nil_append]
  after_results_simp <;> rfl

theorem zero_int : FloatOps.sitofp (F := Ideal) FTy.f32 0#32 = 0 := by
  show (((0#32 : BitVec 32).toInt : ℝ) : EReal) = 0
  simp

theorem weight_at (c : Dev nD) (k : Fin 2048) (d : Fin 1920) :
    (V m c main_v9 : FVec Ideal S2048x1920 .bf16) (ix2 k d)
      = spread (fun e => (m ((c : Thread nD τ).loc main_arg1) : FVec Ideal S2048x11424 .f32) (ix2 k e)) d := by
  rw [weight]
  pointwise [WIDE, zero_int]
  exact spread_four (fun e => (m ((c : Thread nD τ).loc main_arg1) : FVec Ideal S2048x11424 .f32) (ix2 k e)) d

theorem pay1_at (x w) (r : Fin 1088) (d : Fin 640) :
    k0_pay1 (F := Ideal) x w (ix2 r d) = ∑ k : Fin 2048, x (ix2 r k) * w (ix2 k d) := by
  pointwise [k0_pay1]

theorem point (c : Dev nD) (t : Fin cfg0.N) (y : S1088x640.Idx) :
    k0_pay1 (iblk m c 0 t) (iblk m c 1 t) y
      = REF (m ((c : Thread nD τ).loc main_arg0)) (m ((c : Thread nD τ).loc main_arg1)) (((cfg0.win 2).blk t).view.emb y) := by
  idx_vars y
  have l0 : (grid0.coords t 0).val < 16 := (grid0.coords t 0).isLt
  have l1 : (grid0.coords t 1).val < 3 := (grid0.coords t 1).isLt
  rw [show ((cfg0.win 2).blk t).view.emb (ix2 y0 y1) = ix2 ⟨(grid0.coords t 0).val * 1088 + y0.val, by omega⟩
    ⟨(grid0.coords t 1).val * 640 + y1.val, by omega⟩ by blk_ext [idx t]]
  rw [ref_at, ← spread_sum, pay1_at]
  refine Finset.sum_congr rfl fun k _ => congrArg₂ (· * ·) ?_ ?_
  · blk_point [iblk, V, idx t]
  · rw [← weight_at m c]
    show (V m c main_v9 : FVec Ideal S2048x1920 .bf16) (((cfg0.win 1).blk t).view.emb (ix2 k y1)) = _
    refine congrArg _ ?_
    blk_ext [idx t]

/-- The array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.RwkvInIdeal.Hand
-- ==== Proof.RmsValue.lean ====
module
public import proofs.«01_k».proof.Proof.Gen.RmsIdeal.Value
public import proofs.«01_k».proof.Proof.Gen.RmsRefIdeal.Run
public import proofs.«01_k».proof.Proof.ResNorm
public import Idealize.ShloMosaic.Lib.Pipeline.ValueKit

/-! The norm before the first layer: the array the kernel leaves is the reference's term. -/

@[expose] public section
set_option maxRecDepth 16384
noncomputable section
namespace Cert.RmsIdeal.Hand
open Idealize.ShloMosaic Idealize.ShloMosaic.TcCoe Idealize.SL.Sem
open Idealize.ShloMosaic.Pipeline (Dat)
open Cert.RmsIdeal Cert.RmsIdeal.Gen

variable (m : (ℓ : Loc nD τ sig) → Buf (Elt Ideal) ℓ)

/-- The reference's term over the arguments. -/
abbrev REF (X : FVec Ideal S17408x2048 .f32) (g : FVec Ideal S2048 .f32) : FVec Ideal S17408x2048 .bf16 :=
  truncf .bf16 (Cert.ResNorm.RMS X g) Cert.RmsRefIdeal.Gen.bitsLt_bf16_f32

theorem idx : ∀ t : Fin cfg0.N, win0_0.index t = ![(grid0.coords t 0).val, 0]
    ∧ win0_1.index t = ![0, 0] ∧ win0_2.index t = ![(grid0.coords t 0).val, 0] :=
  (by decide +kernel : ∀ t : Fin grid0.N, _)

theorem pay1_at (x g) (r : Fin 544) (d : Fin 2048) : k0_pay1 (F := Ideal) x g (ix2 r d)
    = Cert.ResNorm.nrm (fun e => x (ix2 r e)) (g (ix2 0 d)) d := by
  pointwise [k0_pay1, Cert.ResNorm.nrm]

theorem point (c : Dev nD) (t : Fin cfg0.N) (y : S544x2048.Idx) :
    k0_pay1 (iblk m c 0 t) (iblk m c 1 t) y
      = REF (m ((c : Thread nD τ).loc main_arg0)) (m ((c : Thread nD τ).loc main_arg1)) (((cfg0.win 2).blk t).view.emb y) := by
  idx_vars y
  have l0 : (grid0.coords t 0).val < 32 := (grid0.coords t 0).isLt
  rw [show ((cfg0.win 2).blk t).view.emb (ix2 y0 y1) = ix2 ⟨(grid0.coords t 0).val * 544 + y0.val, by omega⟩ y1
    by blk_ext [idx t]]
  refine Eq.trans ?_ (Cert.ResNorm.rms_at _ _ _ _).symm
  rw [pay1_at]
  have hx : ∀ e : Fin 2048, (iblk m c 0 t : Vec Ideal S544x2048 .f32) (ix2 y0 e)
      = (m ((c : Thread nD τ).loc main_arg0) : Vec Ideal S17408x2048 .f32)
        (ix2 ⟨(grid0.coords t 0).val * 544 + y0.val, by omega⟩ e) := fun e => by
    blk_point [iblk, V, idx t]
  have hg : (iblk m c 1 t : Vec Ideal S1x2048 .f32) (ix2 0 y1)
      = (m ((c : Thread nD τ).loc main_arg1) : Vec Ideal S2048 .f32) (ix1 y1) := by
    blk_point [iblk, V, idx t]
  rw [funext hx, hg]

/-- The array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.RmsIdeal.Hand
-- ==== Proof.MixSum.lean ====
module
public import Idealize.ShloMosaic.Lib.Pipeline.ValueKit
public import Idealize.ShloMosaic.Lib.WordArith

/-! Sums over a trailing window of a sequence: twice the width is the sum of the window's own sum and of the same sum
    as many positions earlier; and a product with the window's indicator is the window's sum. -/

@[expose] public section
set_option maxRecDepth 16384
noncomputable section
namespace Cert.MixIdeal.Hand
open Idealize.ShloMosaic Idealize.ShloMosaic.TcCoe Idealize.SL.Sem

/-- A sequence moved `d` positions on, zero before its start. -/
def shift (d : ℕ) (f : Fin 2176 → EReal) (r : Fin 2176) : EReal :=
  if h : d ≤ r.val then f ⟨r.val - d, by omega⟩ else 0

/-- The sum over the last `n` positions up to `r`. -/
def trail (n : ℕ) (f : Fin 2176 → EReal) (r : Fin 2176) : EReal :=
  ∑ i : Fin 2176, if i.val ≤ r.val ∧ r.val < i.val + n then f i else 0

theorem trail_one (f : Fin 2176 → EReal) : trail 1 f = f := by
  funext r
  unfold trail
  rw [Finset.sum_eq_single r (fun i _ hi => if_neg fun h => hi (Fin.ext (by omega))) (fun h => absurd (Finset.mem_univ r) h)]
  exact if_pos (by omega)

theorem trail_double (d : ℕ) (f : Fin 2176 → EReal) (r : Fin 2176) :
    trail d f r + shift d (trail d f) r = trail (d + d) f r := by
  unfold shift trail
  split
  · rw [← Finset.sum_add_distrib]
    refine Finset.sum_congr rfl fun i _ => ?_
    dsimp only
    by_cases h1 : i.val ≤ r.val ∧ r.val < i.val + d
    · rw [if_pos h1, if_neg (by omega), if_pos (by omega), add_zero]
    · by_cases h2 : i.val ≤ r.val - d ∧ r.val - d < i.val + d
      · rw [if_neg h1, if_pos h2, if_pos (by omega), zero_add]
      · rw [if_neg h1, if_neg h2, if_neg (by omega), zero_add]
  · rw [add_zero]
    refine Finset.sum_congr rfl fun i _ => ?_
    by_cases h1 : i.val ≤ r.val ∧ r.val < i.val + d
    · rw [if_pos h1, if_pos (by omega)]
    · rw [if_neg h1, if_neg (by omega)]

/-- A rotation whose wrapped rows are set to zero. -/
theorem rotate (d : ℕ) (hd : d < 2176) (f : Fin 2176 → EReal) (r : Fin 2176) (h : (r.val + 2176 - d) % 2176 < 2176) :
    Scalar.select (IntOp.cmpi .sge (BitVec.ofNat 32 r.val) (BitVec.ofNat 32 d)) (f ⟨(r.val + 2176 - d) % 2176, h⟩) 0
      = shift d f r := by
  have e : IntOp.cmpi .sge (BitVec.ofNat 32 r.val) (BitVec.ofNat 32 d) = BitVec.ofBool (decide (d ≤ r.val)) := by
    show BitVec.ofBool (decide ((BitVec.ofNat 32 d).toInt ≤ (BitVec.ofNat 32 r.val).toInt)) = _
    rw [WordArith.toInt_ofNat_small d (by omega), WordArith.toInt_ofNat_small r.val (by omega)]
    simp only [Nat.cast_le]
  rw [e]
  unfold shift
  by_cases hr : d ≤ r.val
  · rw [dif_pos hr, decide_eq_true hr]
    have hm : (r.val + 2176 - d) % 2176 = r.val - d := by have := r.isLt; omega
    simp only [hm]
    rfl
  · rw [dif_neg hr, decide_eq_false hr]
    rfl

/-- One step of the kernel: a sequence plus itself `d` positions earlier, by a rotation. -/
def step (d : ℕ) (f : Fin 2176 → EReal) (r : Fin 2176) : EReal :=
  f r + Scalar.select (IntOp.cmpi .sge (BitVec.ofNat 32 r.val) (BitVec.ofNat 32 d))
    (f ⟨(r.val + 2176 - d) % 2176, Nat.mod_lt _ (by decide)⟩) 0

theorem step_trail (d : ℕ) (hd : d < 2176) (f : Fin 2176 → EReal) : step d (trail d f) = trail (d + d) f :=
  funext fun r => by rw [step, rotate d hd, trail_double]

theorem two_eq (f : Fin 2176 → EReal) : step 1 f = trail 2 f := by
  rw [← step_trail 1 (by decide), trail_one]

theorem four_eq (f : Fin 2176 → EReal) : step 2 (step 1 f) = trail 4 f := by
  rw [two_eq, step_trail 2 (by decide)]

theorem eight_eq (f : Fin 2176 → EReal) : step 4 (step 2 (step 1 f)) = trail 8 f := by
  rw [four_eq, step_trail 4 (by decide)]

theorem sixteen_eq (f : Fin 2176 → EReal) : step 8 (step 4 (step 2 (step 1 f))) = trail 16 f := by
  rw [eight_eq, step_trail 8 (by decide)]

/-- The number of positions the window of `n` holds at `r`, as the programs write it. -/
def count (n : ℕ) (r : Fin 2176) : EReal :=
  FloatOps.sitofp (F := Ideal) .f32 (IntOp.minsi (IntOp.addi (BitVec.ofNat 32 r.val) 1#32) (BitVec.ofNat 32 n))

/-- The mean over the window less the value, mixed over one group's channels and scaled; `t` are the window's sums. -/
def blend (n : ℕ) (t f : Fin 128 → Fin 2176 → EReal) (w : Fin 128 → EReal) (s : EReal) (r : Fin 2176) : EReal :=
  (∑ k, (Ideal.div (t k r) (count n r) - f k r) * w k) * s

/-- The same with the sums of the window of `n`. -/
def mixed (n : ℕ) (f : Fin 128 → Fin 2176 → EReal) (w : Fin 128 → EReal) (s : EReal) (r : Fin 2176) : EReal :=
  blend n (fun k => trail n (f k)) f w s r

/-- The window's indicator, as the host writes it. -/
theorem inside (n : ℕ) (hn : n < 2176) (i r : Fin 2176) :
    IntOp.andi (IntOp.cmpi .sle (BitVec.ofNat 32 i.val) (BitVec.ofNat 32 r.val))
      (IntOp.cmpi .sgt (BitVec.ofNat 32 i.val) (BitVec.ofNat 32 r.val - BitVec.ofNat 32 n))
      = BitVec.ofBool (decide (i.val ≤ r.val ∧ r.val < i.val + n)) := by
  have h1 : IntOp.cmpi .sle (BitVec.ofNat 32 i.val) (BitVec.ofNat 32 r.val) = BitVec.ofBool (decide (i.val ≤ r.val)) := by
    show BitVec.ofBool (decide ((BitVec.ofNat 32 i.val).toInt ≤ (BitVec.ofNat 32 r.val).toInt)) = _
    rw [WordArith.toInt_ofNat_small i.val (by omega), WordArith.toInt_ofNat_small r.val (by omega)]
    simp only [Nat.cast_le]
  have h2 : IntOp.cmpi .sgt (BitVec.ofNat 32 i.val) (BitVec.ofNat 32 r.val - BitVec.ofNat 32 n)
      = BitVec.ofBool (decide (r.val < i.val + n)) := by
    show BitVec.ofBool (decide ((BitVec.ofNat 32 r.val - BitVec.ofNat 32 n).toInt < (BitVec.ofNat 32 i.val).toInt)) = _
    have hr := WordArith.toInt_ofNat_small r.val (by omega)
    have hw := WordArith.toInt_ofNat_small n (by omega)
    rw [WordArith.toInt_sub_of_bounds _ _ (by omega) (by omega), WordArith.toInt_ofNat_small i.val (by omega), hr, hw]
    refine congrArg _ (decide_eq_decide.mpr ?_)
    omega
  rw [h1, h2, WordArith.andi_ofBool, Bool.decide_and]

theorem weigh (n : ℕ) (hn : n < 2176) (f : Fin 2176 → EReal) (r : Fin 2176) :
    ∑ i : Fin 2176, f i * FloatOps.uitofp (F := Ideal) .f32
      (IntOp.andi (IntOp.cmpi .sle (BitVec.ofNat 32 i.val) (BitVec.ofNat 32 r.val))
        (IntOp.cmpi .sgt (BitVec.ofNat 32 i.val) (BitVec.ofNat 32 r.val - BitVec.ofNat 32 n)))
      = trail n f r := by
  refine Finset.sum_congr rfl fun i _ => ?_
  rw [inside n hn]
  by_cases h : i.val ≤ r.val ∧ r.val < i.val + n
  · rw [if_pos h, decide_eq_true h]
    refine Eq.trans (congrArg (f i * ·) ?_) (mul_one _)
    show (((BitVec.ofBool true).toNat : ℝ) : EReal) = 1
    simp
  · rw [if_neg h, decide_eq_false h]
    refine Eq.trans (congrArg (f i * ·) ?_) (mul_zero _)
    show (((BitVec.ofBool false).toNat : ℝ) : EReal) = 0
    simp

/-- The reference's form of the same value, the window's width as a word. -/
def host (n : BitVec 32) (f : Fin 128 → Fin 2176 → EReal) (w : Fin 128 → EReal) (s : EReal) (r : Fin 2176) : EReal :=
  (∑ k, w k * (Ideal.div (∑ i : Fin 2176, f k i * FloatOps.uitofp (F := Ideal) .f32
    (IntOp.andi (IntOp.cmpi .sle (BitVec.ofNat 32 i.val) (BitVec.ofNat 32 r.val))
      (IntOp.cmpi .sgt (BitVec.ofNat 32 i.val) (IntOp.subi (BitVec.ofNat 32 r.val) n))))
    (FloatOps.sitofp (F := Ideal) .f32 (IntOp.minsi (IntOp.addi (BitVec.ofNat 32 r.val) 1#32) n)) - f k r)) * s

theorem host_eq (n : ℕ) (hn : n < 2176) (f : Fin 128 → Fin 2176 → EReal) (w : Fin 128 → EReal) (s : EReal) (r : Fin 2176) :
    host (BitVec.ofNat 32 n) f w s r = mixed n f w s r := by
  unfold host mixed blend
  refine congrArg (· * s) (Finset.sum_congr rfl fun k _ => ?_)
  dsimp only
  rw [mul_comm, ← weigh n hn (f k) r]
  rfl

end Cert.MixIdeal.Hand
-- ==== Proof.MixValue.lean ====
module
public import proofs.«01_k».proof.Proof.Gen.MixIdeal.Value
public import proofs.«01_k».proof.Proof.Gen.MixRefIdeal.Run
public import proofs.«01_k».proof.Proof.MixSum
public import Idealize.ShloMosaic.Lib.Pipeline.ValueKit

/-! The pool's trailing means: the array the kernel leaves is the reference's term. -/

@[expose] public section
set_option maxRecDepth 16384
noncomputable section
namespace Cert.MixIdeal.Hand
open Idealize.ShloMosaic Idealize.ShloMosaic.TcCoe Idealize.SL.Sem
open Idealize.ShloMosaic.Pipeline (Dat)
open Cert.MixIdeal Cert.MixIdeal.Gen

variable (m : (ℓ : Loc nD τ sig) → Buf (Elt Ideal) ℓ)

/-- The reference's term over the arguments. -/
abbrev REF (X : FVec Ideal S17408x512 .bf16) (W : FVec Ideal S4x128x128 .f32) (s : FVec Ideal S512 .f32) :
    FVec Ideal S8x2176x512 .bf16 :=
    truncf .bf16 (mulf (shapeCast _ (transpose Cert.MixRefIdeal.S8x2176x4x128 [2, 3, 0, 1] (Host.dotGeneral
      Cert.MixRefIdeal.dot_S4x128x128_S8x2176x4x128_S4x128x8x2176_1_3_2_01_0_2 none W (subf (Host.divf (transpose
      Cert.MixRefIdeal.S8x2176x4x128 [1, 3, 0, 2] (Host.dotGeneral
      Cert.MixRefIdeal.dot_S8x2176x4x128_S4x2176x2176_S4x8x128x2176_1_2_03_1_2_0 none (shapeCast _ (extf .f32 X
      Cert.MixRefIdeal.Gen.bitsLt_bf16_f32) Cert.MixRefIdeal.Gen.shapeCasts_S17408x512_S8x2176x4x128) (uitofp .f32 (andi
      (broadcastInDim Cert.MixRefIdeal.S4x2176x2176 ![0, 1, 2]
      Cert.MixRefIdeal.Gen.bcast_S1x2176x2176_S4x2176x2176_0_1_2 (broadcastInDim Cert.MixRefIdeal.S1x2176x2176 ![1, 2]
      Cert.MixRefIdeal.Gen.bcast_S2176x2176_S1x2176x2176_1_2 (cmpi .sle (broadcastInDim Cert.MixRefIdeal.S2176x2176 ![0,
      1] Cert.MixRefIdeal.Gen.bcast_S1x2176_S2176x2176_0_1 (broadcastInDim Cert.MixRefIdeal.S1x2176 ![1]
      Cert.MixRefIdeal.Gen.bcast_S2176_S1x2176_1 (iotaInDim Cert.MixRefIdeal.S2176 32 0))) (broadcastInDim
      Cert.MixRefIdeal.S2176x2176 ![0, 1] Cert.MixRefIdeal.Gen.bcast_S2176x1_S2176x2176_0_1 (broadcastInDim
      Cert.MixRefIdeal.S2176x1 ![0] Cert.MixRefIdeal.Gen.bcast_S2176_S2176x1_0 (iotaInDim Cert.MixRefIdeal.S2176 32
      0)))))) (cmpi .sgt (broadcastInDim Cert.MixRefIdeal.S4x2176x2176 ![0, 1, 2]
      Cert.MixRefIdeal.Gen.bcast_S1x1x2176_S4x2176x2176_0_1_2 (broadcastInDim Cert.MixRefIdeal.S1x1x2176 ![2]
      Cert.MixRefIdeal.Gen.bcast_S2176_S1x1x2176_2 (iotaInDim Cert.MixRefIdeal.S2176 32 0))) (broadcastInDim
      Cert.MixRefIdeal.S4x2176x2176 ![0, 1, 2] Cert.MixRefIdeal.Gen.bcast_S4x2176x1_S4x2176x2176_0_1_2 (subi
      (broadcastInDim Cert.MixRefIdeal.S4x2176x1 ![0, 1, 2] Cert.MixRefIdeal.Gen.bcast_S1x2176x1_S4x2176x1_0_1_2
      (broadcastInDim Cert.MixRefIdeal.S1x2176x1 ![1, 2] Cert.MixRefIdeal.Gen.bcast_S2176x1_S1x2176x1_1_2
      (broadcastInDim Cert.MixRefIdeal.S2176x1 ![0] Cert.MixRefIdeal.Gen.bcast_S2176_S2176x1_0 (iotaInDim
      Cert.MixRefIdeal.S2176 32 0)))) (broadcastInDim Cert.MixRefIdeal.S4x2176x1 ![0, 1, 2]
      Cert.MixRefIdeal.Gen.bcast_S4x1x1_S4x2176x1_0_1_2 (broadcastInDim Cert.MixRefIdeal.S4x1x1 ![0]
      Cert.MixRefIdeal.Gen.bcast_S4_S4x1x1_0 ((fun i => Cert.MixRefIdeal.lit0 (Cert.MixRefIdeal.S4.rowMajor i)))))))))))
      Cert.MixRefIdeal.Gen.transposes_S4x8x128x2176_S8x2176x4x128_1_3_0_2) (broadcastInDim
      Cert.MixRefIdeal.S8x2176x4x128 ![0, 1, 2, 3] Cert.MixRefIdeal.Gen.bcast_S1x2176x4x1_S8x2176x4x128_0_1_2_3
      (broadcastInDim Cert.MixRefIdeal.S1x2176x4x1 ![1, 2, 3] Cert.MixRefIdeal.Gen.bcast_S2176x4x1_S1x2176x4x1_1_2_3
      (broadcastInDim Cert.MixRefIdeal.S2176x4x1 ![0, 1] Cert.MixRefIdeal.Gen.bcast_S2176x4_S2176x4x1_0_1 (sitofp .f32
      (minsi (broadcastInDim Cert.MixRefIdeal.S2176x4 ![0, 1] Cert.MixRefIdeal.Gen.bcast_S2176x1_S2176x4_0_1 (addi
      (broadcastInDim Cert.MixRefIdeal.S2176x1 ![0] Cert.MixRefIdeal.Gen.bcast_S2176_S2176x1_0 (iotaInDim
      Cert.MixRefIdeal.S2176 32 0)) (broadcastInDim Cert.MixRefIdeal.S2176x1 ![] Cert.MixRefIdeal.Gen.bcast_S_S2176x1
      (constantI Cert.MixRefIdeal.S_ 32 1#32)))) (broadcastInDim Cert.MixRefIdeal.S2176x4 ![0, 1]
      Cert.MixRefIdeal.Gen.bcast_S1x4_S2176x4_0_1 (broadcastInDim Cert.MixRefIdeal.S1x4 ![1]
      Cert.MixRefIdeal.Gen.bcast_S4_S1x4_1 ((fun i => Cert.MixRefIdeal.lit0 (Cert.MixRefIdeal.S4.rowMajor i)))))))))))
      (shapeCast _ (extf .f32 X Cert.MixRefIdeal.Gen.bitsLt_bf16_f32)
      Cert.MixRefIdeal.Gen.shapeCasts_S17408x512_S8x2176x4x128)))
      Cert.MixRefIdeal.Gen.transposes_S4x128x8x2176_S8x2176x4x128_2_3_0_1)
      Cert.MixRefIdeal.Gen.shapeCasts_S8x2176x4x128_S8x2176x512) (broadcastInDim Cert.MixRefIdeal.S8x2176x512 ![0, 1, 2]
      Cert.MixRefIdeal.Gen.bcast_S1x1x512_S8x2176x512_0_1_2 (broadcastInDim Cert.MixRefIdeal.S1x1x512 ![2]
      Cert.MixRefIdeal.Gen.bcast_S512_S1x1x512_2 s))) Cert.MixRefIdeal.Gen.bitsLt_bf16_f32

/-- One step of the kernel over a whole block: the block plus itself rotated, its wrapped rows set to zero. -/
abbrev STEP (d : BitVec 32) (v : FVec Ideal S2176x128 .f32) : FVec Ideal S2176x128 .f32 :=
  addf v (select (cmpi .sge (iota .tc S2176x128 32 [0] iota_S2176x128_d0_w32) (broadcast S2176x128 d))
    (dynamicRotate 0 d none v rotates_S2176x128_d0) (broadcast S2176x128 (Scalar.ofBits (F := Ideal) .f32 0x00000000#32)))

/-- The end of a group: the window's sums `t` and the loaded values `f` to the stored block. -/
abbrev DONE (n : BitVec 32) (t f : FVec Ideal S2176x128 .f32) (w : Vec Ideal S1x128x128 .bf16) (s : Vec Ideal S1x128 .f32) :
    FVec Ideal S1x2176x128 .bf16 :=
  shapeCast S1x2176x128 (truncf .bf16 (mulf (matmul dot_S2176x128_S128x128_S2176x128_1_0_0_1_n_n none
    (truncf .bf16 (subf (divf t (sitofp .f32 (minsi (addi (iota .tc S2176x128 32 [0] iota_S2176x128_d0_w32)
      (broadcast S2176x128 1#32)) (broadcast S2176x128 n)))) f) bitsLt_bf16_f32)
    (shapeCast S128x128 w shapeCasts_S1x128x128_S128x128 : FVec Ideal S128x128 .bf16) (constant S2176x128 .f32 0x00000000#32))
    (broadcastTo S2176x128 (shapeCast S1x128 s shapeCasts_S1x128_S1x128 : FVec Ideal S1x128 .f32)
      broadcasts_S1x128_S2176x128)) bitsLt_bf16_f32) shapeCasts_S2176x128_S1x2176x128

/-- A group's loaded block. -/
abbrev LOAD (x : Vec Ideal S1x2176x128 .bf16) : FVec Ideal S2176x128 .f32 :=
  extf .f32 (shapeCast S2176x128 x shapeCasts_S1x2176x128_S2176x128 : FVec Ideal S2176x128 .bf16) bitsLt_bf16_f32

/-- A block's columns as sequences. -/
def cols (v : FVec Ideal S2176x128 .f32) (k : Fin 128) (i : Fin 2176) : EReal := v (ix2 i k)

theorem step_at (v : FVec Ideal S2176x128 .f32) (k : Fin 128) :
    cols (STEP 1#32 v) k = step 1 (cols v k) ∧ cols (STEP 2#32 v) k = step 2 (cols v k)
      ∧ cols (STEP 4#32 v) k = step 4 (cols v k) ∧ cols (STEP 8#32 v) k = step 8 (cols v k) := by
  refine ⟨?_, ?_, ?_, ?_⟩ <;>
  · funext r
    unfold cols
    pointwise [STEP]
    rfl

theorem load_at (x : Vec Ideal S1x2176x128 .bf16) (k : Fin 128) : cols (LOAD x) k = fun i => x (ix3 0 i k) := by
  funext i
  unfold cols
  pointwise [LOAD]

theorem done_at (n : ℕ) (t f w s) (r : Fin 2176) (j : Fin 128) : DONE (BitVec.ofNat 32 n) t f w s (ix3 0 r j)
    = blend n (cols t) (cols f) (fun k => w (ix3 0 k j)) (s (ix2 0 j)) r := by
  pointwise [DONE]
  rfl

section Payloads
variable (x : Vec Ideal S1x2176x128 .bf16) (w : Vec Ideal S1x128x128 .bf16) (s : Vec Ideal S1x128 .f32)
  (r : Fin 2176) (j : Fin 128)

/-- The first group's stored block. -/
abbrev A0 : FVec Ideal S1x2176x128 .bf16 := k0_pay2 (F := Ideal) x w s
/-- The second group's stored block. -/
abbrev A1 : FVec Ideal S1x2176x128 .bf16 :=
  k0_pay5 (F := Ideal) (iota .tc S2176x128 32 [0] iota_S2176x128_d0_w32) (k0_pay3 (F := Ideal) x) k0_pay4 1#32 w s
/-- The third group's stored block. -/
abbrev A2 : FVec Ideal S1x2176x128 .bf16 :=
  k0_pay10 (F := Ideal) (iota .tc S2176x128 32 [0] iota_S2176x128_d0_w32) (k0_pay6 (F := Ideal) x) k0_pay7
    (k0_pay8 (F := Ideal) x) (k0_pay9 (F := Ideal)) w s
/-- The fourth group's stored block. -/
abbrev A3 : FVec Ideal S1x2176x128 .bf16 :=
  k0_pay1 (F := Ideal) (k0_pay12 (F := Ideal) (iota .tc S2176x128 32 [0] iota_S2176x128_d0_w32) (k0_pay11 (F := Ideal) x)
    (iota .tc S2176x128 32 [0] iota_S2176x128_d0_w32) w) (k0_pay13 (F := Ideal) s)

theorem at0 : A0 x w s (ix3 0 r j)
    = mixed 2 (fun k i => x (ix3 0 i k)) (fun k => w (ix3 0 k j)) (s (ix2 0 j)) r := by
  show DONE 2#32 (STEP 1#32 (LOAD x)) (LOAD x) w s (ix3 0 r j) = _
  rw [done_at, mixed]
  simp only [funext fun k => (step_at (LOAD x) k).1, funext (load_at x), two_eq]

theorem at1 : A1 x w s (ix3 0 r j)
    = mixed 4 (fun k i => x (ix3 0 i k)) (fun k => w (ix3 0 k j)) (s (ix2 0 j)) r := by
  show DONE 4#32 (STEP 2#32 (STEP 1#32 (LOAD x))) (LOAD x) w s (ix3 0 r j) = _
  rw [done_at, mixed, funext fun k => (step_at (STEP 1#32 (LOAD x)) k).2.1]
  simp only [(step_at (LOAD x) _).1, funext (load_at x), four_eq]

theorem at2 : A2 x w s (ix3 0 r j)
    = mixed 8 (fun k i => x (ix3 0 i k)) (fun k => w (ix3 0 k j)) (s (ix2 0 j)) r := by
  show DONE 8#32 (STEP 4#32 (STEP 2#32 (STEP 1#32 (LOAD x)))) (LOAD x) w s (ix3 0 r j) = _
  rw [done_at, mixed, funext fun k => (step_at (STEP 2#32 (STEP 1#32 (LOAD x))) k).2.2.1]
  simp only [(step_at (STEP 1#32 (LOAD x)) _).2.1, (step_at (LOAD x) _).1, funext (load_at x), eight_eq]

theorem at3 : A3 x w s (ix3 0 r j)
    = mixed 16 (fun k i => x (ix3 0 i k)) (fun k => w (ix3 0 k j)) (s (ix2 0 j)) r := by
  show DONE 16#32 (STEP 8#32 (STEP 4#32 (STEP 2#32 (STEP 1#32 (LOAD x))))) (LOAD x) w s (ix3 0 r j) = _
  rw [done_at, mixed, funext fun k => (step_at (STEP 4#32 (STEP 2#32 (STEP 1#32 (LOAD x)))) k).2.2.2]
  simp only [(step_at (STEP 2#32 (STEP 1#32 (LOAD x))) _).2.2.1, (step_at (STEP 1#32 (LOAD x)) _).2.1,
    (step_at (LOAD x) _).1, funext (load_at x), sixteen_eq]
end Payloads

/-- The windows of the four groups. -/
def win : Fin 4 → ℕ := ![2, 4, 8, 16]

theorem win_word : ∀ g : Fin 4, Cert.MixRefIdeal.lit0 (Cert.MixRefIdeal.S4.rowMajor (ix1 g)) = BitVec.ofNat 32 (win g) := by
  decide +kernel

theorem win_lt : ∀ g : Fin 4, win g < 2176 := by decide

theorem ref_at (X : FVec Ideal S17408x512 .bf16) (W : FVec Ideal S4x128x128 .f32) (s : FVec Ideal S512 .f32)
    (b : Fin 8) (r : Fin 2176) (j : Fin 512) : REF X W s (ix3 b r j)
      = mixed (win ⟨j.val / 128, by omega⟩) (fun k i => X (ix2 ⟨b.val * 2176 + i.val, by omega⟩ ⟨j.val / 128 * 128 + k.val, by omega⟩))
        (fun k => W (ix3 ⟨j.val / 128, by omega⟩ k ⟨j.val % 128, by omega⟩)) (s (ix1 j)) r := by
  pointwise [REF]
  show host (Cert.MixRefIdeal.lit0 (Cert.MixRefIdeal.S4.rowMajor (ix1 ⟨j.val / 128, by omega⟩)))
    (fun k i => X (ix2 ⟨b.val * 2176 + i.val, by omega⟩ ⟨j.val / 128 * 128 + k.val, by omega⟩))
    (fun k => W (ix3 ⟨j.val / 128, by omega⟩ k ⟨j.val % 128, by omega⟩)) (s (ix1 j)) r = _
  rw [win_word, host_eq _ (win_lt _)]

theorem idx : ∀ t : Fin cfg0.N, win0_0.index t = ![(grid0.coords t 0).val, 0, 0] ∧ win0_1.index t = ![0, 0, 0]
    ∧ win0_2.index t = ![0, 0] ∧ win0_3.index t = ![(grid0.coords t 0).val, 0, 0] :=
  (by decide +kernel : ∀ t : Fin grid0.N, _)

theorem block_x (c : Dev nD) (t : Fin cfg0.N) (i : Fin 2176) (k : Fin 512) (h : (grid0.coords t 0).val < 8) :
    (iblk m c 0 t : Vec Ideal S1x2176x512 .bf16) (ix3 0 i k) = (m ((c : Thread nD τ).loc main_arg0) : Vec Ideal S17408x512 .bf16)
      (ix2 ⟨(grid0.coords t 0).val * 2176 + i.val, by omega⟩ k) := by
  blk_point [iblk, V, idx t]

theorem block_w (c : Dev nD) (t : Fin cfg0.N) (g : Fin 4) (k j : Fin 128) :
    (iblk m c 1 t : Vec Ideal S4x128x128 .bf16) (ix3 g k j)
      = (m ((c : Thread nD τ).loc main_arg1) : Vec Ideal S4x128x128 .f32) (ix3 g k j) := by
  blk_point [iblk, V, idx t]

theorem block_s (c : Dev nD) (t : Fin cfg0.N) (j : Fin 512) :
    (iblk m c 2 t : Vec Ideal S1x512 .f32) (ix2 0 j) = (m ((c : Thread nD τ).loc main_arg2) : Vec Ideal S512 .f32) (ix1 j) := by
  blk_point [iblk, V, idx t]

/-- Group `g`'s columns of a point's value, from blocks that hold the group's part of the arguments. -/
theorem group (c : Dev nD) (t : Fin cfg0.N) (h : (grid0.coords t 0).val < 8) (g : Fin 4) (j : Fin 128) (r r' : Fin 2176)
    (d : Fin 512) {x : Vec Ideal S1x2176x128 .bf16} {w : Vec Ideal S1x128x128 .bf16} {s : Vec Ideal S1x128 .f32}
    (hr : r'.val = 0 + r.val) (hd : d.val = g.val * 128 + j.val)
    (hx : ∀ i k, x (ix3 0 i k) = (iblk m c 0 t : Vec Ideal S1x2176x512 .bf16) (ix3 0 i ⟨g.val * 128 + k.val, by omega⟩))
    (hw : ∀ k, w (ix3 0 k j) = (iblk m c 1 t : Vec Ideal S4x128x128 .bf16) (ix3 g k j))
    (hs : s (ix2 0 j) = (iblk m c 2 t : Vec Ideal S1x512 .f32) (ix2 0 ⟨g.val * 128 + j.val, by omega⟩)) :
    mixed (win g) (fun k i => x (ix3 0 i k)) (fun k => w (ix3 0 k j)) (s (ix2 0 j)) r
      = REF (m ((c : Thread nD τ).loc main_arg0)) (m ((c : Thread nD τ).loc main_arg1)) (m ((c : Thread nD τ).loc main_arg2))
        (ix3 ⟨(grid0.coords t 0).val, h⟩ r' d) := by
  obtain rfl : r' = r := Fin.ext (by omega)
  obtain ⟨d, hd'⟩ := d
  obtain rfl : d = g.val * 128 + j.val := hd
  have e1 : (g.val * 128 + j.val) / 128 = g.val := by omega
  have e2 : (g.val * 128 + j.val) % 128 = j.val := by omega
  rw [ref_at]
  simp only [e1, e2, hx, hw, hs, block_w m c t, block_s m c t, block_x m c t _ _ h]

theorem ld_x (X : Vec Ideal S1x2176x512 .bf16) (o : ℕ) (ho : o + 128 ≤ 512)
    (inb : ∀ a, (![0, 0, o] : Fin 3 → ℕ) a + S1x2176x128.size a ≤ S1x2176x512.size a) (i : Fin 2176) (k : Fin 128) :
    View.ld X (Rect.unit (s := S1x2176x512) ![0, 0, o] S1x2176x128.size inb) (ix3 0 i k) = X (ix3 0 i ⟨o + k.val, by omega⟩) := by
  refine congrArg X ?_
  blk_ext []
  · show 0 + 1 * i.val = i.val; omega
  · show o + 1 * k.val = o + k.val; omega

theorem ld_w (X : Vec Ideal S4x128x128 .bf16) (g : ℕ) (hg : g < 4)
    (inb : ∀ a, (![g, 0, 0] : Fin 3 → ℕ) a + S1x128x128.size a ≤ S4x128x128.size a) (k j : Fin 128) :
    View.ld X (Rect.unit (s := S4x128x128) ![g, 0, 0] S1x128x128.size inb) (ix3 0 k j) = X (ix3 ⟨g, hg⟩ k j) := by
  refine congrArg X ?_
  blk_ext []
  · show g + 1 * 0 = g; omega
  · show 0 + 1 * k.val = k.val; omega
  · show 0 + 1 * j.val = j.val; omega

theorem ld_s (X : Vec Ideal S1x512 .f32) (o : ℕ) (ho : o + 128 ≤ 512)
    (inb : ∀ a, (![0, o] : Fin 2 → ℕ) a + S1x128.size a ≤ S1x512.size a) (j : Fin 128) :
    View.ld X (Rect.unit (s := S1x512) ![0, o] S1x128.size inb) (ix2 0 j) = X (ix2 0 ⟨o + j.val, by omega⟩) := by
  refine congrArg X ?_
  blk_ext []
  · show o + 1 * j.val = o + j.val; omega

theorem point (c : Dev nD) (t : Fin cfg0.N) (y : S1x2176x512.Idx) :
    out0_3 (iblk m c 0 t) (iblk m c 1 t) (iblk m c 2 t) y
      = REF (m ((c : Thread nD τ).loc main_arg0)) (m ((c : Thread nD τ).loc main_arg1)) (m ((c : Thread nD τ).loc main_arg2))
        (((cfg0.win 3).blk t).view.emb y) := by
  idx_vars y
  have l0 : (grid0.coords t 0).val < 8 := (grid0.coords t 0).isLt
  rw [show ((cfg0.win 3).blk t).view.emb (ix3 y0 y1 y2) = ix3 ⟨(grid0.coords t 0).val, l0⟩ y1 y2 by blk_ext [idx t]]
  unfold_out out0_3
  refine View.canon_eq_of_allAt _ _ _ (cover0_3 _ _ _ _ _) ?_
  refine View.allAt_cons_unit _ _ _ _ _ (fun z hz => ?_) (View.allAt_cons_unit _ _ _ _ _ (fun z hz => ?_)
    (View.allAt_cons_unit _ _ _ _ _ (fun z hz => ?_) (View.allAt_cons_unit _ _ _ _ _ (fun z hz => ?_) (View.allAt_nil _ _))))
  · idx_vars z
    obtain rfl : z0 = 0 := Subsingleton.elim _ _
    exact (at3 _ _ _ _ _).trans (group m c t l0 3 z2 z1 y1 y2 (hz 1) (hz 2) (fun i k => ld_x _ 384 (by omega) _ i k)
      (fun k => ld_w _ 3 (by omega) _ k z2) (ld_s _ 384 (by omega) _ z2))
  · idx_vars z
    obtain rfl : z0 = 0 := Subsingleton.elim _ _
    exact (at2 _ _ _ _ _).trans (group m c t l0 2 z2 z1 y1 y2 (hz 1) (hz 2) (fun i k => ld_x _ 256 (by omega) _ i k)
      (fun k => ld_w _ 2 (by omega) _ k z2) (ld_s _ 256 (by omega) _ z2))
  · idx_vars z
    obtain rfl : z0 = 0 := Subsingleton.elim _ _
    exact (at1 _ _ _ _ _).trans (group m c t l0 1 z2 z1 y1 y2 (hz 1) (hz 2) (fun i k => ld_x _ 128 (by omega) _ i k)
      (fun k => ld_w _ 1 (by omega) _ k z2) (ld_s _ 128 (by omega) _ z2))
  · idx_vars z
    obtain rfl : z0 = 0 := Subsingleton.elim _ _
    exact (at0 _ _ _ _ _).trans (group m c t l0 0 z2 z1 y1 y2 (hz 1) (hz 2) (fun i k => ld_x _ 0 (by omega) _ i k)
      (fun k => ld_w _ 0 (by omega) _ k z2) (ld_s _ 0 (by omega) _ z2))

/-- The array after the run is the reference's term. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.MixIdeal.Hand
-- ==== Proof.AttnStep.lean ====
/- One tile of the attention kernel as an operation on the running state of one sub-map: the row maximum, the row sum
   and the accumulator. -/
module

public import proofs.«01_k».proof.Proof.Gen.AttnIdeal.Skeleton
public import Idealize.ShloMosaic.Lib.Pipeline.ValueKit

@[expose] public section

set_option maxRecDepth 16384

noncomputable section

namespace Cert.AttnIdeal.Hand

open Idealize.ShloMosaic Idealize.ShloMosaic.TcCoe Idealize.SL.Sem
open Cert.AttnIdeal Cert.AttnIdeal.Gen

/-- The running state of one sub-map over the 128 query rows of a tile. -/
structure St where
  m : FVec Ideal S1x128x1 .f32
  l : FVec Ideal S1x128x1 .f32
  a : FVec Ideal S1x128x256 .f32

/-- The new row maximum. -/
def mNew (m : FVec Ideal S1x128x1 .f32) (sc : FVec Ideal S128x128 .f32) : FVec Ideal S128x1 .f32 :=
  maximumf (shapeCast S128x1 m shapeCasts_S1x128x1_S128x1)
    (shapeCast S128x1 (multiReduction .maximumf [1] S128 sc 0xFF800000#32 reduces_S128x128_S128 (.inl rfl) rfl)
      shapeCasts_S128_S128x1)

/-- The factor the old state is rescaled by. -/
def alpha (m : FVec Ideal S1x128x1 .f32) (sc : FVec Ideal S128x128 .f32) : FVec Ideal S128x1 .f32 :=
  exp (subf (shapeCast S128x1 m shapeCasts_S1x128x1_S128x1) (mNew m sc))

/-- The tile's unnormalised weights. -/
def wts (m : FVec Ideal S1x128x1 .f32) (sc : FVec Ideal S128x128 .f32) : FVec Ideal S128x128 .f32 :=
  exp (subf sc (broadcastTo S128x128 (mNew m sc) broadcasts_S128x1_S128x128))

/-- One tile, with scores `sc` and values `v`. -/
def St.step (σ : St) (sc : FVec Ideal S128x128 .f32) (v : FVec Ideal S1x128x256 .bf16) : St where
  m := shapeCast S1x128x1 (mNew σ.m sc) shapeCasts_S128x1_S1x128x1
  l := shapeCast S1x128x1
    (addf (mulf (alpha σ.m sc) (shapeCast S128x1 σ.l shapeCasts_S1x128x1_S128x1))
      (shapeCast S128x1 (multiReduction .add [1] S128 (wts σ.m sc) 0x00000000#32 reduces_S128x128_S128 (.inl rfl) rfl)
        shapeCasts_S128_S128x1)) shapeCasts_S128x1_S1x128x1
  a := shapeCast S1x128x256
    (addf (mulf (broadcastTo S128x256 (alpha σ.m sc) broadcasts_S128x1_S128x256)
        (shapeCast S128x256 σ.a shapeCasts_S1x128x256_S128x256))
      (matmul dot_S128x128_S128x256_S128x256_1_0_0_1_n_n none (truncf .bf16 (wts σ.m sc) bitsLt_bf16_f32)
        (shapeCast S128x256 v shapeCasts_S1x128x256_S128x256) (constant S128x256 .f32 0x00000000#32)))
    shapeCasts_S128x256_S1x128x256

/-- The state before the first tile. -/
def St.init : St where
  m := broadcast S1x128x1 (Named.named (F := Ideal) κ "mask" 0xF149F2CA#32 : Ideal .f32)
  l := broadcast S1x128x1 (Scalar.ofBits (F := Ideal) .f32 0x00000000#32)
  a := broadcast S1x128x256 (Scalar.ofBits (F := Ideal) .f32 0x00000000#32)

/-- The scaled products of the first sub-map's half of the query and key tiles. -/
def prod0 (q k : FVec Ideal S1x128x256 .bf16) : FVec Ideal S128x128 .f32 :=
  mulf (matmul dot_S128x128_S128x128_S128x128_1_1_0_0_n_n none
      (extractStridedSlice S128x128 ![0, 0] (shapeCast S128x256 q shapeCasts_S1x128x256_S128x256) slices_S128x256_o0_0_S128x128)
      (extractStridedSlice S128x128 ![0, 0] (shapeCast S128x256 k shapeCasts_S1x128x256_S128x256) slices_S128x256_o0_0_S128x128)
      (constant S128x128 .f32 0x00000000#32))
    (broadcast S128x128 (Scalar.ofBits (F := Ideal) .f32 0x3DB504F3#32))

/-- The scaled products of the second sub-map's half of the query and key tiles. -/
def prod1 (q k : FVec Ideal S1x128x256 .bf16) : FVec Ideal S128x128 .f32 :=
  mulf (matmul dot_S128x128_S128x128_S128x128_1_1_0_0_n_n none
      (extractStridedSlice S128x128 ![0, 128] (shapeCast S128x256 q shapeCasts_S1x128x256_S128x256) slices_S128x256_o0_128_S128x128)
      (extractStridedSlice S128x128 ![0, 128] (shapeCast S128x256 k shapeCasts_S1x128x256_S128x256) slices_S128x256_o0_128_S128x128)
      (constant S128x128 .f32 0x00000000#32))
    (broadcast S128x128 (Scalar.ofBits (F := Ideal) .f32 0x3DB504F3#32))

/-- The score tile where every key is far before the query: one bias for the whole tile. -/
def far (p : FVec Ideal S128x128 .f32) (b : Ideal .f32) : FVec Ideal S128x128 .f32 := addf p (broadcast S128x128 b)

/-- The score tile next to the diagonal: a bias per entry and a penalty for a tile outside the sequence. -/
def near (p : FVec Ideal S128x128 .f32) (w : FVec Ideal S1x128x128 .f32) (pen : Ideal .f32) : FVec Ideal S128x128 .f32 :=
  addf (addf p (shapeCast S128x128 w shapeCasts_S1x128x128_S128x128)) (broadcast S128x128 pen)

/-- Zero where the tile's index `a + d` lies in the sequence, the mask where it does not. -/
def pen (a d : BitVec 32) : Ideal .f32 :=
  Scalar.select (Scalar.cmpi .eq (Scalar.addi a d) (Scalar.minsi 16#32 (Scalar.maxsi 0#32 (Scalar.addi a d))))
    (Scalar.ofBits (F := Ideal) .f32 0x00000000#32) (Named.named (F := Ideal) κ "mask" 0xF149F2CA#32)

/-- Tile `j` of the keys or values. -/
def tile (X : FVec Ideal S1x2176x256 .bf16) (j : ℕ) : FVec Ideal S1x128x256 .bf16 :=
  fun y => X (ix3 0 (Fin.ofNat 2176 (128 * j + (y 1).val)) (y 2))

/-- The state after `n` far tiles. -/
def farSt (p : FVec Ideal S1x128x256 .bf16 → FVec Ideal S128x128 .f32) (K V : FVec Ideal S1x2176x256 .bf16) (b : Ideal .f32)
    (σ : St) : ℕ → St
  | 0 => σ
  | n + 1 => (farSt p K V b σ n).step (far (p (tile K n)) b) (tile V n)

end Cert.AttnIdeal.Hand
-- ==== Proof.Math.lean ====
/- The arithmetic of a softmax read tile by tile, over the extended reals: what a running maximum, a running
   sum of exponentials and a running weighted sum hold after each tile, and that their quotient is the
   softmax-weighted sum of the whole row. -/
module

public import Idealize.ShloMosaic.PureOps.Ideal

@[expose] public section

noncomputable section

namespace Cert.Proof.Softmax

open Idealize.ShloMosaic

/-- The weight of a score: its exponential, and zero for a score of minus infinity (a masked key). -/
def E (x : EReal) : ℝ := if x = ⊥ then 0 else Real.exp x.toReal

theorem E_bot : E ⊥ = 0 := if_pos rfl

theorem E_coe (r : ℝ) : E (r : EReal) = Real.exp r := by
  rw [E, if_neg (EReal.coe_ne_bot r), EReal.toReal_coe]

theorem E_nonneg (x : EReal) : 0 ≤ E x := by
  unfold E; split
  · exact le_rfl
  · exact (Real.exp_pos _).le

/-- The exponential of a score less a real shift is the weight scaled by the shift's exponential. -/
theorem exp_sub_coe (x : EReal) (hx : x ≠ ⊤) (M : ℝ) :
    Ideal.exp (x - (M : EReal)) = ((Real.exp (-M) * E x : ℝ) : EReal) := by
  induction x with
  | bot => rw [EReal.bot_sub, E_bot, mul_zero]; rfl
  | top => exact absurd rfl hx
  | coe r =>
    rw [E_coe, ← EReal.coe_sub, Ideal.exp_coe, ← Real.exp_add]
    congr 2; ring

theorem coe_sum {K : Type*} (s : Finset K) (f : K → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem le_fold {K : Type*} [Fintype K] (f : K → EReal) (k : K) :
    f k ≤ (Finset.univ : Finset K).fold max ⊥ f :=
  (Finset.le_fold_max (f k)).2 (Or.inr ⟨k, Finset.mem_univ k, le_rfl⟩)

theorem fold_ne_top {K : Type*} [Fintype K] (f : K → EReal) (hf : ∀ k, f k ≠ ⊤) :
    (Finset.univ : Finset K).fold max ⊥ f ≠ ⊤ := by
  have h : (Finset.univ : Finset K).fold max ⊥ f < ⊤ :=
    (Finset.fold_max_lt ⊤).2 ⟨bot_lt_top, fun k _ => lt_top_iff_ne_top.2 (hf k)⟩
  exact h.ne

/-- What the running maximum `m`, sum `l` and weighted sums `acc` hold once scores of total weight `SE` and weighted
    values `SV` have been read: nothing visible yet, or everything scaled by one real maximum. -/
def Inv {D : Type*} (m l : EReal) (acc : D → EReal) (SE : ℝ) (SV : D → ℝ) : Prop :=
  (m = ⊥ ∧ l = 0 ∧ (∀ d, acc d = 0) ∧ SE = 0 ∧ ∀ d, SV d = 0)
    ∨ ∃ M : ℝ, m = (M : EReal) ∧ l = ((Real.exp (-M) * SE : ℝ) : EReal)
        ∧ ∀ d, acc d = ((Real.exp (-M) * SV d : ℝ) : EReal)

theorem Inv.start {D : Type*} : Inv ⊥ 0 (fun _ : D => 0) 0 (fun _ => 0) :=
  Or.inl ⟨rfl, rfl, fun _ => rfl, rfl, fun _ => rfl⟩

/-- One tile read: the state after it, at the maximum the tile leaves. -/
theorem Inv.step {D K : Type*} [Fintype K] {m l : EReal} {acc : D → EReal} {SE : ℝ} {SV : D → ℝ}
    (h : Inv m l acc SE SV) (sc : K → EReal) (hsc : ∀ k, sc k ≠ ⊤) (v : K → D → EReal) (vr : K → D → ℝ)
    (hv : ∀ k d, v k d = (vr k d : EReal)) (m' : EReal)
    (hm' : m' = max m ((Finset.univ : Finset K).fold max ⊥ sc)) :
    Inv m' (Ideal.exp (m - m') * l + ∑ k, Ideal.exp (sc k - m'))
      (fun d => Ideal.exp (m - m') * acc d + ∑ k, Ideal.exp (sc k - m') * v k d)
      (SE + ∑ k, E (sc k)) (fun d => SV d + ∑ k, E (sc k) * vr k d) := by
  have hsk : ∀ k, sc k ≤ m' := fun k => hm' ▸ (le_fold sc k).trans (le_max_right _ _)
  have hmm : m ≤ m' := hm' ▸ le_max_left _ _
  have hmt : m ≠ ⊤ := by
    rcases h with ⟨h, -⟩ | ⟨M, h, -⟩
    · rw [h]; exact bot_ne_top
    · rw [h]; exact EReal.coe_ne_top M
  have hmt' : m' ≠ ⊤ := by
    rw [hm']
    rcases max_choice m ((Finset.univ : Finset K).fold max ⊥ sc) with e | e
    · rw [e]; exact hmt
    · rw [e]; exact fold_ne_top sc hsc
  induction m' with
  | top => exact absurd rfl hmt'
  | bot =>
    have hk : ∀ k, sc k = ⊥ := fun k => le_bot_iff.1 (hsk k)
    have hm : m = ⊥ := le_bot_iff.1 hmm
    rcases h with ⟨-, hl, ha, hS, hV⟩ | ⟨M, h, -⟩
    · refine Or.inl ⟨rfl, ?_, fun d => ?_, ?_, fun d => ?_⟩
      · simp [hl, hk, Ideal.exp_bot]
      · simp [ha, hk, Ideal.exp_bot]
      · simp [hS, hk, E_bot]
      · simp [hV, hk, E_bot]
    · exact absurd (h.symm.trans hm) (EReal.coe_ne_bot M)
  | coe M' =>
    refine Or.inr ⟨M', rfl, ?_, fun d => ?_⟩
    · have e : ∑ k, Ideal.exp (sc k - (M' : EReal)) = ((Real.exp (-M') * ∑ k, E (sc k) : ℝ) : EReal) := by
        rw [Finset.mul_sum, coe_sum]; exact Finset.sum_congr rfl fun k _ => exp_sub_coe _ (hsc k) M'
      rw [e, exp_sub_coe m hmt M']
      rcases h with ⟨hm, hl, -, hS, -⟩ | ⟨M, hm, hl, -⟩
      · rw [hl, hS, mul_zero, zero_add, zero_add]
      · rw [hl, hm, E_coe, ← EReal.coe_mul, ← EReal.coe_add]
        congr 1
        have : Real.exp M * Real.exp (-M) = 1 := by rw [← Real.exp_add, add_neg_cancel, Real.exp_zero]
        linear_combination Real.exp (-M') * SE * this
    · have e : ∑ k, Ideal.exp (sc k - (M' : EReal)) * v k d
          = ((Real.exp (-M') * ∑ k, E (sc k) * vr k d : ℝ) : EReal) := by
        rw [Finset.mul_sum, coe_sum]
        refine Finset.sum_congr rfl fun k _ => ?_
        rw [exp_sub_coe _ (hsc k) M', hv, ← EReal.coe_mul, mul_assoc]
      beta_reduce
      rw [e, exp_sub_coe m hmt M']
      rcases h with ⟨hm, -, ha, -, hV⟩ | ⟨M, hm, -, ha⟩
      · rw [ha, hV, mul_zero, zero_add, zero_add]
      · rw [ha, hm, E_coe, ← EReal.coe_mul, ← EReal.coe_add]
        congr 1
        have : Real.exp M * Real.exp (-M) = 1 := by rw [← Real.exp_add, add_neg_cancel, Real.exp_zero]
        linear_combination Real.exp (-M') * SV d * this

/-- The quotient at the end: the weighted sum over the total weight, the maximum gone. -/
theorem Inv.ratio {D : Type*} {m l : EReal} {acc : D → EReal} {SE : ℝ} {SV : D → ℝ} (h : Inv m l acc SE SV)
    (hS : 0 < SE) (d : D) : Ideal.div (acc d) l = ((SV d / SE : ℝ) : EReal) := by
  rcases h with ⟨-, -, -, h0, -⟩ | ⟨M, -, hl, ha⟩
  · exact absurd h0 hS.ne'
  · rw [hl, ha d, Ideal.div_coe (mul_pos (Real.exp_pos (-M)) hS).ne', ← EReal.coe_mul]
    congr 1
    have := Real.exp_pos (-M)
    field_simp

/-- The reference's softmax of a row, element by element: its weight over the row's total weight. -/
theorem softmax_eq {K : Type*} [Fintype K] (s : K → EReal) (hs : ∀ k, s k ≠ ⊤) (k0 : K) (hk0 : s k0 ≠ ⊥) (k : K) :
    Ideal.div (Ideal.exp (s k - max ⊥ ((Finset.univ : Finset K).fold max ⊥ s)))
        (0 + ∑ j, Ideal.exp (s j - max ⊥ ((Finset.univ : Finset K).fold max ⊥ s)))
      = ((E (s k) / ∑ j, E (s j) : ℝ) : EReal) := by
  have h := (Inv.start (D := Unit)).step s hs (fun _ _ => 0) (fun _ _ => 0) (fun _ _ => EReal.coe_zero.symm) _ rfl
  have ht : max ⊥ ((Finset.univ : Finset K).fold max ⊥ s) ≠ ⊤ := by
    rw [max_eq_right bot_le]; exact fold_ne_top s hs
  have hb : max ⊥ ((Finset.univ : Finset K).fold max ⊥ s) ≠ ⊥ := fun e =>
    hk0 (le_bot_iff.1 (((le_fold s k0).trans (le_max_right _ _)).trans e.le))
  generalize max ⊥ ((Finset.univ : Finset K).fold max ⊥ s) = m at ht hb ⊢
  induction m with
  | top => exact absurd rfl ht
  | bot => exact absurd rfl hb
  | coe M =>
    have hpos : 0 < ∑ j, E (s j) := by
      refine Finset.sum_pos' (fun j _ => E_nonneg _) ⟨k0, Finset.mem_univ _, ?_⟩
      rw [E, if_neg hk0]; exact Real.exp_pos _
    have e : ∑ j, Ideal.exp (s j - (M : EReal)) = ((Real.exp (-M) * ∑ j, E (s j) : ℝ) : EReal) := by
      rw [Finset.mul_sum, coe_sum]; exact Finset.sum_congr rfl fun k _ => exp_sub_coe _ (hs k) M
    rw [zero_add, e, exp_sub_coe _ (hs k), Ideal.div_coe (mul_pos (Real.exp_pos (-M)) hpos).ne', ← EReal.coe_mul]
    congr 1
    have := Real.exp_pos (-M)
    field_simp

/-- The difference of two softmaxes against the values is the difference of the two weighted sums. -/
theorem diff_eq {K : Type*} [Fintype K] (a b v : K → ℝ) (A B lam : ℝ) :
    ∑ k, (((a k / A : ℝ) : EReal) - (lam : EReal) * ((b k / B : ℝ) : EReal)) * (v k : EReal)
      = (((∑ k, a k * v k) / A : ℝ) : EReal) - (lam : EReal) * (((∑ k, b k * v k) / B : ℝ) : EReal) := by
  simp only [← EReal.coe_mul, ← EReal.coe_sub, ← coe_sum]
  congr 1
  rw [Finset.sum_div, Finset.sum_div, Finset.mul_sum, ← Finset.sum_sub_distrib]
  exact Finset.sum_congr rfl fun k _ => by ring

end Cert.Proof.Softmax

end
-- ==== Proof.AttnRow.lean ====
/- One query row of the attention's running softmax. -/
module

public import proofs.«01_k».proof.Proof.AttnStep
public import proofs.«01_k».proof.Proof.Math
public import Idealize.ShloMosaic.Lib.Pipeline.ValueKit

@[expose] public section

set_option maxRecDepth 16384

noncomputable section

namespace Cert.AttnIdeal.Hand

open Idealize.ShloMosaic Idealize.ShloMosaic.TcCoe Idealize.SL.Sem
open Cert.AttnIdeal Cert.AttnIdeal.Gen Cert.Proof.Softmax

theorem neg_inf : Ideal.ofBits .f32 4286578688#32 = (⊥ : EReal) := by
  simp [Ideal.ofBits, Ideal.ieee]

theorem step_m (σ : St) (sc : FVec Ideal S128x128 .f32) (v : FVec Ideal S1x128x256 .bf16) (r : Fin 128) :
    (σ.step sc v).m (ix3 0 r 0) = max (σ.m (ix3 0 r 0)) (Finset.univ.fold max ⊥ fun k : Fin 128 => sc (ix2 r k)) := by
  pointwise [St.step, mNew]
  rw [neg_inf]

theorem step_l (σ : St) (sc : FVec Ideal S128x128 .f32) (v : FVec Ideal S1x128x256 .bf16) (r : Fin 128) (m' : EReal)
    (hm' : m' = max (σ.m (ix3 0 r 0)) (Finset.univ.fold max ⊥ fun k : Fin 128 => sc (ix2 r k))) :
    (σ.step sc v).l (ix3 0 r 0) = Ideal.exp (σ.m (ix3 0 r 0) - m') * σ.l (ix3 0 r 0) + ∑ k : Fin 128, Ideal.exp (sc (ix2 r k) - m') := by
  pointwise [St.step, mNew, alpha, wts]
  rw [neg_inf, ← hm']

theorem step_a (σ : St) (sc : FVec Ideal S128x128 .f32) (v : FVec Ideal S1x128x256 .bf16) (r : Fin 128) (d : Fin 256) (m' : EReal)
    (hm' : m' = max (σ.m (ix3 0 r 0)) (Finset.univ.fold max ⊥ fun k : Fin 128 => sc (ix2 r k))) :
    (σ.step sc v).a (ix3 0 r d) = Ideal.exp (σ.m (ix3 0 r 0) - m') * σ.a (ix3 0 r d)
      + ∑ k : Fin 128, Ideal.exp (sc (ix2 r k) - m') * v (ix3 0 k d) := by
  pointwise [St.step, mNew, alpha, wts]
  rw [neg_inf, ← hm']

theorem prod0_at (q k : FVec Ideal S1x128x256 .bf16) (r c : Fin 128) :
    prod0 q k (ix2 r c) = (∑ d : Fin 128, q (ix3 0 r ⟨d.val, by omega⟩) * k (ix3 0 c ⟨d.val, by omega⟩)) * Ideal.ofBits .f32 0x3DB504F3#32 := by
  pointwise [prod0]

theorem prod1_at (q k : FVec Ideal S1x128x256 .bf16) (r c : Fin 128) :
    prod1 q k (ix2 r c) = (∑ d : Fin 128, q (ix3 0 r ⟨128 + d.val, by omega⟩) * k (ix3 0 c ⟨128 + d.val, by omega⟩)) * Ideal.ofBits .f32 0x3DB504F3#32 := by
  pointwise [prod1]

theorem far_at (p : FVec Ideal S128x128 .f32) (b : Ideal .f32) (r c : Fin 128) : far p b (ix2 r c) = p (ix2 r c) + b := by
  pointwise [far]

theorem near_at (p : FVec Ideal S128x128 .f32) (w : FVec Ideal S1x128x128 .f32) (x : Ideal .f32) (r c : Fin 128) :
    near p w x (ix2 r c) = p (ix2 r c) + w (ix3 0 r c) + x := by
  pointwise [near]

theorem init_m (r : Fin 128) : St.init.m (ix3 0 r 0) = (⊥ : EReal) := rfl

theorem init_l (r : Fin 128) : St.init.l (ix3 0 r 0) = (0 : EReal) := by
  pointwise [St.init]

theorem init_a (r : Fin 128) (d : Fin 256) : St.init.a (ix3 0 r d) = (0 : EReal) := by
  pointwise [St.init]

/-- Row `r` of a state holds the sums `SE` and `SV` up to the row's maximum. -/
def RowOK (σ : St) (r : Fin 128) (SE : ℝ) (SV : Fin 256 → ℝ) : Prop :=
  Inv (σ.m (ix3 0 r 0)) (σ.l (ix3 0 r 0)) (fun d => σ.a (ix3 0 r d)) SE SV

theorem RowOK.init (r : Fin 128) : RowOK St.init r 0 (fun _ => 0) := by
  unfold RowOK
  rw [init_m, init_l, funext (init_a r)]
  exact Inv.start

theorem RowOK.step {σ : St} {r : Fin 128} {SE : ℝ} {SV : Fin 256 → ℝ} (h : RowOK σ r SE SV) (sc : FVec Ideal S128x128 .f32)
    (v : FVec Ideal S1x128x256 .bf16) (hsc : ∀ k, sc (ix2 r k) ≠ (⊤ : EReal)) (vr : Fin 128 → Fin 256 → ℝ)
    (hv : ∀ k d, v (ix3 0 k d) = ((vr k d : ℝ) : EReal)) :
    RowOK (σ.step sc v) r (SE + ∑ k, E (sc (ix2 r k))) (fun d => SV d + ∑ k, E (sc (ix2 r k)) * vr k d) := by
  unfold RowOK at h ⊢
  rw [step_m, step_l σ sc v r _ rfl, funext fun d => step_a σ sc v r d _ rfl]
  exact h.step (fun k => sc (ix2 r k)) hsc (fun k d => v (ix3 0 k d)) vr hv _ rfl

end Cert.AttnIdeal.Hand

end
-- ==== Proof.AttnTrip.lean ====
/- The counted loop over the far tiles: what each trip, and the loop, leaves in the running state. -/
module

public import proofs.«01_k».proof.Proof.Gen.AttnIdeal.Loops
public import proofs.«01_k».proof.Proof.AttnStep
public import Idealize.ShloMosaic.Lib.VecWindow
public import Idealize.ShloMosaic.Lib.Pipeline.ValueKit

@[expose] public section

set_option maxRecDepth 16384

noncomputable section

namespace Cert.AttnIdeal.Hand

open Idealize.ShloMosaic Idealize.ShloMosaic.TcCoe Idealize.SL.Sem
open Cert.AttnIdeal Cert.AttnIdeal.Gen

/-- A load of the rectangle last stored reads what was stored. -/
theorem readAt_same {s : Shape} {e : EltTy} {κ : Kind} {sp : Space} (v : View sig κ sp s e) (f : v.ty.Contents (Elt Ideal))
    {off size : Fin s.rank → ℕ} (inb inb' : ∀ a, off a + size a ≤ s.size a)
    (w : (Rect.unit off size inb).shape.Idx → Elt Ideal e) (L : List (View.Piece (Elt Ideal) s e)) :
    v.readAt (Elt Ideal) (Rect.unit off size inb').toLoadRect
      (v.writes (Elt Ideal) f ((⟨Rect.unit off size inb, w⟩ : View.Piece (Elt Ideal) s e) :: L)) = w := by
  rw [View.readAt_unit v _ inb' rfl inb', View.read_writes_cons_put v f inb w L rfl]
  exact VecWindow.window_put_same _ _ _ _ _

/-- A load passes a store whose rectangle differs in the leading coordinate. -/
theorem readAt_other {s : Shape} {e : EltTy} {κ : Kind} {sp : Space} (v : View sig κ sp s e) (f : v.ty.Contents (Elt Ideal))
    {off off' size size' : Fin s.rank → ℕ} (inb : ∀ a, off a + size a ≤ s.size a) (inb' : ∀ a, off' a + size' a ≤ s.size a)
    (w : (Rect.unit off size inb).shape.Idx → Elt Ideal e) (L : List (View.Piece (Elt Ideal) s e)) (a : Fin s.rank)
    (h : off' a + size' a ≤ off a ∨ off a + size a ≤ off' a) :
    v.readAt (Elt Ideal) (Rect.unit off' size' inb').toLoadRect
      (v.writes (Elt Ideal) f ((⟨Rect.unit off size inb, w⟩ : View.Piece (Elt Ideal) s e) :: L))
      = v.readAt (Elt Ideal) (Rect.unit off' size' inb').toLoadRect (v.writes (Elt Ideal) f L) := by
  rw [View.readAt_unit v _ inb' rfl inb', View.readAt_unit v _ inb' rfl inb', View.read_writes_cons_put v f inb w L rfl]
  exact VecWindow.window_put_of_disjoint _ _ _ _ _ _ _ a (by tauto)

variable (𝒱 : Variants) (c : Dev nD) (bd : Option 𝒱.V) (i : grid1.Coords) (arg3 : Memref sig .tc .smem S32x8 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x256 .f32) (harg8 : arg8.IsWhole) (arg9 : Memref sig .tc .vmem S1x128x256 .bf16) (harg9 : arg9.IsWhole) (arg10 : Memref sig .tc .vmem S1x2176x256 .bf16) (harg10 : arg10.IsWhole) (arg11 : Memref sig .tc .vmem S1x2176x256 .bf16) (harg11 : arg11.IsWhole) (arg12 : Memref sig .tc .vmem S2x128x384 .f32) (harg12 : arg12.IsWhole) (arg13 : Memref sig .tc .vmem S1x128x256 .bf16) (harg13 : arg13.IsWhole) (arg14 : Memref sig .tc .vmem S2x128x1 .f32) (harg14 : arg14.IsWhole) (arg15 : Memref sig .tc .vmem S2x128x1 .f32) (harg15 : arg15.IsWhole) (arg16 : Memref sig .tc .vmem S2x128x256 .f32) (harg16 : arg16.IsWhole) (arg1 : BitVec 32) (v12 : Vec Ideal S1x128x256 .bf16) (X_arg3 : BufTy.Contents (Elt Ideal) arg3.view.ty) (X_arg10 : BufTy.Contents (Elt Ideal) arg10.view.ty) (X_arg11 : BufTy.Contents (Elt Ideal) arg11.view.ty)

/-- The first sub-map's state, as the three scratch buffers hold it. -/
def st0 (f14 : BufTy.Contents (Elt Ideal) arg14.view.ty) (f15 : BufTy.Contents (Elt Ideal) arg15.view.ty) (f16 : BufTy.Contents (Elt Ideal) arg16.view.ty) : St where
  m := arg14.view.readAt (Elt Ideal) (Rect.unit (s := S2x128x1) ![0, 0, 0] S1x128x1.size inb_S2x128x1_S1x128x1_0_0_0).toLoadRect f14
  l := arg15.view.readAt (Elt Ideal) (Rect.unit (s := S2x128x1) ![0, 0, 0] S1x128x1.size inb_S2x128x1_S1x128x1_0_0_0).toLoadRect f15
  a := arg16.view.readAt (Elt Ideal) (Rect.unit (s := S2x128x256) ![0, 0, 0] S1x128x256.size inb_S2x128x256_S1x128x256_0_0_0).toLoadRect f16

/-- The second sub-map's state, as the three scratch buffers hold it. -/
def st1 (f14 : BufTy.Contents (Elt Ideal) arg14.view.ty) (f15 : BufTy.Contents (Elt Ideal) arg15.view.ty) (f16 : BufTy.Contents (Elt Ideal) arg16.view.ty) : St where
  m := arg14.view.readAt (Elt Ideal) (Rect.unit (s := S2x128x1) ![1, 0, 0] S1x128x1.size inb_S2x128x1_S1x128x1_1_0_0).toLoadRect f14
  l := arg15.view.readAt (Elt Ideal) (Rect.unit (s := S2x128x1) ![1, 0, 0] S1x128x1.size inb_S2x128x1_S1x128x1_1_0_0).toLoadRect f15
  a := arg16.view.readAt (Elt Ideal) (Rect.unit (s := S2x128x256) ![1, 0, 0] S1x128x256.size inb_S2x128x256_S1x128x256_1_0_0).toLoadRect f16

variable (f14 : BufTy.Contents (Elt Ideal) arg14.view.ty) (f15 : BufTy.Contents (Elt Ideal) arg15.view.ty) (f16 : BufTy.Contents (Elt Ideal) arg16.view.ty)

/-- The key tile a trip loads. -/
abbrev kt (k : Fin (k1_t1_loop i).trips) : FVec Ideal S1x128x256 .bf16 :=
  arg10.view.readAt (Elt Ideal) (Rect.unit (s := S1x2176x256) (k1_off1 i k) S1x128x256.size (k1_off1_inb i k)).toLoadRect X_arg10

/-- The value tile a trip loads. -/
abbrev vt (k : Fin (k1_t1_loop i).trips) : FVec Ideal S1x128x256 .bf16 :=
  arg11.view.readAt (Elt Ideal) (Rect.unit (s := S1x2176x256) (k1_off1 i k) S1x128x256.size (k1_off1_inb i k)).toLoadRect X_arg11

/-- The bias a trip adds for sub-map `n`. -/
abbrev rb (n : Fin 2) : Ideal .f32 :=
  arg3.view.readAt (Elt Ideal) (Rect.unit (s := S32x8) (k1_off2 i (BitVec.ofNat 32 n.val)) S1x1.size (k1_off2_inb i n)).toLoadRect X_arg3 (Shape.Idx.first (s := S1x1) (by decide))

/-- The pieces a trip stores. -/
abbrev TL (k : Fin (k1_t1_loop i).trips) := tripL_k1_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 k f14 f15 f16

theorem trip_st0 (k : Fin (k1_t1_loop i).trips) :
    st0 arg14 arg15 arg16 (arg14.view.writes (Elt Ideal) f14 (TL 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 f14 f15 f16 k).1)
      (arg15.view.writes (Elt Ideal) f15 (TL 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 f14 f15 f16 k).2.1)
      (arg16.view.writes (Elt Ideal) f16 (TL 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 f14 f15 f16 k).2.2)
      = (st0 arg14 arg15 arg16 f14 f15 f16).step (far (prod0 v12 (kt i arg10 X_arg10 k)) (rb i arg3 X_arg3 0)) (vt i arg11 X_arg11 k) := by
  unfold st0 TL tripL_k1_t1 trip_k1_t1
  dsimp only
  rw [readAt_other arg14.view _ _ _ _ _ 0 (.inl (by decide)), readAt_other arg15.view _ _ _ _ _ 0 (.inl (by decide)), readAt_other arg16.view _ _ _ _ _ 0 (.inl (by decide)),
    readAt_same, readAt_same, readAt_same]
  rfl

theorem trip_st1 (k : Fin (k1_t1_loop i).trips) :
    st1 arg14 arg15 arg16 (arg14.view.writes (Elt Ideal) f14 (TL 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 f14 f15 f16 k).1)
      (arg15.view.writes (Elt Ideal) f15 (TL 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 f14 f15 f16 k).2.1)
      (arg16.view.writes (Elt Ideal) f16 (TL 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 f14 f15 f16 k).2.2)
      = (st1 arg14 arg15 arg16 f14 f15 f16).step (far (prod1 v12 (kt i arg10 X_arg10 k)) (rb i arg3 X_arg3 1)) (vt i arg11 X_arg11 k) := by
  unfold st1 TL tripL_k1_t1 trip_k1_t1
  dsimp only
  rw [readAt_same, readAt_same, readAt_same]
  rfl

end Cert.AttnIdeal.Hand
-- ==== Proof.AttnLoop.lean ====
/- The counted loop over the far tiles as a recursion on the running state. -/
module

public import proofs.«01_k».proof.Proof.Gen.AttnIdeal.Loops
public import proofs.«01_k».proof.Proof.AttnTrip
public import Idealize.ShloMosaic.Lib.VecWindow
public import Idealize.ShloMosaic.Lib.Pipeline.ValueKit

@[expose] public section

set_option maxRecDepth 16384

noncomputable section

namespace Cert.AttnIdeal.Hand

open Idealize.ShloMosaic Idealize.ShloMosaic.TcCoe Idealize.SL.Sem
open Cert.AttnIdeal Cert.AttnIdeal.Gen

theorem trips1 : ∀ i : grid1.Coords, (k1_t1_loop i).trips = (i 2).val - 1 := by decide +kernel

theorem trips2 : ∀ i : grid1.Coords, (k1_t2_loop i).trips = 0 := by decide +kernel

theorem off1 : ∀ (i : grid1.Coords) (k : Fin (k1_t1_loop i).trips), k1_off1 i k = ![0, 128 * k.val, 0] := by decide +kernel

theorem off2 : ∀ (i : grid1.Coords) (r : Fin 2), k1_off2 i (BitVec.ofNat 32 r.val) = ![15, 2 * (i 1).val + r.val] := by
  decide +kernel

/-- The tile index the kernel loads for the tile `r - 1` places from the diagonal. -/
def near_ix (a : ℕ) (r : ℕ) : ℕ := min 16 (a + r - 1)

theorem off5 : ∀ (i : grid1.Coords) (r : Fin 3), k1_off5 i (k1_off5_at r) = ![0, 128 * near_ix (i 2).val r.val, 0] := by
  decide +kernel

/-- A load of 128 rows of a block is its tile. -/
theorem window_tile (X : FVec Ideal S1x2176x256 .bf16) (j : ℕ) (hj : j ≤ 16)
    (inb : ∀ a, (![0, 128 * j, 0] : Fin 3 → ℕ) a + S1x128x256.size a ≤ S1x2176x256.size a) :
    VecWindow.window X (![0, 128 * j, 0] : Fin 3 → ℕ) S1x128x256.size inb = tile X j := by
  funext y
  refine congrArg X (funext fun a => Fin.ext ?_)
  have h1 : (y 1).val < 128 := (y 1).isLt
  match a with
  | 0 =>
    have h0 : (y 0).val < 1 := (y 0).isLt
    show 0 + 1 * (y 0).val = 0
    omega
  | 1 =>
    show 128 * j + 1 * (y 1).val = (128 * j + (y 1).val) % 2176
    rw [Nat.mod_eq_of_lt (by omega)]; omega
  | 2 =>
    show 0 + 1 * (y 2).val = (y 2).val
    omega

variable (𝒱 : Variants) (c : Dev nD) (bd : Option 𝒱.V) (i : grid1.Coords) (arg3 : Memref sig .tc .smem S32x8 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x256 .f32) (harg8 : arg8.IsWhole) (arg9 : Memref sig .tc .vmem S1x128x256 .bf16) (harg9 : arg9.IsWhole) (arg10 : Memref sig .tc .vmem S1x2176x256 .bf16) (harg10 : arg10.IsWhole) (arg11 : Memref sig .tc .vmem S1x2176x256 .bf16) (harg11 : arg11.IsWhole) (arg12 : Memref sig .tc .vmem S2x128x384 .f32) (harg12 : arg12.IsWhole) (arg13 : Memref sig .tc .vmem S1x128x256 .bf16) (harg13 : arg13.IsWhole) (arg14 : Memref sig .tc .vmem S2x128x1 .f32) (harg14 : arg14.IsWhole) (arg15 : Memref sig .tc .vmem S2x128x1 .f32) (harg15 : arg15.IsWhole) (arg16 : Memref sig .tc .vmem S2x128x256 .f32) (harg16 : arg16.IsWhole) (arg1 : BitVec 32) (v12 : Vec Ideal S1x128x256 .bf16) (X_arg3 : BufTy.Contents (Elt Ideal) arg3.view.ty) (X_arg10 : BufTy.Contents (Elt Ideal) arg10.view.ty) (X_arg11 : BufTy.Contents (Elt Ideal) arg11.view.ty)
  (G14 : BufTy.Contents (Elt Ideal) arg14.view.ty) (G15 : BufTy.Contents (Elt Ideal) arg15.view.ty) (G16 : BufTy.Contents (Elt Ideal) arg16.view.ty)

/-- The pieces the first `n` trips store. -/
abbrev PB (n : ℕ) := pb_k1_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 G14 G15 G16 n

theorem loop_st0 (K V : FVec Ideal S1x2176x256 .bf16)
    (hK : ∀ k, kt i arg10 X_arg10 k = tile K k.val) (hV : ∀ k, vt i arg11 X_arg11 k = tile V k.val) (n : ℕ)
    (hn : n ≤ (k1_t1_loop i).trips) :
    st0 arg14 arg15 arg16 (arg14.view.writes (Elt Ideal) G14 (PB 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 G14 G15 G16 n).1)
      (arg15.view.writes (Elt Ideal) G15 (PB 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 G14 G15 G16 n).2.1)
      (arg16.view.writes (Elt Ideal) G16 (PB 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 G14 G15 G16 n).2.2)
      = farSt (prod0 v12) K V (rb i arg3 X_arg3 0) (st0 arg14 arg15 arg16 G14 G15 G16) n := by
  induction n with
  | zero => rfl
  | succ n ih =>
    have ih := ih (Nat.le_of_succ_le hn)
    have hs := pb_k1_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 G14 G15 G16 ⟨n, hn⟩
    dsimp only at hs
    unfold PB at ih ⊢
    rw [hs]
    dsimp only
    rw [View.writes_append, View.writes_append, View.writes_append]
    refine (trip_st0 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 _ _ _ ⟨n, hn⟩).trans ?_
    rw [ih, hK, hV]
    rfl

theorem loop_st1 (K V : FVec Ideal S1x2176x256 .bf16)
    (hK : ∀ k, kt i arg10 X_arg10 k = tile K k.val) (hV : ∀ k, vt i arg11 X_arg11 k = tile V k.val) (n : ℕ)
    (hn : n ≤ (k1_t1_loop i).trips) :
    st1 arg14 arg15 arg16 (arg14.view.writes (Elt Ideal) G14 (PB 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 G14 G15 G16 n).1)
      (arg15.view.writes (Elt Ideal) G15 (PB 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 G14 G15 G16 n).2.1)
      (arg16.view.writes (Elt Ideal) G16 (PB 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 G14 G15 G16 n).2.2)
      = farSt (prod1 v12) K V (rb i arg3 X_arg3 1) (st1 arg14 arg15 arg16 G14 G15 G16) n := by
  induction n with
  | zero => rfl
  | succ n ih =>
    have ih := ih (Nat.le_of_succ_le hn)
    have hs := pb_k1_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 G14 G15 G16 ⟨n, hn⟩
    dsimp only at hs
    unfold PB at ih ⊢
    rw [hs]
    dsimp only
    rw [View.writes_append, View.writes_append, View.writes_append]
    refine (trip_st1 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 v12 X_arg3 X_arg10 X_arg11 _ _ _ ⟨n, hn⟩).trans ?_
    rw [ih, hK, hV]
    rfl

end Cert.AttnIdeal.Hand
-- ==== Proof.AttnSum.lean ====
/- The tiles one query row reads, put together: far tiles, then the three next to the diagonal. -/
module

public import proofs.«01_k».proof.Proof.AttnRow
public import proofs.«01_k».proof.Proof.AttnLoop
public import Idealize.ShloMosaic.Lib.Pipeline.ValueKit

@[expose] public section

set_option maxRecDepth 16384

noncomputable section

namespace Cert.AttnIdeal.Hand

open Idealize.ShloMosaic Idealize.ShloMosaic.TcCoe Idealize.SL.Sem
open Cert.AttnIdeal Cert.AttnIdeal.Gen Cert.Proof.Softmax

/-- A sum over the tiles, when nothing lies beyond the tile after the diagonal. -/
theorem sum_tiles (f : ℕ → ℝ) (a : ℕ) (ha : a < 17) (hf : ∀ j, a + 2 ≤ j → f j = 0) :
    ∑ j ∈ Finset.range (a - 1), f j + (if 1 ≤ a then f (a - 1) else 0) + f a + (if a ≤ 15 then f (a + 1) else 0)
      = ∑ j ∈ Finset.range 17, f j := by
  have h1 : ∑ j ∈ Finset.range (a - 1), f j + (if 1 ≤ a then f (a - 1) else 0) = ∑ j ∈ Finset.range a, f j := by
    rcases a with _ | a
    · simp
    · simp [Finset.sum_range_succ]
  rw [h1, ← Finset.sum_range_succ]
  by_cases h : a ≤ 15
  · rw [if_pos h, ← Finset.sum_range_succ]
    refine Finset.sum_subset (fun x hx => ?_) (fun x hx hn => hf x ?_)
    · simp only [Finset.mem_range] at hx ⊢; omega
    · simp only [Finset.mem_range] at hx hn; omega
  · rw [if_neg h, show a = 16 by omega, add_zero]

variable (S : ℕ → EReal) (vr : ℕ → Fin 256 → ℝ)

/-- The weight of tile `j`. -/
def T (j : ℕ) : ℝ := ∑ c : Fin 128, E (S (128 * j + c.val))

/-- Its weighted values. -/
def TV (d : Fin 256) (j : ℕ) : ℝ := ∑ c : Fin 128, E (S (128 * j + c.val)) * vr (128 * j + c.val) d

theorem T_sum : ∑ j ∈ Finset.range 17, T S j = ∑ p : Fin 2176, E (S p.val) := by
  rw [Finset.sum_range]
  refine Eq.symm ((Fin.sum_univ_tiles 17 128 rfl fun p : Fin 2176 => E (S p.val)).trans ?_)
  refine Finset.sum_congr rfl fun j _ => Finset.sum_congr rfl fun c _ => ?_
  show E (S (j.val * 128 + c.val)) = _
  rw [mul_comm]

theorem TV_sum (d : Fin 256) : ∑ j ∈ Finset.range 17, TV S vr d j = ∑ p : Fin 2176, E (S p.val) * vr p.val d := by
  rw [Finset.sum_range]
  refine Eq.symm ((Fin.sum_univ_tiles 17 128 rfl fun p : Fin 2176 => E (S p.val) * vr p.val d).trans ?_)
  refine Finset.sum_congr rfl fun j _ => Finset.sum_congr rfl fun c _ => ?_
  show E (S (j.val * 128 + c.val)) * vr (j.val * 128 + c.val) d = _
  rw [mul_comm j.val]

theorem tile_at (X : FVec Ideal S1x2176x256 .bf16) (j : ℕ) (hj : j < 17) (k : Fin 128) (d : Fin 256) :
    tile X j (ix3 0 k d) = X (ix3 0 ⟨128 * j + k.val, by omega⟩ d) := by
  show X (ix3 0 (Fin.ofNat 2176 (128 * j + k.val)) d) = _
  have e : Fin.ofNat 2176 (128 * j + k.val) = (⟨128 * j + k.val, by omega⟩ : Fin 2176) :=
    Fin.ext (Nat.mod_eq_of_lt (by omega))
  rw [e]

section Row
variable (P : FVec Ideal S1x128x256 .bf16 → FVec Ideal S128x128 .f32) (K V : FVec Ideal S1x2176x256 .bf16) (b : Ideal .f32) (r : Fin 128)
  (hS : ∀ p, S p ≠ ⊤) (hV : ∀ (p : Fin 2176) (d : Fin 256), V (ix3 0 p d) = ((vr p.val d : ℝ) : EReal))
include hS hV

/-- A tile whose scores are those of keys `128 j …`. -/
theorem step_tile {σ : St} {SE : ℝ} {SV : Fin 256 → ℝ} (h : RowOK σ r SE SV) (sc : FVec Ideal S128x128 .f32) (j : ℕ) (hj : j < 17)
    (hsc : ∀ c : Fin 128, sc (ix2 r c) = S (128 * j + c.val)) :
    RowOK (σ.step sc (tile V j)) r (SE + T S j) (fun d => SV d + TV S vr d j) := by
  have h1 := h.step sc (tile V j) (fun k => by rw [hsc k]; exact hS _) (fun k d => vr (128 * j + k.val) d)
    (fun k d => by rw [tile_at V j hj k d]; exact hV _ d)
  simp only [hsc] at h1
  exact h1

/-- A tile the mask hides whole. -/
theorem step_none {σ : St} {SE : ℝ} {SV : Fin 256 → ℝ} (h : RowOK σ r SE SV) (sc : FVec Ideal S128x128 .f32) (j : ℕ) (hj : j < 17)
    (hsc : ∀ c : Fin 128, sc (ix2 r c) = (⊥ : EReal)) :
    RowOK (σ.step sc (tile V j)) r (SE + 0) (fun d => SV d + 0) := by
  have h1 := h.step sc (tile V j) (fun k => by rw [hsc k]; exact bot_ne_top) (fun k d => vr (128 * j + k.val) d)
    (fun k d => by rw [tile_at V j hj k d]; exact hV _ d)
  simp only [hsc, E_bot, zero_mul, Finset.sum_const_zero] at h1
  exact h1

/-- The far tiles. -/
theorem far_row (n : ℕ) (hn : n ≤ 17) (hsc : ∀ j < n, ∀ c : Fin 128, far (P (tile K j)) b (ix2 r c) = S (128 * j + c.val)) :
    RowOK (farSt P K V b St.init n) r (∑ j ∈ Finset.range n, T S j) (fun d => ∑ j ∈ Finset.range n, TV S vr d j) := by
  induction n with
  | zero => exact RowOK.init r
  | succ n ih =>
    simp only [Finset.sum_range_succ]
    exact step_tile S vr V r hS hV (ih (by omega) fun j hj => hsc j (by omega)) _ n (by omega) (hsc n (by omega))

/-- A whole row: the far tiles, the tile before the diagonal's, the diagonal's and the one after. -/
theorem whole_row (a : Fin 17) (s0 s1 s2 : FVec Ideal S128x128 .f32)
    (hfar : ∀ j < a.val - 1, ∀ c : Fin 128, far (P (tile K j)) b (ix2 r c) = S (128 * j + c.val))
    (h0 : ∀ c : Fin 128, s0 (ix2 r c) = if 1 ≤ a.val then S (128 * (a.val - 1) + c.val) else ⊥)
    (h1 : ∀ c : Fin 128, s1 (ix2 r c) = S (128 * a.val + c.val))
    (h2 : ∀ c : Fin 128, s2 (ix2 r c) = if a.val ≤ 15 then S (128 * (a.val + 1) + c.val) else ⊥)
    (hend : ∀ p, 128 * (a.val + 2) ≤ p → S p = ⊥) :
    RowOK ((((farSt P K V b St.init (a.val - 1)).step s0 (tile V (near_ix a.val (0 : Fin 3).val))).step
      s1 (tile V (near_ix a.val (1 : Fin 3).val))).step s2 (tile V (near_ix a.val (2 : Fin 3).val))) r
      (∑ p : Fin 2176, E (S p.val)) (fun d => ∑ p : Fin 2176, E (S p.val) * vr p.val d) := by
  have ha := a.isLt
  have hT : ∀ j, a.val + 2 ≤ j → T S j = 0 := fun j hj =>
    Finset.sum_eq_zero fun c _ => by rw [hend _ (by omega), E_bot]
  have hTV : ∀ d j, a.val + 2 ≤ j → TV S vr d j = 0 := fun d j hj =>
    Finset.sum_eq_zero fun c _ => by rw [hend _ (by omega), E_bot, zero_mul]
  rw [← T_sum, ← sum_tiles (T S) a.val ha hT]
  simp only [← TV_sum S vr, fun d => (sum_tiles (TV S vr d) a.val ha (hTV d)).symm]
  have f := far_row S vr P K V b r hS hV (a.val - 1) (by omega) hfar
  have f0 : RowOK ((farSt P K V b St.init (a.val - 1)).step s0 (tile V (near_ix a.val (0 : Fin 3).val))) r
      (∑ j ∈ Finset.range (a.val - 1), T S j + if 1 ≤ a.val then T S (a.val - 1) else 0)
      (fun d => ∑ j ∈ Finset.range (a.val - 1), TV S vr d j + if 1 ≤ a.val then TV S vr d (a.val - 1) else 0) := by
    by_cases h : 1 ≤ a.val
    · simp only [if_pos h] at h0 ⊢
      have e : near_ix a.val (0 : Fin 3).val = a.val - 1 := by show min 16 (a.val + 0 - 1) = _; omega
      rw [e]
      exact step_tile S vr V r hS hV f _ _ (by omega) h0
    · simp only [if_neg h] at h0 ⊢
      exact step_none S vr V r hS hV f _ _ (by show min 16 _ < 17; omega) h0
  have f1 := step_tile S vr V r hS hV f0 s1 a.val ha h1
  have e1 : near_ix a.val (1 : Fin 3).val = a.val := by show min 16 (a.val + 1 - 1) = _; omega
  rw [e1]
  by_cases h : a.val ≤ 15
  · have e2 : near_ix a.val (2 : Fin 3).val = a.val + 1 := by show min 16 (a.val + 2 - 1) = _; omega
    simp only [if_pos h] at h2 ⊢
    rw [e2]
    exact step_tile S vr V r hS hV f1 _ _ (by omega) h2
  · simp only [if_neg h] at h2 ⊢
    exact step_none S vr V r hS hV f1 _ _ (by show min 16 _ < 17; omega) h2

end Row

end Cert.AttnIdeal.Hand

end
-- ==== Proof.AttnLaunch.lean ====
/- The launch of the attention: what the result array holds at the end. -/
module

public import proofs.«01_k».proof.Proof.Gen.AttnIdeal.Launch
public import proofs.«01_k».proof.Proof.Gen.AttnIdeal.Skeleton
public import proofs.«01_k».proof.Proof.Gen.AttnIdeal.Points
public import proofs.«01_k».proof.Proof.Gen.AttnIdeal.Frame
public import Idealize.ShloMosaic.Lib.Pipeline.FrameBody
public import proofs.«01_k».proof.Proof.Gen.AttnIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch: the arguments end as they were, and the result array holds what the second region leaves. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v26) = (dat1 (V3 m ρ) c).arrAt 10 cfg1.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_v26 (by decide))).trans (W4_arr m ρ c 10)⟩), funext fun g => hz g (.inr (no_unscoped g.2))⟩)

end Cert.AttnIdeal.Hand

end
-- ==== Proof.AttnBody.lean ====
/- What one grid point of the attention kernel leaves in its output block, as tile steps on the two running states. -/
module

public import proofs.«01_k».proof.Proof.Gen.AttnIdeal.Frame
public import proofs.«01_k».proof.Proof.AttnLoop
public import Idealize.ShloMosaic.Lib.VecWindow
public import Idealize.ShloMosaic.Lib.Pipeline.ValueKit

@[expose] public section

set_option maxRecDepth 16384

noncomputable section

namespace Cert.AttnIdeal.Hand

open Idealize.ShloMosaic Idealize.ShloMosaic.TcCoe Idealize.SL.Sem
open Cert.AttnIdeal Cert.AttnIdeal.Gen

variable (c : Dev nD) (i : grid1.Coords) (arg3 : Memref sig .tc .smem S32x8 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x256 .f32) (harg8 : arg8.IsWhole) (arg9 : Memref sig .tc .vmem S1x128x256 .bf16) (harg9 : arg9.IsWhole) (arg10 : Memref sig .tc .vmem S1x2176x256 .bf16) (harg10 : arg10.IsWhole) (arg11 : Memref sig .tc .vmem S1x2176x256 .bf16) (harg11 : arg11.IsWhole) (arg12 : Memref sig .tc .vmem S2x128x384 .f32) (harg12 : arg12.IsWhole) (arg13 : Memref sig .tc .vmem S1x128x256 .bf16) (harg13 : arg13.IsWhole) (arg14 : Memref sig .tc .vmem S2x128x1 .f32) (harg14 : arg14.IsWhole) (arg15 : Memref sig .tc .vmem S2x128x1 .f32) (harg15 : arg15.IsWhole) (arg16 : Memref sig .tc .vmem S2x128x256 .f32) (harg16 : arg16.IsWhole)
    (x0 : Vec Ideal S32x8 .f32) (x1 : Vec Ideal S1x128 .f32) (x2 : Vec Ideal S1x128 .f32) (x3 : Vec Ideal S1x128 .f32) (x4 : Vec Ideal S1x128 .f32) (x5 : Vec Ideal S1x256 .f32) (x6 : Vec Ideal S1x128x256 .bf16) (x7 : Vec Ideal S1x2176x256 .bf16) (x8 : Vec Ideal S1x2176x256 .bf16) (x9 : Vec Ideal S2x128x384 .f32)

/-- The key tile loaded for the tile `r - 1` places from the diagonal. -/
abbrev kn (r : Fin 3) : FVec Ideal S1x128x256 .bf16 :=
  arg10.view.readAt (Elt Ideal) (Rect.unit (s := S1x2176x256) (k1_off5 i (k1_off5_at r)) S1x128x256.size (k1_off5_inb i r)).toLoadRect (harg10.unread x7)

/-- The value tile loaded for the tile `r - 1` places from the diagonal. -/
abbrev vn (r : Fin 3) : FVec Ideal S1x128x256 .bf16 :=
  arg11.view.readAt (Elt Ideal) (Rect.unit (s := S1x2176x256) (k1_off5 i (k1_off5_at r)) S1x128x256.size (k1_off5_inb i r)).toLoadRect (harg11.unread x8)

/-- The query tile. -/
abbrev qq : FVec Ideal S1x128x256 .bf16 :=
  arg9.view.readAt (Elt Ideal) (Rect.unit (s := S1x128x256) ![0, 0, 0] S1x128x256.size inb_S1x128x256_S1x128x256_0_0_0).toLoadRect (harg9.unread x6)

/-- The first state after the loop. -/
def Z0 : St := ⟨kernelRun1_A.sl.v44 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8, kernelRun1_A.sl.v54 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8, kernelRun1_A.sl.v63 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8⟩

/-- The first state after the tile before the diagonal. -/
def A0 : St := ⟨kernelRun1_A.sl.v141 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9, kernelRun1_A.sl.v151 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9, kernelRun1_A.sl.v160 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9⟩

/-- The first state after the diagonal tile. -/
def B0 : St := ⟨kernelRun1_A.sl.v238 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9, kernelRun1_A.sl.v248 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9, kernelRun1_A.sl.v257 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9⟩

/-- The second state after the loop. -/
def Z1 : St := ⟨kernelRun1_A.sl.v86 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9, kernelRun1_A.sl.v96 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9, kernelRun1_A.sl.v105 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9⟩

/-- The second state after the tile before the diagonal. -/
def A1 : St := ⟨kernelRun1_A.sl.v183 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9, kernelRun1_A.sl.v193 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9, kernelRun1_A.sl.v202 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9⟩

/-- The second state after the diagonal tile. -/
def B1 : St := ⟨kernelRun1_A.sl.v280 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9, kernelRun1_A.sl.v290 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9, kernelRun1_A.sl.v299 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9⟩

theorem A0_eq : A0 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9 = (Z0 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8).step (near (prod0 (qq arg9 harg9 x6) (kn i arg10 harg10 x7 0)) (arg12.view.readAt (Elt Ideal) (Rect.unit (s := S2x128x384) ![0, 0, 0] S1x128x128.size inb_S2x128x384_S1x128x128_0_0_0).toLoadRect (harg12.unread x9)) (pen (BitVec.ofNat 32 (i 2).val) 4294967295#32)) (vn i arg11 harg11 x8 0) := by
  unfold A0 Z0
  unfold kernelRun1_A.sl.v141 kernelRun1_A.sl.v151 kernelRun1_A.sl.v160 kernelRun1_A.sl.HS0_2 kernelRun1_A.sl.HS0_1_1 kernelRun1_A.sl.HS1_2 kernelRun1_A.sl.HS1_1_1 kernelRun1_A.sl.HS2_2 kernelRun1_A.sl.HS2_1_1 View.readCov
  rw [readAt_other arg14.view _ _ _ _ _ 0 (.inl (by decide)), readAt_other arg15.view _ _ _ _ _ 0 (.inl (by decide)), readAt_other arg16.view _ _ _ _ _ 0 (.inl (by decide)),
    readAt_same, readAt_same, readAt_same]
  rfl

theorem A1_eq : A1 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9 = (Z1 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9).step (near (prod1 (qq arg9 harg9 x6) (kn i arg10 harg10 x7 0)) (arg12.view.readAt (Elt Ideal) (Rect.unit (s := S2x128x384) ![1, 0, 0] S1x128x128.size inb_S2x128x384_S1x128x128_1_0_0).toLoadRect (harg12.unread x9)) (pen (BitVec.ofNat 32 (i 2).val) 4294967295#32)) (vn i arg11 harg11 x8 0) := by
  unfold A1 Z1
  unfold kernelRun1_A.sl.v183 kernelRun1_A.sl.v193 kernelRun1_A.sl.v202 kernelRun1_A.sl.HS0_3 kernelRun1_A.sl.HS0_2 kernelRun1_A.sl.HS1_3 kernelRun1_A.sl.HS1_2 kernelRun1_A.sl.HS2_3 kernelRun1_A.sl.HS2_2 View.readCov
  rw [readAt_other arg14.view _ _ _ _ _ 0 (.inr (by decide)), readAt_other arg15.view _ _ _ _ _ 0 (.inr (by decide)), readAt_other arg16.view _ _ _ _ _ 0 (.inr (by decide)),
    readAt_same, readAt_same, readAt_same]
  rfl

theorem B0_eq : B0 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9 = (A0 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9).step (near (prod0 (qq arg9 harg9 x6) (kn i arg10 harg10 x7 1)) (arg12.view.readAt (Elt Ideal) (Rect.unit (s := S2x128x384) ![0, 0, 128] S1x128x128.size inb_S2x128x384_S1x128x128_0_0_128).toLoadRect (harg12.unread x9)) (pen (BitVec.ofNat 32 (i 2).val) 0#32)) (vn i arg11 harg11 x8 1) := by
  unfold B0 A0
  unfold kernelRun1_A.sl.v238 kernelRun1_A.sl.v248 kernelRun1_A.sl.v257 kernelRun1_A.sl.HS0_4 kernelRun1_A.sl.HS0_3 kernelRun1_A.sl.HS1_4 kernelRun1_A.sl.HS1_3 kernelRun1_A.sl.HS2_4 kernelRun1_A.sl.HS2_3 View.readCov
  rw [readAt_other arg14.view _ _ _ _ _ 0 (.inl (by decide)), readAt_other arg15.view _ _ _ _ _ 0 (.inl (by decide)), readAt_other arg16.view _ _ _ _ _ 0 (.inl (by decide)),
    readAt_same, readAt_same, readAt_same]
  rfl

theorem B1_eq : B1 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9 = (A1 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9).step (near (prod1 (qq arg9 harg9 x6) (kn i arg10 harg10 x7 1)) (arg12.view.readAt (Elt Ideal) (Rect.unit (s := S2x128x384) ![1, 0, 128] S1x128x128.size inb_S2x128x384_S1x128x128_1_0_128).toLoadRect (harg12.unread x9)) (pen (BitVec.ofNat 32 (i 2).val) 0#32)) (vn i arg11 harg11 x8 1) := by
  unfold B1 A1
  unfold kernelRun1_A.sl.v280 kernelRun1_A.sl.v290 kernelRun1_A.sl.v299 kernelRun1_A.sl.HS0_5 kernelRun1_A.sl.HS0_4 kernelRun1_A.sl.HS1_5 kernelRun1_A.sl.HS1_4 kernelRun1_A.sl.HS2_5 kernelRun1_A.sl.HS2_4 View.readCov
  rw [readAt_other arg14.view _ _ _ _ _ 0 (.inr (by decide)), readAt_other arg15.view _ _ _ _ _ 0 (.inr (by decide)), readAt_other arg16.view _ _ _ _ _ 0 (.inr (by decide)),
    readAt_same, readAt_same, readAt_same]
  rfl

theorem C0_l : kernelRun1_A.sl.v333 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9 = ((B0 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9).step (near (prod0 (qq arg9 harg9 x6) (kn i arg10 harg10 x7 2)) (arg12.view.readAt (Elt Ideal) (Rect.unit (s := S2x128x384) ![0, 0, 256] S1x128x128.size inb_S2x128x384_S1x128x128_0_0_256).toLoadRect (harg12.unread x9)) (pen (BitVec.ofNat 32 (i 2).val) 1#32)) (vn i arg11 harg11 x8 2)).l := by
  unfold B0 kernelRun1_A.sl.v333 kernelRun1_A.sl.HS1_6 kernelRun1_A.sl.HS1_5 View.readCov
  rw [readAt_other arg15.view _ _ _ _ _ 0 (.inl (by decide)), readAt_same]
  rfl

theorem C0_a : kernelRun1_A.sl.v331 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9 = ((B0 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9).step (near (prod0 (qq arg9 harg9 x6) (kn i arg10 harg10 x7 2)) (arg12.view.readAt (Elt Ideal) (Rect.unit (s := S2x128x384) ![0, 0, 256] S1x128x128.size inb_S2x128x384_S1x128x128_0_0_256).toLoadRect (harg12.unread x9)) (pen (BitVec.ofNat 32 (i 2).val) 1#32)) (vn i arg11 harg11 x8 2)).a := by
  unfold B0 kernelRun1_A.sl.v331 kernelRun1_A.sl.HS2_6 kernelRun1_A.sl.HS2_5 View.readCov
  rw [readAt_other arg16.view _ _ _ _ _ 0 (.inl (by decide)), readAt_same]
  rfl

theorem C1_l : kernelRun1_A.sl.v339 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9 = ((B1 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9).step (near (prod1 (qq arg9 harg9 x6) (kn i arg10 harg10 x7 2)) (arg12.view.readAt (Elt Ideal) (Rect.unit (s := S2x128x384) ![1, 0, 256] S1x128x128.size inb_S2x128x384_S1x128x128_1_0_256).toLoadRect (harg12.unread x9)) (pen (BitVec.ofNat 32 (i 2).val) 1#32)) (vn i arg11 harg11 x8 2)).l := by
  unfold B1 kernelRun1_A.sl.v339 kernelRun1_A.sl.HS1_6 View.readCov
  rw [readAt_same]
  rfl

theorem C1_a : kernelRun1_A.sl.v337 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9 = ((B1 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9).step (near (prod1 (qq arg9 harg9 x6) (kn i arg10 harg10 x7 2)) (arg12.view.readAt (Elt Ideal) (Rect.unit (s := S2x128x384) ![1, 0, 256] S1x128x128.size inb_S2x128x384_S1x128x128_1_0_256).toLoadRect (harg12.unread x9)) (pen (BitVec.ofNat 32 (i 2).val) 1#32)) (vn i arg11 harg11 x8 2)).a := by
  unfold B1 kernelRun1_A.sl.v337 kernelRun1_A.sl.HS2_6 View.readCov
  rw [readAt_same]
  rfl

end Cert.AttnIdeal.Hand
-- ==== Proof.AttnPoint.lean ====
/- One grid point of the attention kernel over its input blocks alone. -/
module

public import proofs.«01_k».proof.Proof.Gen.AttnIdeal.Frame
public import proofs.«01_k».proof.Proof.AttnBody
public import Idealize.ShloMosaic.Lib.VecWindow
public import Idealize.ShloMosaic.Lib.Pipeline.ValueKit

@[expose] public section

set_option maxRecDepth 16384

noncomputable section

namespace Cert.AttnIdeal.Hand

open Idealize.ShloMosaic Idealize.ShloMosaic.TcCoe Idealize.SL.Sem
open Cert.AttnIdeal Cert.AttnIdeal.Gen

/-- The bias block of sub-map `s` for the tile `r - 1` places from the diagonal. -/
def wtile (X : FVec Ideal S2x128x384 .f32) (s : Fin 2) (r : Fin 3) : FVec Ideal S1x128x128 .f32 :=
  fun y => X (ix3 s (y 1) ⟨128 * r.val + (y 2).val, by have : (y 2).val < 128 := (y 2).isLt; omega⟩)

/-- The first sub-map's state after the last tile, over the blocks. -/
def run0 (h : Fin 4) (a : Fin 17) (x0 : FVec Ideal S32x8 .f32) (x6 : FVec Ideal S1x128x256 .bf16)
    (x7 x8 : FVec Ideal S1x2176x256 .bf16) (x9 : FVec Ideal S2x128x384 .f32) : St :=
  (((farSt (prod0 x6) x7 x8 (x0 (ix2 15 ⟨2 * h.val + 0, by omega⟩)) St.init (a.val - 1)).step
    (near (prod0 x6 (tile x7 (near_ix a.val (0 : Fin 3).val))) (wtile x9 0 0) (pen (BitVec.ofNat 32 a.val) 4294967295#32))
      (tile x8 (near_ix a.val (0 : Fin 3).val))).step
    (near (prod0 x6 (tile x7 (near_ix a.val (1 : Fin 3).val))) (wtile x9 0 1) (pen (BitVec.ofNat 32 a.val) 0#32))
      (tile x8 (near_ix a.val (1 : Fin 3).val))).step
    (near (prod0 x6 (tile x7 (near_ix a.val (2 : Fin 3).val))) (wtile x9 0 2) (pen (BitVec.ofNat 32 a.val) 1#32))
      (tile x8 (near_ix a.val (2 : Fin 3).val))

/-- The second sub-map's state after the last tile, over the blocks. -/
def run1 (h : Fin 4) (a : Fin 17) (x0 : FVec Ideal S32x8 .f32) (x6 : FVec Ideal S1x128x256 .bf16)
    (x7 x8 : FVec Ideal S1x2176x256 .bf16) (x9 : FVec Ideal S2x128x384 .f32) : St :=
  (((farSt (prod1 x6) x7 x8 (x0 (ix2 15 ⟨2 * h.val + 1, by omega⟩)) St.init (a.val - 1)).step
    (near (prod1 x6 (tile x7 (near_ix a.val (0 : Fin 3).val))) (wtile x9 1 0) (pen (BitVec.ofNat 32 a.val) 4294967295#32))
      (tile x8 (near_ix a.val (0 : Fin 3).val))).step
    (near (prod1 x6 (tile x7 (near_ix a.val (1 : Fin 3).val))) (wtile x9 1 1) (pen (BitVec.ofNat 32 a.val) 0#32))
      (tile x8 (near_ix a.val (1 : Fin 3).val))).step
    (near (prod1 x6 (tile x7 (near_ix a.val (2 : Fin 3).val))) (wtile x9 1 2) (pen (BitVec.ofNat 32 a.val) 1#32))
      (tile x8 (near_ix a.val (2 : Fin 3).val))

variable (c : Dev nD) (i : grid1.Coords) (arg3 : Memref sig .tc .smem S32x8 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x256 .f32) (harg8 : arg8.IsWhole) (arg9 : Memref sig .tc .vmem S1x128x256 .bf16) (harg9 : arg9.IsWhole) (arg10 : Memref sig .tc .vmem S1x2176x256 .bf16) (harg10 : arg10.IsWhole) (arg11 : Memref sig .tc .vmem S1x2176x256 .bf16) (harg11 : arg11.IsWhole) (arg12 : Memref sig .tc .vmem S2x128x384 .f32) (harg12 : arg12.IsWhole) (arg13 : Memref sig .tc .vmem S1x128x256 .bf16) (harg13 : arg13.IsWhole) (arg14 : Memref sig .tc .vmem S2x128x1 .f32) (harg14 : arg14.IsWhole) (arg15 : Memref sig .tc .vmem S2x128x1 .f32) (harg15 : arg15.IsWhole) (arg16 : Memref sig .tc .vmem S2x128x256 .f32) (harg16 : arg16.IsWhole)
    (x0 : Vec Ideal S32x8 .f32) (x1 : Vec Ideal S1x128 .f32) (x2 : Vec Ideal S1x128 .f32) (x3 : Vec Ideal S1x128 .f32) (x4 : Vec Ideal S1x128 .f32) (x5 : Vec Ideal S1x256 .f32) (x6 : Vec Ideal S1x128x256 .bf16) (x7 : Vec Ideal S1x2176x256 .bf16) (x8 : Vec Ideal S1x2176x256 .bf16) (x9 : Vec Ideal S2x128x384 .f32)

theorem qq_eq : qq arg9 harg9 x6 = x6 := by
  unfold qq
  rw [View.readAt_unit _ _ _ rfl inb_S1x128x256_S1x128x256_0_0_0, harg9.read_unread]
  exact congrArg (fun g => x6 ∘ g) (funext fun z => Rect.emb_unit_full _ z)

theorem kn_eq (r : Fin 3) : kn i arg10 harg10 x7 r = tile x7 (near_ix (i 2).val r.val) := by
  have h := off5 i r
  unfold kn
  rw [View.readAt_unit _ _ _ h (h ▸ k1_off5_inb i r), harg10.read_unread]
  exact window_tile _ _ (Nat.min_le_left _ _) _

theorem vn_eq (r : Fin 3) : vn i arg11 harg11 x8 r = tile x8 (near_ix (i 2).val r.val) := by
  have h := off5 i r
  unfold vn
  rw [View.readAt_unit _ _ _ h (h ▸ k1_off5_inb i r), harg11.read_unread]
  exact window_tile _ _ (Nat.min_le_left _ _) _

theorem kt_eq (k : Fin (k1_t1_loop i).trips) : kt i arg10 (harg10.unread x7) k = tile x7 k.val := by
  have h := off1 i k
  have hk : k.val < 15 := lt_of_lt_of_le k.isLt (k1_t1_abs i).2.1
  unfold kt
  rw [View.readAt_unit _ _ _ h (h ▸ k1_off1_inb i k), harg10.read_unread]
  exact window_tile _ _ (by omega) _

theorem vt_eq (k : Fin (k1_t1_loop i).trips) : vt i arg11 (harg11.unread x8) k = tile x8 k.val := by
  have h := off1 i k
  have hk : k.val < 15 := lt_of_lt_of_le k.isLt (k1_t1_abs i).2.1
  unfold vt
  rw [View.readAt_unit _ _ _ h (h ▸ k1_off1_inb i k), harg11.read_unread]
  exact window_tile _ _ (by omega) _

theorem rb_eq (n : Fin 2) : rb i arg3 (harg3.unread x0) n
    = x0 (ix2 15 ⟨2 * (i 1).val + n.val, by have : (i 1).val < 4 := (i 1).isLt; omega⟩) := by
  have h := off2 i n
  unfold rb
  rw [View.readAt_unit _ _ _ h (h ▸ k1_off2_inb i n), harg3.read_unread]
  refine congrArg x0 (funext fun a => Fin.ext ?_)
  match a with
  | 0 => rfl
  | 1 => rfl

/-- The three scratch buffers start as the kernel fills them. -/
theorem start0 :
    st0 arg14 arg15 arg16 (arg14.view.writes (Elt Ideal) arg14.view.junk kernelRun1_A.sl.HS0_1) (arg15.view.writes (Elt Ideal) arg15.view.junk kernelRun1_A.sl.HS1_1)
      (arg16.view.writes (Elt Ideal) arg16.view.junk kernelRun1_A.sl.HS2_1) = St.init := by
  unfold st0 kernelRun1_A.sl.HS0_1 kernelRun1_A.sl.HS1_1 kernelRun1_A.sl.HS2_1
  rw [View.readAt_unit _ _ _ rfl inb_S2x128x1_S1x128x1_0_0_0, View.readAt_unit _ _ _ rfl inb_S2x128x1_S1x128x1_0_0_0,
    View.readAt_unit _ _ _ rfl inb_S2x128x256_S1x128x256_0_0_0]
  erw [View.read_writes_full, View.read_writes_full, View.read_writes_full]
  rfl

theorem start1 :
    st1 arg14 arg15 arg16 (arg14.view.writes (Elt Ideal) arg14.view.junk kernelRun1_A.sl.HS0_1) (arg15.view.writes (Elt Ideal) arg15.view.junk kernelRun1_A.sl.HS1_1)
      (arg16.view.writes (Elt Ideal) arg16.view.junk kernelRun1_A.sl.HS2_1) = St.init := by
  unfold st1 kernelRun1_A.sl.HS0_1 kernelRun1_A.sl.HS1_1 kernelRun1_A.sl.HS2_1
  rw [View.readAt_unit _ _ _ rfl inb_S2x128x1_S1x128x1_1_0_0, View.readAt_unit _ _ _ rfl inb_S2x128x1_S1x128x1_1_0_0,
    View.readAt_unit _ _ _ rfl inb_S2x128x256_S1x128x256_1_0_0]
  erw [View.read_writes_full, View.read_writes_full, View.read_writes_full]
  rfl

theorem Z0_eq : Z0 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 = farSt (prod0 x6) x7 x8
    (x0 (ix2 15 ⟨2 * (i 1).val + 0, by have : (i 1).val < 4 := (i 1).isLt; omega⟩)) St.init ((i 2).val - 1) := by
  have h := loop_st0 Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (qq arg9 harg9 x6) (harg3.unread x0) (harg10.unread x7) (harg11.unread x8)
    (arg14.view.writes (Elt Ideal) arg14.view.junk kernelRun1_A.sl.HS0_1) (arg15.view.writes (Elt Ideal) arg15.view.junk kernelRun1_A.sl.HS1_1)
    (arg16.view.writes (Elt Ideal) arg16.view.junk kernelRun1_A.sl.HS2_1) x7 x8 (fun k => kt_eq i arg10 harg10 x7 k) (fun k => vt_eq i arg11 harg11 x8 k) _ le_rfl
  rw [start0, qq_eq, rb_eq] at h
  rw [trips1 i] at h
  refine Eq.trans ?_ h
  have ht : Scf.trips (k1_t2_loop i).lb (k1_t2_loop i).ub (k1_t2_loop i).st = 0 := trips2 i
  have ht1 : Scf.trips (k1_t1_loop i).lb (k1_t1_loop i).ub (k1_t1_loop i).st = (i 2).val - 1 := trips1 i
  unfold Z0 st0 kernelRun1_A.sl.v44 kernelRun1_A.sl.v54 kernelRun1_A.sl.v63 View.readCov
  rw [ht, ht1]
  simp only [pb_k1_t2.eq_1, List.nil_append, View.writes_append]
  have hq : arg9.view.readAt (Elt Ideal) (Rect.unit (s := S1x128x256) ![0, 0, 0] S1x128x256.size inb_S1x128x256_S1x128x256_0_0_0).toLoadRect (harg9.unread x6) = x6 := qq_eq arg9 harg9 x6
  rw [hq]

theorem Z1_eq : Z1 c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9 = farSt (prod1 x6) x7 x8
    (x0 (ix2 15 ⟨2 * (i 1).val + 1, by have : (i 1).val < 4 := (i 1).isLt; omega⟩)) St.init ((i 2).val - 1) := by
  have h := loop_st1 Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (qq arg9 harg9 x6) (harg3.unread x0) (harg10.unread x7) (harg11.unread x8)
    (arg14.view.writes (Elt Ideal) arg14.view.junk kernelRun1_A.sl.HS0_1) (arg15.view.writes (Elt Ideal) arg15.view.junk kernelRun1_A.sl.HS1_1)
    (arg16.view.writes (Elt Ideal) arg16.view.junk kernelRun1_A.sl.HS2_1) x7 x8 (fun k => kt_eq i arg10 harg10 x7 k) (fun k => vt_eq i arg11 harg11 x8 k) _ le_rfl
  rw [start1, qq_eq, rb_eq] at h
  rw [trips1 i] at h
  refine Eq.trans ?_ h
  have ht : Scf.trips (k1_t2_loop i).lb (k1_t2_loop i).ub (k1_t2_loop i).st = 0 := trips2 i
  have ht1 : Scf.trips (k1_t1_loop i).lb (k1_t1_loop i).ub (k1_t1_loop i).st = (i 2).val - 1 := trips1 i
  unfold Z1 st1 kernelRun1_A.sl.v86 kernelRun1_A.sl.v96 kernelRun1_A.sl.v105 kernelRun1_A.sl.HS0_1_1 kernelRun1_A.sl.HS1_1_1 kernelRun1_A.sl.HS2_1_1 View.readCov
  rw [readAt_other arg14.view _ _ _ _ _ 0 (.inr (by decide)), readAt_other arg15.view _ _ _ _ _ 0 (.inr (by decide)), readAt_other arg16.view _ _ _ _ _ 0 (.inr (by decide))]
  rw [ht, ht1]
  simp only [pb_k1_t2.eq_1, List.nil_append, View.writes_append]
  have hq : arg9.view.readAt (Elt Ideal) (Rect.unit (s := S1x128x256) ![0, 0, 0] S1x128x256.size inb_S1x128x256_S1x128x256_0_0_0).toLoadRect (harg9.unread x6) = x6 := qq_eq arg9 harg9 x6
  rw [hq]

end Cert.AttnIdeal.Hand
-- ==== Proof.AttnOut.lean ====
/- The block one grid point of the attention kernel writes, as a function of its input blocks. -/
module

public import proofs.«01_k».proof.Proof.Gen.AttnIdeal.Frame
public import proofs.«01_k».proof.Proof.AttnPoint
public import Idealize.ShloMosaic.Lib.VecWindow
public import Idealize.ShloMosaic.Lib.Pipeline.ValueKit

@[expose] public section

set_option maxRecDepth 16384

noncomputable section

namespace Cert.AttnIdeal.Hand

open Idealize.ShloMosaic Idealize.ShloMosaic.TcCoe Idealize.SL.Sem
open Cert.AttnIdeal Cert.AttnIdeal.Gen

/-- The block of results over the two final states. -/
def outB (h : Fin 4) (a : Fin 17) (x0 : FVec Ideal S32x8 .f32) (x1 x2 x3 x4 : FVec Ideal S1x128 .f32) (x5 : FVec Ideal S1x256 .f32)
    (x6 : FVec Ideal S1x128x256 .bf16) (x7 x8 : FVec Ideal S1x2176x256 .bf16) (x9 : FVec Ideal S2x128x384 .f32) :
    FVec Ideal S1x128x256 .bf16 :=
  k1_pay1 (k1_pay103 x1 x2 x3 x4) (k1_pay104 (run0 h a x0 x6 x7 x8 x9).a (run0 h a x0 x6 x7 x8 x9).l)
    (k1_pay105 (run1 h a x0 x6 x7 x8 x9).a (run1 h a x0 x6 x7 x8 x9).l) x5

theorem window_wtile (X : FVec Ideal S2x128x384 .f32) (s : Fin 2) (r : Fin 3)
    (inb : ∀ a, (![s.val, 0, 128 * r.val] : Fin 3 → ℕ) a + S1x128x128.size a ≤ S2x128x384.size a) :
    VecWindow.window X (![s.val, 0, 128 * r.val] : Fin 3 → ℕ) S1x128x128.size inb = wtile X s r := by
  refine funext fun y => congrArg X (funext fun a => Fin.ext ?_)
  match a with
  | 0 =>
    have h0 : (y 0).val < 1 := (y 0).isLt
    show s.val + 1 * (y 0).val = s.val
    omega
  | 1 =>
    show 0 + 1 * (y 1).val = (y 1).val
    omega
  | 2 =>
    show 128 * r.val + 1 * (y 2).val = 128 * r.val + (y 2).val
    omega

variable (c : Dev nD) (i : grid1.Coords) (arg3 : Memref sig .tc .smem S32x8 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x256 .f32) (harg8 : arg8.IsWhole) (arg9 : Memref sig .tc .vmem S1x128x256 .bf16) (harg9 : arg9.IsWhole) (arg10 : Memref sig .tc .vmem S1x2176x256 .bf16) (harg10 : arg10.IsWhole) (arg11 : Memref sig .tc .vmem S1x2176x256 .bf16) (harg11 : arg11.IsWhole) (arg12 : Memref sig .tc .vmem S2x128x384 .f32) (harg12 : arg12.IsWhole) (arg13 : Memref sig .tc .vmem S1x128x256 .bf16) (harg13 : arg13.IsWhole) (arg14 : Memref sig .tc .vmem S2x128x1 .f32) (harg14 : arg14.IsWhole) (arg15 : Memref sig .tc .vmem S2x128x1 .f32) (harg15 : arg15.IsWhole) (arg16 : Memref sig .tc .vmem S2x128x256 .f32) (harg16 : arg16.IsWhole)
    (x0 : Vec Ideal S32x8 .f32) (x1 : Vec Ideal S1x128 .f32) (x2 : Vec Ideal S1x128 .f32) (x3 : Vec Ideal S1x128 .f32) (x4 : Vec Ideal S1x128 .f32) (x5 : Vec Ideal S1x256 .f32) (x6 : Vec Ideal S1x128x256 .bf16) (x7 : Vec Ideal S1x2176x256 .bf16) (x8 : Vec Ideal S1x2176x256 .bf16) (x9 : Vec Ideal S2x128x384 .f32)

theorem wload_0_0 : arg12.view.readAt (Elt Ideal) (Rect.unit (s := S2x128x384) ![0, 0, 0] S1x128x128.size inb_S2x128x384_S1x128x128_0_0_0).toLoadRect (harg12.unread x9) = wtile x9 0 0 := by
  rw [View.readAt_unit _ _ _ rfl inb_S2x128x384_S1x128x128_0_0_0, harg12.read_unread]
  exact window_wtile x9 0 0 _

theorem wload_0_1 : arg12.view.readAt (Elt Ideal) (Rect.unit (s := S2x128x384) ![0, 0, 128] S1x128x128.size inb_S2x128x384_S1x128x128_0_0_128).toLoadRect (harg12.unread x9) = wtile x9 0 1 := by
  rw [View.readAt_unit _ _ _ rfl inb_S2x128x384_S1x128x128_0_0_128, harg12.read_unread]
  exact window_wtile x9 0 1 _

theorem wload_0_2 : arg12.view.readAt (Elt Ideal) (Rect.unit (s := S2x128x384) ![0, 0, 256] S1x128x128.size inb_S2x128x384_S1x128x128_0_0_256).toLoadRect (harg12.unread x9) = wtile x9 0 2 := by
  rw [View.readAt_unit _ _ _ rfl inb_S2x128x384_S1x128x128_0_0_256, harg12.read_unread]
  exact window_wtile x9 0 2 _

theorem wload_1_0 : arg12.view.readAt (Elt Ideal) (Rect.unit (s := S2x128x384) ![1, 0, 0] S1x128x128.size inb_S2x128x384_S1x128x128_1_0_0).toLoadRect (harg12.unread x9) = wtile x9 1 0 := by
  rw [View.readAt_unit _ _ _ rfl inb_S2x128x384_S1x128x128_1_0_0, harg12.read_unread]
  exact window_wtile x9 1 0 _

theorem wload_1_1 : arg12.view.readAt (Elt Ideal) (Rect.unit (s := S2x128x384) ![1, 0, 128] S1x128x128.size inb_S2x128x384_S1x128x128_1_0_128).toLoadRect (harg12.unread x9) = wtile x9 1 1 := by
  rw [View.readAt_unit _ _ _ rfl inb_S2x128x384_S1x128x128_1_0_128, harg12.read_unread]
  exact window_wtile x9 1 1 _

theorem wload_1_2 : arg12.view.readAt (Elt Ideal) (Rect.unit (s := S2x128x384) ![1, 0, 256] S1x128x128.size inb_S2x128x384_S1x128x128_1_0_256).toLoadRect (harg12.unread x9) = wtile x9 1 2 := by
  rw [View.readAt_unit _ _ _ rfl inb_S2x128x384_S1x128x128_1_0_256, harg12.read_unread]
  exact window_wtile x9 1 2 _

theorem whole_arg4 : arg4.view.readAt (Elt Ideal) (Rect.unit (s := S1x128) ![0, 0] S1x128.size inb_S1x128_S1x128_0_0).toLoadRect (harg4.unread x1) = x1 := by
  rw [View.readAt_unit _ _ _ rfl inb_S1x128_S1x128_0_0, harg4.read_unread]
  exact congrArg (fun g => x1 ∘ g) (funext fun z => Rect.emb_unit_full _ z)

theorem whole_arg5 : arg5.view.readAt (Elt Ideal) (Rect.unit (s := S1x128) ![0, 0] S1x128.size inb_S1x128_S1x128_0_0).toLoadRect (harg5.unread x2) = x2 := by
  rw [View.readAt_unit _ _ _ rfl inb_S1x128_S1x128_0_0, harg5.read_unread]
  exact congrArg (fun g => x2 ∘ g) (funext fun z => Rect.emb_unit_full _ z)

theorem whole_arg6 : arg6.view.readAt (Elt Ideal) (Rect.unit (s := S1x128) ![0, 0] S1x128.size inb_S1x128_S1x128_0_0).toLoadRect (harg6.unread x3) = x3 := by
  rw [View.readAt_unit _ _ _ rfl inb_S1x128_S1x128_0_0, harg6.read_unread]
  exact congrArg (fun g => x3 ∘ g) (funext fun z => Rect.emb_unit_full _ z)

theorem whole_arg7 : arg7.view.readAt (Elt Ideal) (Rect.unit (s := S1x128) ![0, 0] S1x128.size inb_S1x128_S1x128_0_0).toLoadRect (harg7.unread x4) = x4 := by
  rw [View.readAt_unit _ _ _ rfl inb_S1x128_S1x128_0_0, harg7.read_unread]
  exact congrArg (fun g => x4 ∘ g) (funext fun z => Rect.emb_unit_full _ z)

theorem whole_arg8 : arg8.view.readAt (Elt Ideal) (Rect.unit (s := S1x256) ![0, 0] S1x256.size inb_S1x256_S1x256_0_0).toLoadRect (harg8.unread x5) = x5 := by
  rw [View.readAt_unit _ _ _ rfl inb_S1x256_S1x256_0_0, harg8.read_unread]
  exact congrArg (fun g => x5 ∘ g) (funext fun z => Rect.emb_unit_full _ z)

theorem out_eq : out1_A_10 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = outB (i 1) (i 2) x0 x1 x2 x3 x4 x5 x6 x7 x8 x9 := by
  have h0l := C0_l c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9
  have h0a := C0_a c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9
  have h1l := C1_l c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9
  have h1a := C1_a c i arg3 harg3 arg4 harg4 arg5 harg5 arg6 harg6 arg7 harg7 arg8 harg8 arg9 harg9 arg10 harg10 arg11 harg11 arg12 harg12 arg13 harg13 arg14 harg14 arg15 harg15 arg16 harg16 x0 x6 x7 x8 x9
  simp only [B0_eq, A0_eq, Z0_eq, qq_eq, kn_eq, vn_eq] at h0l h0a
  erw [wload_0_0, wload_0_1, wload_0_2] at h0l h0a
  simp only [B1_eq, A1_eq, Z1_eq, qq_eq, kn_eq, vn_eq] at h1l h1a
  erw [wload_1_0, wload_1_1, wload_1_2] at h1l h1a
  unfold out1_A_10 kernelRun1_A
  dsimp only
  unfold kernelRun1_A.sl.r_26 kernelRun1_A.sl.r_27 kernelRun1_A.sl.r_28
  rw [h0l, h0a, h1l, h1a, whole_arg4, whole_arg5, whole_arg6, whole_arg7, whole_arg8]
  refine (View.read_writes_full (s := S1x128x256) VO1_10 _ _ _ []).trans ?_
  unfold outB run0 run1
  rfl

end Cert.AttnIdeal.Hand
-- ==== Proof.AttnTable.lean ====
/- The bias table one grid point writes. -/
module

public import proofs.«01_k».proof.Proof.Gen.AttnIdeal.Frame
public import proofs.«01_k».proof.Proof.AttnPoint
public import Idealize.ShloMosaic.Lib.VecWindow
public import Idealize.ShloMosaic.Lib.Pipeline.ValueKit

@[expose] public section

set_option maxRecDepth 16384

noncomputable section

namespace Cert.AttnIdeal.Hand

open Idealize.ShloMosaic Idealize.ShloMosaic.TcCoe Idealize.SL.Sem
open Cert.AttnIdeal Cert.AttnIdeal.Gen

theorem mask_bot : (Named.named (F := Ideal) κ "mask" 0xF149F2CA#32 : Ideal .f32) = (⊥ : EReal) := rfl

variable (c : Dev nD) (i : grid0.Coords) (arg1 : Memref sig .tc .smem S32x8 .f32) (harg1 : arg1.IsWhole) (arg2 : Memref sig .tc .vmem S128x384 .i32) (harg2 : arg2.IsWhole) (arg3 : Memref sig .tc .vmem S128x384 .i32) (harg3 : arg3.IsWhole) (arg4 : Memref sig .tc .vmem S1x128x384 .f32) (harg4 : arg4.IsWhole)     (x0 : Vec Ideal S32x8 .f32) (x1 : Vec Ideal S128x384 .i32) (x2 : Vec Ideal S128x384 .i32)

/-- A scalar of the relative bias, read where it sits. -/
theorem scal {off : Fin 2 → ℕ} (k : Fin 32) (n : Fin 8) (h : off = ![k.val, n.val]) (inb : ∀ a, off a + S1x1.size a ≤ S32x8.size a)
    (hn : 0 < S1x1.numel) :
    arg1.view.readAt (Elt Ideal) (Rect.unit (s := S32x8) off S1x1.size inb).toLoadRect (harg1.unread x0) (Shape.Idx.first hn) = x0 (ix2 k n) := by
  subst h
  rw [View.readAt_unit _ _ _ rfl inb, harg1.read_unread]
  refine congrArg x0 (funext fun a => Fin.ext ?_)
  match a with
  | 0 => rfl
  | 1 => rfl

theorem tload (arg : Memref sig .tc .vmem S128x384 .i32) (harg : arg.IsWhole) (x : Vec Ideal S128x384 .i32) :
    arg.view.readAt (Elt Ideal) (Rect.unit (s := S128x384) ![0, 0] S128x384.size inb_S128x384_S128x384_0_0).toLoadRect (harg.unread x) = x := by
  rw [View.readAt_unit _ _ _ rfl inb_S128x384_S128x384_0_0, harg.read_unread]
  exact congrArg (fun g => x ∘ g) (funext fun z => Rect.emb_unit_full _ z)

/-- An entry of the bias table: the mask, plus the bias of the entry's bucket. -/
theorem table_at (r : Fin 128) (x : Fin 384) (k : Fin 32) (hk : x1 (ix2 r x) = BitVec.ofNat 32 k.val) :
    out0_A_3 c i arg1 harg1 arg2 harg2 arg3 harg3 arg4 harg4 x0 x1 x2 (ix3 0 r x)
      = (if x2 (ix2 r x) = 0#32 then ⊥ else 0) + x0 (ix2 k (i 0)) := by
  unfold out0_A_3 kernelRun0_A
  dsimp only
  rw [(View.read_writes_full (s := S1x128x384) VO0_3 _ _ _ [])]
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
  simp only [tload arg2 harg2 x1, tload arg3 harg3 x2, hk]
  simp only [scal arg1 harg1 x0 0 (i 0) (k0_off1_eq i), scal arg1 harg1 x0 1 (i 0) (k0_off2_eq i), scal arg1 harg1 x0 2 (i 0) (k0_off3_eq i), scal arg1 harg1 x0 3 (i 0) (k0_off4_eq i),
    scal arg1 harg1 x0 4 (i 0) (k0_off5_eq i), scal arg1 harg1 x0 5 (i 0) (k0_off6_eq i), scal arg1 harg1 x0 6 (i 0) (k0_off7_eq i), scal arg1 harg1 x0 7 (i 0) (k0_off8_eq i),
    scal arg1 harg1 x0 8 (i 0) (k0_off9_eq i), scal arg1 harg1 x0 9 (i 0) (k0_off10_eq i), scal arg1 harg1 x0 10 (i 0) (k0_off11_eq i), scal arg1 harg1 x0 11 (i 0) (k0_off12_eq i),
    scal arg1 harg1 x0 12 (i 0) (k0_off13_eq i), scal arg1 harg1 x0 13 (i 0) (k0_off14_eq i), scal arg1 harg1 x0 14 (i 0) (k0_off15_eq i), scal arg1 harg1 x0 15 (i 0) (k0_off16_eq i),
    scal arg1 harg1 x0 16 (i 0) (k0_off17_eq i), scal arg1 harg1 x0 17 (i 0) (k0_off18_eq i), scal arg1 harg1 x0 18 (i 0) (k0_off19_eq i), scal arg1 harg1 x0 19 (i 0) (k0_off20_eq i),
    scal arg1 harg1 x0 20 (i 0) (k0_off21_eq i), scal arg1 harg1 x0 21 (i 0) (k0_off22_eq i), scal arg1 harg1 x0 22 (i 0) (k0_off23_eq i), scal arg1 harg1 x0 23 (i 0) (k0_off24_eq i),
    scal arg1 harg1 x0 24 (i 0) (k0_off25_eq i), scal arg1 harg1 x0 25 (i 0) (k0_off26_eq i), scal arg1 harg1 x0 26 (i 0) (k0_off27_eq i), scal arg1 harg1 x0 27 (i 0) (k0_off28_eq i),
    scal arg1 harg1 x0 28 (i 0) (k0_off29_eq i), scal arg1 harg1 x0 29 (i 0) (k0_off30_eq i), scal arg1 harg1 x0 30 (i 0) (k0_off31_eq i), scal arg1 harg1 x0 31 (i 0) (k0_off32_eq i)]
  by_cases h2 : x2 (ix2 r x) = 0#32
  · fin_cases k <;> simp [IntOp.cmpi, Scalar.select, h2, mask_bot]
  · have h3 : (x2 (ix2 r x) != 0#32) = true := bne_iff_ne.2 h2
    fin_cases k <;> simp [IntOp.cmpi, Scalar.select, h2, h3]
end Cert.AttnIdeal.Hand
-- ==== Proof.AttnFacts.lean ====
/- The integer tables of the attention: the buckets of relative positions and the chunk numbers, for the kernel and the
   reference. -/
module

public import proofs.«01_k».proof.Proof.Gen.AttnIdeal
public import proofs.«01_k».proof.Proof.Gen.AttnRefIdeal
public import Idealize.ShloMosaic.Lib.ValueIdxCore

@[expose] public section

set_option maxRecDepth 16384

namespace Cert.Proof.Attn

open Idealize.ShloMosaic

theorem bucket_lt : ∀ x : Fin 4351, (Cert.AttnRefIdeal.lit1 x).toNat < 32 := by decide +kernel

/-- The bucket of the relative position `t - 2175`. -/
noncomputable def bucket (t : Fin 4351) : Fin 32 := ⟨(Cert.AttnRefIdeal.lit1 t).toNat, bucket_lt t⟩

theorem ref_bucket (t : Fin 4351) : Cert.AttnRefIdeal.lit1 t = BitVec.ofNat 32 (bucket t).val := by
  apply BitVec.eq_of_toNat_eq
  simp only [bucket, BitVec.toNat_ofNat]
  have := bucket_lt t
  omega

/-- The kernel's bucket table is the middle of the reference's. -/
theorem near_bucket : ∀ x : Fin 511,
    Cert.AttnIdeal.lit0 x = BitVec.ofNat 32 (bucket ⟨x.val + 1920, by omega⟩).val := by decide +kernel

/-- Every key far before the query is in the last bucket of that side. -/
theorem far_bucket : ∀ x : Fin 2047, bucket ⟨x.val, by omega⟩ = 15 := by decide +kernel

/-- The chunk of a position. -/
theorem ref_chunk : ∀ p : Fin 2176, Cert.AttnRefIdeal.lit0 p = BitVec.ofNat 32 ((p.val + 48) / 64) := by decide +kernel

theorem chunk_m : ∀ x : Fin 384, Cert.AttnIdeal.lit1 x = BitVec.ofNat 32 ((x.val + 48) / 64) - 3#32 := by decide +kernel

theorem chunk_r : ∀ x : Fin 128, Cert.AttnIdeal.lit2 x = BitVec.ofNat 32 ((x.val + 48) / 64) - 1#32 := by decide +kernel

theorem sle_near : ∀ (a : Fin 7) (b : Fin 3),
    IntOp.cmpi .sle (BitVec.ofNat 32 a.val - 3#32) (BitVec.ofNat 32 b.val - 1#32) = BitVec.ofBool (decide (a.val ≤ b.val + 2)) := by
  decide +kernel

theorem sle_ref : ∀ (a b : Fin 35),
    IntOp.cmpi .sle (BitVec.ofNat 32 a.val) (BitVec.ofNat 32 b.val) = BitVec.ofBool (decide (a.val ≤ b.val)) := by
  decide +kernel

end Cert.Proof.Attn

end
-- ==== Proof.AttnHost.lean ====
/- The integer arrays the attention's host code prepares, and the bias table they give. -/
module

public import proofs.«01_k».proof.Proof.AttnLaunch
public import proofs.«01_k».proof.Proof.AttnOut
public import proofs.«01_k».proof.Proof.AttnTable
public import proofs.«01_k».proof.Proof.AttnFacts
public import Idealize.ShloMosaic.Lib.Pipeline.ValueKit
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.ValueIdxCore
public import Idealize.ShloMosaic.Lib.StableHlo.Predicate

@[expose] public section

set_option maxRecDepth 16384

noncomputable section

namespace Cert.AttnIdeal.Hand

open Idealize.ShloMosaic Idealize.ShloMosaic.TcCoe Idealize.SL.Sem
open Idealize.ShloMosaic.Pipeline (Dat)
open Cert.AttnIdeal Cert.AttnIdeal.Gen Cert.Proof.Attn

section Host
variable (m : (ℓ : Loc nD τ sig) → Buf (Elt Ideal) ℓ) (ρ : Dev nD → PrngReg)

theorem v12_eq (c : Dev nD) : W1 m ρ c main_v12 = Host.gather gather_S511_S128x384x1_S128x384_n_0_n_n_0_2_1
    (fun i => lit0 (S511.rowMajor i)) (broadcastInDim S128x384x1 ![0, 1] bcast_S128x384_S128x384x1_0_1
      (addi (subi (broadcastInDim S128x384 ![0, 1] bcast_S1x384_S128x384_0_1
          (subi (broadcastInDim S1x384 ![1] bcast_S384_S1x384_1 (iotaInDim S384 32 0))
            (broadcastInDim S1x384 ![] bcast_S_S1x384 (constantI S_ 32 128#32))))
        (broadcastInDim S128x384 ![0, 1] bcast_S128x1_S128x384_0_1 (broadcastInDim S128x1 ![0] bcast_S128_S128x1_0 (iotaInDim S128 32 0))))
        (broadcastInDim S128x384 ![] bcast_S_S128x384 (constantI S_ 32 255#32)))) := by
  unfold W1
  simp only [hostOps0]
  after_results_simp <;> rfl

theorem v18_eq (c : Dev nD) : W1 m ρ c main_v18 = extui 32 (cmpi .sle
      (broadcastInDim S128x384 ![0, 1] bcast_S1x384_S128x384_0_1 (broadcastInDim S1x384 ![1] bcast_S384_S1x384_1 (fun i => lit1 (S384.rowMajor i))))
      (broadcastInDim S128x384 ![0, 1] bcast_S128x1_S128x384_0_1 (broadcastInDim S128x1 ![0] bcast_S128_S128x1_0 (fun i => lit2 (S128.rowMajor i)))))
      natLt_1_32 := by
  unfold W1
  simp only [hostOps0]
  after_results_simp <;> rfl

/-- The key of column `x` is not later than the chunk of row `r`. -/
def visible (r : Fin 128) (x : Fin 384) : Prop := (x.val + 48) / 64 ≤ (r.val + 48) / 64 + 2

instance visDec (r : Fin 128) (x : Fin 384) : Decidable (visible r x) := by unfold visible; infer_instance

/-- The bucket of column `x` seen from row `r`. -/
def bucketAt (r : Fin 128) (x : Fin 384) : Fin 32 := bucket ⟨x.val + 2047 - r.val, by omega⟩

theorem v12_at (c : Dev nD) (r : Fin 128) (x : Fin 384) :
    W1 m ρ c main_v12 (ix2 r x) = BitVec.ofNat 32 (bucketAt r x).val := by
  rw [v12_eq]
  refine (ValueIdx.gather_take_apply (N := 511) (by decide) _ _ _ (ix2 r x)).trans ?_
  have hw : ∀ (r : Fin 128) (x : Fin 384), min (((BitVec.ofNat 32 x.val - 128#32 - BitVec.ofNat 32 r.val + 255#32 : BitVec 32)).toInt.toNat) (511 - 1)
      = x.val + 127 - r.val := by
    intro r x
    have e : (BitVec.ofNat 32 x.val - 128#32 - BitVec.ofNat 32 r.val + 255#32 : BitVec 32) = BitVec.ofNat 32 (x.val + 127 - r.val) := by
      apply BitVec.eq_of_toNat_eq
      simp only [BitVec.toNat_add, BitVec.toNat_sub, BitVec.toNat_ofNat]
      omega
    rw [e, StableHlo.Predicate.toInt_ofNat_small _ (by omega)]
    omega
  have hl := near_bucket ⟨x.val + 127 - r.val, by omega⟩
  have e2 : (⟨x.val + 127 - r.val + 1920, by omega⟩ : Fin 4351) = ⟨x.val + 2047 - r.val, by omega⟩ := Fin.ext (by show x.val + 127 - r.val + 1920 = x.val + 2047 - r.val; omega)
  unfold bucketAt
  rw [← e2, ← hl]
  refine congrArg lit0 (Fin.ext ?_)
  exact (Shape.rowMajor_val_one _).trans (hw r x)

theorem v18_at (c : Dev nD) (r : Fin 128) (x : Fin 384) :
    W1 m ρ c main_v18 (ix2 r x) = 0#32 ↔ ¬ visible r x := by
  rw [v18_eq]
  have e : IntOp.cmpi .sle (lit1 x) (lit2 r) = BitVec.ofBool (decide (visible r x)) := by
    rw [chunk_m, chunk_r]
    exact sle_near ⟨(x.val + 48) / 64, by omega⟩ ⟨(r.val + 48) / 64, by omega⟩
  have e2 : (extui 32 (cmpi .sle
      (broadcastInDim S128x384 ![0, 1] bcast_S1x384_S128x384_0_1 (broadcastInDim S1x384 ![1] bcast_S384_S1x384_1 (fun i => lit1 (S384.rowMajor i))))
      (broadcastInDim S128x384 ![0, 1] bcast_S128x1_S128x384_0_1 (broadcastInDim S128x1 ![0] bcast_S128_S128x1_0 (fun i => lit2 (S128.rowMajor i)))))
      natLt_1_32 : IVec S128x384 32) (ix2 r x) = (IntOp.cmpi .sle (lit1 x) (lit2 r)).zeroExtend 32 := by
    pointwise
    have ex : S384.rowMajor (ix1 x) = x := Fin.ext (Shape.rowMajor_val_one _)
    have er : S128.rowMajor (ix1 r) = r := Fin.ext (Shape.rowMajor_val_one _)
    rw [ex, er]
  rw [e2, e]
  by_cases h : visible r x
  · rw [decide_eq_true h]; exact ⟨fun h0 => absurd (show (1#32 : BitVec 32) = 0#32 from h0) (by decide), fun h0 => absurd h h0⟩
  · rw [decide_eq_false h]; exact ⟨fun _ => h, fun _ => (rfl : (0#32 : BitVec 32) = 0#32)⟩

/-- The bias table: the mask, plus the bias of the bucket. -/
def tblAt (rb : FVec Ideal S32x8 .f32) (n : Fin 8) (r : Fin 128) (x : Fin 384) : EReal :=
  (if visible r x then (0 : EReal) else ⊥) + rb (ix2 (bucketAt r x) n)

def tbl (rb : FVec Ideal S32x8 .f32) : FVec Ideal S8x128x384 .f32 := fun y => tblAt rb (y 0) (y 1) (y 2)

end Host

end Cert.AttnIdeal.Hand

end
-- ==== Proof.AttnBias.lean ====
/- The bias table after the first launch. -/
module

public import proofs.«01_k».proof.Proof.AttnLaunch
public import proofs.«01_k».proof.Proof.AttnHost
public import proofs.«01_k».proof.Proof.AttnOut
public import proofs.«01_k».proof.Proof.AttnTable
public import proofs.«01_k».proof.Proof.AttnFacts
public import Idealize.ShloMosaic.Lib.Pipeline.ValueKit
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.ValueIdxCore
public import Idealize.ShloMosaic.Lib.StableHlo.Predicate

@[expose] public section

set_option maxRecDepth 16384

noncomputable section

namespace Cert.AttnIdeal.Hand

open Idealize.ShloMosaic Idealize.ShloMosaic.TcCoe Idealize.SL.Sem
open Idealize.ShloMosaic.Pipeline (Dat)
open Cert.AttnIdeal Cert.AttnIdeal.Gen Cert.Proof.Attn

section Host
variable (m : (ℓ : Loc nD τ sig) → Buf (Elt Ideal) ℓ) (ρ : Dev nD → PrngReg)

theorem idx0 : ∀ t : Fin cfg0.N, win0_0.index t = ![0, 0] ∧ win0_1.index t = ![0, 0] ∧ win0_2.index t = ![0, 0]
    ∧ win0_3.index t = ![(grid0.coords t 0).val, 0, 0] :=
  (by decide +kernel : ∀ t : Fin grid0.N, _)

theorem table_of (c : Dev nD) (i : grid0.Coords) (arg1 : Memref sig .tc .smem S32x8 .f32) (harg1 : arg1.IsWhole)
    (arg2 : Memref sig .tc .vmem S128x384 .i32) (harg2 : arg2.IsWhole) (arg3 : Memref sig .tc .vmem S128x384 .i32) (harg3 : arg3.IsWhole)
    (arg4 : Memref sig .tc .vmem S1x128x384 .f32) (harg4 : arg4.IsWhole)
    (x0 : Vec Ideal S32x8 .f32) (x1 x2 : Vec Ideal S128x384 .i32) (r : Fin 128) (x : Fin 384)
    (h1 : x1 (ix2 r x) = BitVec.ofNat 32 (bucketAt r x).val) (h2 : x2 (ix2 r x) = 0#32 ↔ ¬ visible r x) :
    out0_A_3 c i arg1 harg1 arg2 harg2 arg3 harg3 arg4 harg4 x0 x1 x2 (ix3 0 r x) = tblAt x0 (i 0) r x := by
  rw [table_at c i arg1 harg1 arg2 harg2 arg3 harg3 arg4 harg4 x0 x1 x2 r x (bucketAt r x) h1]
  unfold tblAt
  by_cases h : visible r x
  · rw [if_pos h, if_neg (fun h0 => h2.1 h0 h)]
  · rw [if_neg h, if_pos (h2.2 h)]

theorem tbl_at (rb : FVec Ideal S32x8 .f32) (n : Fin 8) (r : Fin 128) (x : Fin 384) : tbl rb (ix3 n r x) = tblAt rb n r x := rfl

theorem table_blk (c : Dev nD) (t : Fin cfg0.N) :
    iblk0 (V1 m ρ) c 0 t = m ((c : Thread nD τ).loc main_arg1) ∧ iblk0 (V1 m ρ) c 1 t = W1 m ρ c main_v12
      ∧ iblk0 (V1 m ρ) c 2 t = W1 m ρ c main_v18 := by
  refine ⟨?_, ?_, ?_⟩
  · have h1 : V1 m ρ c main_arg1 = m ((c : Thread nD τ).loc main_arg1) := W1_args m ρ c main_arg1 (by decide)
    rw [← h1]
    blk_ext! [iblk0, idx0 t]
  · blk_ext! [iblk0, idx0 t]
  · blk_ext! [iblk0, idx0 t]

theorem table_pt (c : Dev nD) (t : Fin cfg0.N) (r : Fin 128) (x : Fin 384) :
    outsAt0 (V1 m ρ) c t (ix3 0 r x) = tblAt (m ((c : Thread nD τ).loc main_arg1)) (grid0.coords t 0) r x := by
  unfold outsAt0
  rw [(table_blk m ρ c t).1, (table_blk m ρ c t).2.1, (table_blk m ρ c t).2.2]
  exact table_of _ _ _ _ _ _ _ _ _ _ _ _ _ r x (v12_at m ρ c r x) (v18_at m ρ c r x)

theorem table_emb (t : Fin cfg0.N) (r : Fin 128) (x : Fin 384) :
    (((cfg0.win 3).blk t).view.emb (ix3 0 r x) : S8x128x384.Idx) = ix3 (grid0.coords t 0) r x := by
  blk_ext! [idx0 t]

theorem table_final (c : Dev nD) : (dat0 (V1 m ρ) c).arrAt 3 cfg0.N = tbl (m ((c : Thread nD τ).loc main_arg1)) := by
  refine (dat0 (V1 m ρ) c).arrAt_eq_of_covers 3 _ (by decide +kernel) fun t _ y => ?_
  blk_simp
  rw [after0_3]
  obtain ⟨z, r, x, rfl⟩ : ∃ (z : Fin 1) (r : Fin 128) (x : Fin 384), y = ix3 z r x := ⟨y 0, y 1, y 2, by funext a; match a with | 0 => rfl | 1 => rfl | 2 => rfl⟩
  obtain rfl : z = 0 := Subsingleton.elim _ _
  refine (table_pt m ρ c t r x).trans ?_
  rw [table_emb t r x]
  exact (tbl_at _ _ r x).symm

end Host

end Cert.AttnIdeal.Hand

end
-- ==== Proof.AttnRun.lean ====
/- The run of the attention: its result array, after the two launches, over the argument arrays. -/
module

public import proofs.«01_k».proof.Proof.AttnLaunch
public import proofs.«01_k».proof.Proof.AttnBias
public import proofs.«01_k».proof.Proof.AttnOut
public import proofs.«01_k».proof.Proof.AttnTable
public import proofs.«01_k».proof.Proof.AttnFacts
public import Idealize.ShloMosaic.Lib.Pipeline.ValueKit
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.ValueIdxCore
public import Idealize.ShloMosaic.Lib.StableHlo.Predicate

@[expose] public section

set_option maxRecDepth 16384

noncomputable section

namespace Cert.AttnIdeal.Hand

open Idealize.ShloMosaic Idealize.ShloMosaic.TcCoe Idealize.SL.Sem
open Idealize.ShloMosaic.Pipeline (Dat)
open Cert.AttnIdeal Cert.AttnIdeal.Gen Cert.Proof.Attn

section Host
variable (m : (ℓ : Loc nD τ sig) → Buf (Elt Ideal) ℓ) (ρ : Dev nD → PrngReg)

/-! The second region's operands. -/

theorem w3_table (c : Dev nD) : W3 m ρ c main_v19 = tbl (m ((c : Thread nD τ).loc main_arg1)) :=
  (W3_of m ρ c main_v19 (by decide)).trans ((W2_arr m ρ c 3).trans (table_final m ρ c))

theorem w3_bias (c : Dev nD) : W3 m ρ c main_arg1 = m ((c : Thread nD τ).loc main_arg1) := W3_args m ρ c main_arg1 (by decide)

theorem w3_z (c : Dev nD) : W3 m ρ c main_v20 = shapeCast S8x2176x3072 (m ((c : Thread nD τ).loc main_arg0)) shapeCasts_S17408x3072_S8x2176x3072 := by
  rw [← W2_args m ρ c main_arg0 (by decide)]
  unfold W3
  simp only [hostOps1]
  after_results_simp <;> rfl

theorem w3_l1 (c : Dev nD) : W3 m ρ c main_v21 = shapeCast S1x128 (m ((c : Thread nD τ).loc main_arg2)) shapeCasts_S128_S1x128 := by
  rw [← W2_args m ρ c main_arg2 (by decide)]
  unfold W3
  simp only [hostOps1]
  after_results_simp <;> rfl

theorem w3_l2 (c : Dev nD) : W3 m ρ c main_v22 = shapeCast S1x128 (m ((c : Thread nD τ).loc main_arg3)) shapeCasts_S128_S1x128 := by
  rw [← W2_args m ρ c main_arg3 (by decide)]
  unfold W3
  simp only [hostOps1]
  after_results_simp <;> rfl

theorem w3_l3 (c : Dev nD) : W3 m ρ c main_v23 = shapeCast S1x128 (m ((c : Thread nD τ).loc main_arg4)) shapeCasts_S128_S1x128 := by
  rw [← W2_args m ρ c main_arg4 (by decide)]
  unfold W3
  simp only [hostOps1]
  after_results_simp <;> rfl

theorem w3_l4 (c : Dev nD) : W3 m ρ c main_v24 = shapeCast S1x128 (m ((c : Thread nD τ).loc main_arg5)) shapeCasts_S128_S1x128 := by
  rw [← W2_args m ρ c main_arg5 (by decide)]
  unfold W3
  simp only [hostOps1]
  after_results_simp <;> rfl

theorem w3_n (c : Dev nD) : W3 m ρ c main_v25 = shapeCast S1x256 (m ((c : Thread nD τ).loc main_arg6)) shapeCasts_S256_S1x256 := by
  rw [← W2_args m ρ c main_arg6 (by decide)]
  unfold W3
  simp only [hostOps1]
  after_results_simp <;> rfl

theorem idx1 : ∀ t : Fin cfg1.N, win1_0.index t = ![0, 0] ∧ win1_1.index t = ![0, 0] ∧ win1_2.index t = ![0, 0]
    ∧ win1_3.index t = ![0, 0] ∧ win1_4.index t = ![0, 0] ∧ win1_5.index t = ![0, 0]
    ∧ win1_6.index t = ![(grid1.coords t 0).val, (grid1.coords t 2).val, (grid1.coords t 1).val]
    ∧ win1_7.index t = ![(grid1.coords t 0).val, 0, 4 + (grid1.coords t 1).val]
    ∧ win1_8.index t = ![(grid1.coords t 0).val, 0, 8 + (grid1.coords t 1).val]
    ∧ win1_9.index t = ![(grid1.coords t 1).val, 0, 0]
    ∧ win1_10.index t = ![(grid1.coords t 0).val, (grid1.coords t 2).val, (grid1.coords t 1).val] :=
  (by decide +kernel : ∀ t : Fin grid1.N, _)

/-- Columns `256·g …` of the rows of batch `b`. -/
def cols (Z : FVec Ideal S17408x3072 .bf16) (b : Fin 8) (g : Fin 12) : FVec Ideal S1x2176x256 .bf16 := fun y =>
  Z (ix2 ⟨2176 * b.val + (y 1).val, by have := (y 1).isLt; have : (y 1).val < 2176 := this; omega⟩
    ⟨256 * g.val + (y 2).val, by have := (y 2).isLt; have : (y 2).val < 256 := this; omega⟩)

/-- Rows `128·a …` of them. -/
def rows (Z : FVec Ideal S1x2176x256 .bf16) (a : Fin 17) : FVec Ideal S1x128x256 .bf16 := fun y =>
  Z (ix3 0 ⟨128 * a.val + (y 1).val, by have := (y 1).isLt; have : (y 1).val < 128 := this; omega⟩ (y 2))

/-- The bias tables of head `h`'s two maps. -/
def tbl2 (T : FVec Ideal S8x128x384 .f32) (h : Fin 4) : FVec Ideal S2x128x384 .f32 := fun y =>
  T (ix3 ⟨2 * h.val + (y 0).val, by have := (y 0).isLt; have : (y 0).val < 2 := this; omega⟩ (y 1) (y 2))

/-- A vector as the one row of a matrix. -/
def row {n : ℕ} (x : FVec Ideal ⟨1, ![n]⟩ .f32) : FVec Ideal ⟨2, ![1, n]⟩ .f32 := fun y => x (ix1 (y 1))

theorem blk_b (c : Dev nD) (t : Fin cfg1.N) : iblk1 (V3 m ρ) c 0 t = m ((c : Thread nD τ).loc main_arg1) := by
  rw [← w3_bias m ρ c]
  blk_ext! [iblk1, idx1 t]

theorem blk_l1 (c : Dev nD) (t : Fin cfg1.N) : iblk1 (V3 m ρ) c 1 t = row (m ((c : Thread nD τ).loc main_arg2)) := by
  have e : iblk1 (V3 m ρ) c 1 t = W3 m ρ c main_v21 := by blk_ext! [iblk1, idx1 t]
  rw [e, w3_l1]; funext y; idx_vars y; pointwise [row]

theorem blk_l2 (c : Dev nD) (t : Fin cfg1.N) : iblk1 (V3 m ρ) c 2 t = row (m ((c : Thread nD τ).loc main_arg3)) := by
  have e : iblk1 (V3 m ρ) c 2 t = W3 m ρ c main_v22 := by blk_ext! [iblk1, idx1 t]
  rw [e, w3_l2]; funext y; idx_vars y; pointwise [row]

theorem blk_l3 (c : Dev nD) (t : Fin cfg1.N) : iblk1 (V3 m ρ) c 3 t = row (m ((c : Thread nD τ).loc main_arg4)) := by
  have e : iblk1 (V3 m ρ) c 3 t = W3 m ρ c main_v23 := by blk_ext! [iblk1, idx1 t]
  rw [e, w3_l3]; funext y; idx_vars y; pointwise [row]

theorem blk_l4 (c : Dev nD) (t : Fin cfg1.N) : iblk1 (V3 m ρ) c 4 t = row (m ((c : Thread nD τ).loc main_arg5)) := by
  have e : iblk1 (V3 m ρ) c 4 t = W3 m ρ c main_v24 := by blk_ext! [iblk1, idx1 t]
  rw [e, w3_l4]; funext y; idx_vars y; pointwise [row]

theorem blk_n (c : Dev nD) (t : Fin cfg1.N) : iblk1 (V3 m ρ) c 5 t = row (m ((c : Thread nD τ).loc main_arg6)) := by
  have e : iblk1 (V3 m ρ) c 5 t = W3 m ρ c main_v25 := by blk_ext! [iblk1, idx1 t]
  rw [e, w3_n]; funext y; idx_vars y; pointwise [row]

/-- The projected array, a batch at a time. -/
def bat (Z : FVec Ideal S17408x3072 .bf16) : FVec Ideal S8x2176x3072 .bf16 := shapeCast S8x2176x3072 Z shapeCasts_S17408x3072_S8x2176x3072

theorem bat_at (Z : FVec Ideal S17408x3072 .bf16) (b : Fin 8) (p : Fin 2176) (k : Fin 3072) :
    bat Z (ix3 b p k) = Z (ix2 ⟨2176 * b.val + p.val, by omega⟩ k) := by
  unfold bat
  pointwise
  blk_ext

theorem blk_q (c : Dev nD) (t : Fin cfg1.N) : iblk1 (V3 m ρ) c 6 t
    = rows (cols (m ((c : Thread nD τ).loc main_arg0)) (grid1.coords t 0) ⟨(grid1.coords t 1).val, by have : (grid1.coords t 1).val < 4 := (grid1.coords t 1).isLt; omega⟩) (grid1.coords t 2) := by
  funext y
  have hw : W3 m ρ c main_v20 = bat (m ((c : Thread nD τ).loc main_arg0)) := w3_z m ρ c
  obtain ⟨z, r, x, rfl⟩ : ∃ (z : Fin 1) (r : Fin 128) (x : Fin 256), y = ix3 z r x := ⟨y 0, y 1, y 2, by funext a; match a with | 0 => rfl | 1 => rfl | 2 => rfl⟩
  have e : iblk1 (V3 m ρ) c 6 t (ix3 z r x) = W3 m ρ c main_v20 (ix3 (grid1.coords t 0)
      ⟨128 * (grid1.coords t 2).val + r.val, by have : (grid1.coords t 2).val < 17 := (grid1.coords t 2).isLt; omega⟩
      ⟨256 * (grid1.coords t 1).val + x.val, by have : (grid1.coords t 1).val < 4 := (grid1.coords t 1).isLt; omega⟩) := by
    blk_ext! [iblk1, idx1 t]
  rw [e, hw]
  refine (bat_at _ _ _ _).trans ?_
  unfold rows cols
  rfl

theorem blk_k (c : Dev nD) (t : Fin cfg1.N) : iblk1 (V3 m ρ) c 7 t
    = cols (m ((c : Thread nD τ).loc main_arg0)) (grid1.coords t 0) ⟨4 + (grid1.coords t 1).val, by have : (grid1.coords t 1).val < 4 := (grid1.coords t 1).isLt; omega⟩ := by
  funext y
  have hw : W3 m ρ c main_v20 = bat (m ((c : Thread nD τ).loc main_arg0)) := w3_z m ρ c
  obtain ⟨z, r, x, rfl⟩ : ∃ (z : Fin 1) (r : Fin 2176) (x : Fin 256), y = ix3 z r x := ⟨y 0, y 1, y 2, by funext a; match a with | 0 => rfl | 1 => rfl | 2 => rfl⟩
  have e : iblk1 (V3 m ρ) c 7 t (ix3 z r x) = W3 m ρ c main_v20 (ix3 (grid1.coords t 0) r
      ⟨256 * (4 + (grid1.coords t 1).val) + x.val, by have : (grid1.coords t 1).val < 4 := (grid1.coords t 1).isLt; omega⟩) := by
    blk_ext! [iblk1, idx1 t]
  rw [e, hw]
  refine (bat_at _ _ _ _).trans ?_
  unfold cols
  rfl

theorem blk_v (c : Dev nD) (t : Fin cfg1.N) : iblk1 (V3 m ρ) c 8 t
    = cols (m ((c : Thread nD τ).loc main_arg0)) (grid1.coords t 0) ⟨8 + (grid1.coords t 1).val, by have : (grid1.coords t 1).val < 4 := (grid1.coords t 1).isLt; omega⟩ := by
  funext y
  have hw : W3 m ρ c main_v20 = bat (m ((c : Thread nD τ).loc main_arg0)) := w3_z m ρ c
  obtain ⟨z, r, x, rfl⟩ : ∃ (z : Fin 1) (r : Fin 2176) (x : Fin 256), y = ix3 z r x := ⟨y 0, y 1, y 2, by funext a; match a with | 0 => rfl | 1 => rfl | 2 => rfl⟩
  have e : iblk1 (V3 m ρ) c 8 t (ix3 z r x) = W3 m ρ c main_v20 (ix3 (grid1.coords t 0) r
      ⟨256 * (8 + (grid1.coords t 1).val) + x.val, by have : (grid1.coords t 1).val < 4 := (grid1.coords t 1).isLt; omega⟩) := by
    blk_ext! [iblk1, idx1 t]
  rw [e, hw]
  refine (bat_at _ _ _ _).trans ?_
  unfold cols
  rfl

theorem blk_t (c : Dev nD) (t : Fin cfg1.N) : iblk1 (V3 m ρ) c 9 t
    = tbl2 (tbl (m ((c : Thread nD τ).loc main_arg1))) (grid1.coords t 1) := by
  rw [← w3_table m ρ c]
  funext y
  obtain ⟨z, r, x, rfl⟩ : ∃ (z : Fin 2) (r : Fin 128) (x : Fin 384), y = ix3 z r x := ⟨y 0, y 1, y 2, by funext a; match a with | 0 => rfl | 1 => rfl | 2 => rfl⟩
  have e : iblk1 (V3 m ρ) c 9 t (ix3 z r x) = W3 m ρ c main_v19 (ix3
      ⟨2 * (grid1.coords t 1).val + z.val, by have : (grid1.coords t 1).val < 4 := (grid1.coords t 1).isLt; omega⟩ r x) := by
    blk_ext! [iblk1, idx1 t]
  rw [e]
  rfl

end Host

end Cert.AttnIdeal.Hand

end
-- ==== Proof.AttnFinal.lean ====
/- The attention's result array after its launches. -/
module

public import proofs.«01_k».proof.Proof.AttnLaunch
public import proofs.«01_k».proof.Proof.AttnRun
public import proofs.«01_k».proof.Proof.AttnOut
public import proofs.«01_k».proof.Proof.AttnTable
public import proofs.«01_k».proof.Proof.AttnFacts
public import Idealize.ShloMosaic.Lib.Pipeline.ValueKit
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.ValueIdxCore
public import Idealize.ShloMosaic.Lib.StableHlo.Predicate

@[expose] public section

set_option maxRecDepth 16384

noncomputable section

namespace Cert.AttnIdeal.Hand

open Idealize.ShloMosaic Idealize.ShloMosaic.TcCoe Idealize.SL.Sem
open Idealize.ShloMosaic.Pipeline (Dat)
open Cert.AttnIdeal Cert.AttnIdeal.Gen Cert.Proof.Attn

section Host
variable (m : (ℓ : Loc nD τ sig) → Buf (Elt Ideal) ℓ) (ρ : Dev nD → PrngReg)

/-- The result of batch `b`, head `h`, at row `r` of query block `a` and column `d`. -/
def resAt (Z : FVec Ideal S17408x3072 .bf16) (rb : FVec Ideal S32x8 .f32) (l1 l2 l3 l4 : FVec Ideal S128 .f32) (n : FVec Ideal S256 .f32)
    (b : Fin 8) (h : Fin 4) (a : Fin 17) (r : Fin 128) (d : Fin 256) : EReal :=
  outB h a rb (row l1) (row l2) (row l3) (row l4) (row n) (rows (cols Z b ⟨h.val, by omega⟩) a) (cols Z b ⟨4 + h.val, by omega⟩)
    (cols Z b ⟨8 + h.val, by omega⟩) (tbl2 (tbl rb) h) (ix3 0 r d)

theorem res_pt (c : Dev nD) (t : Fin cfg1.N) (r : Fin 128) (d : Fin 256) :
    outsAt1 (V3 m ρ) c t (ix3 0 r d) = resAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (grid1.coords t 0) (grid1.coords t 1) (grid1.coords t 2) r d := by
  unfold outsAt1
  rw [out_eq, blk_b m ρ c t, blk_l1 m ρ c t, blk_l2 m ρ c t, blk_l3 m ρ c t, blk_l4 m ρ c t, blk_n m ρ c t, blk_q m ρ c t, blk_k m ρ c t,
    blk_v m ρ c t, blk_t m ρ c t]
  rfl

theorem res_emb (t : Fin cfg1.N) (r : Fin 128) (d : Fin 256) :
    (((cfg1.win 10).blk t).view.emb (ix3 0 r d) : S8x2176x1024.Idx) = ix3 (grid1.coords t 0)
      ⟨128 * (grid1.coords t 2).val + r.val, by have : (grid1.coords t 2).val < 17 := (grid1.coords t 2).isLt; omega⟩
      ⟨256 * (grid1.coords t 1).val + d.val, by have : (grid1.coords t 1).val < 4 := (grid1.coords t 1).isLt; omega⟩ := by
  blk_ext! [idx1 t]

/-- The result array is `W` when each row and column of each block is. -/
theorem final (c : Dev nD) (W : FVec Ideal S8x2176x1024 .bf16)
    (hW : ∀ (b : Fin 8) (h : Fin 4) (a : Fin 17) (r : Fin 128) (d : Fin 256),
      resAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) b h a r d
        = W (ix3 b ⟨128 * a.val + r.val, by omega⟩ ⟨256 * h.val + d.val, by omega⟩)) :
    (dat1 (V3 m ρ) c).arrAt 10 cfg1.N = W := by
  refine (dat1 (V3 m ρ) c).arrAt_eq_of_covers 10 _ (by decide +kernel) fun t _ y => ?_
  blk_simp
  rw [after1_10]
  obtain ⟨z, r, x, rfl⟩ : ∃ (z : Fin 1) (r : Fin 128) (x : Fin 256), y = ix3 z r x := ⟨y 0, y 1, y 2, by funext a; match a with | 0 => rfl | 1 => rfl | 2 => rfl⟩
  obtain rfl : z = 0 := Subsingleton.elim _ _
  refine (res_pt m ρ c t r x).trans ?_
  rw [res_emb t r x]
  exact hW _ _ _ r x

end Host

end Cert.AttnIdeal.Hand

end
-- ==== Proof.AttnGather.lean ====
/- Rows of a table taken at a matrix of row numbers. -/
module

public import Idealize.ShloMosaic.Lib.ValueIdxCore
public import Idealize.ShloMosaic.Lib.Routing.Ops

@[expose] public section

namespace Cert.Proof.Attn

open Idealize.ShloMosaic Idealize.ShloMosaic.ValueIdx

/-- Where the matrix holds at `(r, c)` a row number `b` of the table, entry `(r, c, y)` is the table's entry `(b, y)`. -/
theorem gather_rows {α : Type} {N B R C : ℕ}
    (d : GatherDims ⟨2, ![N, B]⟩ ⟨3, ![R, C, 1]⟩ ⟨3, ![R, C, B]⟩) (hoff : d.offsetDims = [2]) (hcoll : d.collapsedSliceDims = [0])
    (hob : d.operandBatchingDims = []) (hsim : d.startIndexMap = [0]) (hivd : d.indexVectorDim = 2)
    (x : (⟨2, ![N, B]⟩ : Shape).Idx → α) (idx : IVec ⟨3, ![R, C, 1]⟩ 32) (r : Fin R) (c : Fin C) (y : Fin B) (b : Fin N)
    (hN : N < 2 ^ 31) (hb : idx (ix3 r c (0 : Fin 1)) = BitVec.ofNat 32 b.val) :
    Host.gather d x idx (ix3 r c y) = x (ix2 b y) := by
  unfold Host.gather
  refine congrArg x (funext fun a => Fin.ext ?_)
  have hbN : ∀ a', a' ∉ d.operandBatchingDims := fun a' => by rw [hob]; exact List.not_mem_nil
  have not1 : ∀ l : List (Fin 2), l = [0] → (1 : Fin 2) ∉ l := fun l hl h => by
    rw [hl] at h; exact absurd (List.mem_singleton.1 h) (by decide)
  have hbd : d.batchDims = [0, 1] := by
    unfold GatherDims.batchDims; rw [hoff]; rfl
  have hsk : d.siKept = [0, 1] := by
    unfold GatherDims.siKept; rw [hivd]; rfl
  have hg0 : ∀ (l l' : List (Fin 3)) (h : l'.idxOf 0 < l.length), l = [0, 1] → l' = [0, 1] → l[l'.idxOf 0]'h = 0 := by
    rintro _ _ h rfl rfl; rfl
  have hg1 : ∀ (l l' : List (Fin 3)) (h : l'.idxOf 1 < l.length), l = [0, 1] → l' = [0, 1] → l[l'.idxOf 1]'h = 1 := by
    rintro _ _ h rfl rfl; rfl
  have e0 : ∀ X : Fin 3, X = 0 → (ix3 r c y X).val = r.val := fun X h => by subst h; rfl
  have e1' : ∀ X : Fin 3, X = 1 → (ix3 r c y X).val = c.val := fun X h => by subst h; rfl
  match a with
  | ⟨0, _⟩ =>
    have hk : (0 : Fin 2) ∉ d.sKept := fun h => ((d.mem_sKept 0).1 h).1 (by rw [hcoll]; exact List.mem_singleton.2 rfl)
    have hm : (0 : Fin 2) ∈ d.startIndexMap := by rw [hsim]; exact List.mem_singleton.2 rfl
    have hsl : d.sliceSizes 0 = 1 := d.slice_collapsed 0 (by rw [hcoll]; exact List.mem_singleton.2 rfl)
    show d.start (ix3 r c y) idx 0 + d.batchCoord (ix3 r c y) 0 + d.offCoord (ix3 r c y) 0 = b.val
    rw [d.batchCoord_eq_zero _ _ (hbN 0), d.offCoord_eq_zero _ _ hk]
    simp only [Nat.add_zero]
    unfold GatherDims.start
    rw [dif_pos hm]
    have hsi : d.siIdx (ix3 r c y) ⟨d.startIndexMap.idxOf 0, List.idxOf_lt_length_iff.2 hm⟩ = ix3 r c (0 : Fin 1) := by
      funext b'
      apply Fin.ext
      match b' with
      | ⟨0, _⟩ =>
        unfold GatherDims.siIdx
        rw [dif_neg (by rw [hivd]; exact Nat.zero_ne_add_one 1)]
        unfold GatherDims.siCoord
        simp only [Fin.val_cast]
        exact e0 _ (hg0 _ _ _ hbd hsk)
      | ⟨1, _⟩ =>
        unfold GatherDims.siIdx
        rw [dif_neg (by rw [hivd]; exact (Nat.succ_ne_self 1).symm)]
        unfold GatherDims.siCoord
        simp only [Fin.val_cast]
        exact e1' _ (hg1 _ _ _ hbd hsk)
      | ⟨2, _⟩ =>
        unfold GatherDims.siIdx
        rw [dif_pos (by rw [hivd])]
        show List.idxOf (0 : Fin 2) d.startIndexMap = 0
        rw [hsim]; simp
    have hbl := b.isLt
    rw [hsi, hb, hsl, StableHlo.Predicate.toInt_ofNat_small _ (by omega)]
    show min ((b.val : Int)).toNat (N - 1) = b.val
    omega
  | ⟨1, _⟩ =>
    have hk : (1 : Fin 2) ∈ d.sKept := (d.mem_sKept 1).2 ⟨not1 _ hcoll, hbN 1⟩
    have hm : (1 : Fin 2) ∉ d.startIndexMap := not1 _ hsim
    show d.start (ix3 r c y) idx 1 + d.batchCoord (ix3 r c y) 1 + d.offCoord (ix3 r c y) 1 = y.val
    rw [d.batchCoord_eq_zero _ _ (hbN 1), Nat.add_zero]
    unfold GatherDims.start GatherDims.offCoord
    rw [dif_neg hm, dif_pos hk, Nat.zero_add]
    have hk1 : ∀ k ∈ d.offsetDims, k = (2 : Fin 3) := fun k hk => by rw [hoff] at hk; exact List.mem_singleton.1 hk
    have e1 : ∀ X : Fin 3, X = 2 → (ix3 r c y X).val = y.val := fun X h => by subst h; rfl
    exact e1 _ (hk1 _ (List.getElem_mem _))

end Cert.Proof.Attn

end
-- ==== Proof.AttnRef.lean ====
/- The reference's attention, read at an index. -/
module

public import proofs.«01_k».proof.Proof.Gen.AttnRefIdeal.Run
public import proofs.«01_k».proof.Proof.AttnFacts
public import proofs.«01_k».proof.Proof.AttnGather
public import Idealize.ShloMosaic.Lib.Pipeline.ValueKit
public import Idealize.ShloMosaic.Lib.StableHlo.Predicate

@[expose] public section

set_option maxRecDepth 16384

noncomputable section

namespace Cert.AttnRefIdeal.Hand

open Idealize.ShloMosaic Idealize.ShloMosaic.TcCoe Idealize.SL.Sem
open Cert.AttnRefIdeal Cert.AttnRefIdeal.Gen Cert.Proof.Attn

/-- Which keys a query sees. -/
def visR : IVec S2176x2176 1 :=
  (cmpi .sle (broadcastInDim S2176x2176 ![0, 1] bcast_S1x2176_S2176x2176_0_1 (broadcastInDim S1x2176 ![1] bcast_S2176_S1x2176_1 ((fun i => lit0 (S2176.rowMajor i))))) (broadcastInDim S2176x2176 ![0, 1] bcast_S2176x1_S2176x2176_0_1 (broadcastInDim S2176x1 ![0] bcast_S2176_S2176x1_0 ((fun i => lit0 (S2176.rowMajor i))))))

/-- The relative bias of a query and a key. -/
def biasR (rb : FVec Ideal S32x8 .f32) : FVec Ideal S8x2176x2176 .f32 :=
  (transpose S8x2176x2176 [2, 0, 1] (Host.gather gather_S32x8_S2176x2176x1_S2176x2176x8_2_0_n_n_0_2_18 rb (broadcastInDim S2176x2176x1 ![0, 1] bcast_S2176x2176_S2176x2176x1_0_1 (Host.gather gather_S4351_S2176x2176x1_S2176x2176_n_0_n_n_0_2_1 ((fun i => lit1 (S4351.rowMajor i))) (broadcastInDim S2176x2176x1 ![0, 1] bcast_S2176x2176_S2176x2176x1_0_1 (addi (subi (broadcastInDim S2176x2176 ![0, 1] bcast_S1x2176_S2176x2176_0_1 (broadcastInDim S1x2176 ![1] bcast_S2176_S1x2176_1 (iotaInDim S2176 32 0))) (broadcastInDim S2176x2176 ![0, 1] bcast_S2176x1_S2176x2176_0_1 (broadcastInDim S2176x1 ![0] bcast_S2176_S2176x1_0 (iotaInDim S2176 32 0)))) (broadcastInDim S2176x2176 ![] bcast_S_S2176x2176 (constantI S_ 32 2175#32))))))) transposes_S2176x2176x8_S8x2176x2176_2_0_1)

def qR (Z : FVec Ideal S17408x3072 .bf16) : FVec Ideal S8x2176x8x128 .f32 :=
  (shapeCast S8x2176x8x128 (extractStridedSlice S8x2176x1024 ![0, 0, 0] (shapeCast S8x2176x3072 (extf .f32 Z bitsLt_bf16_f32) shapeCasts_S17408x3072_S8x2176x3072) slices_S8x2176x3072_S8x2176x1024_0_0_0) shapeCasts_S8x2176x1024_S8x2176x8x128)

def kR (Z : FVec Ideal S17408x3072 .bf16) : FVec Ideal S8x2176x8x128 .f32 :=
  (shapeCast S8x2176x8x128 (extractStridedSlice S8x2176x1024 ![0, 0, 1024] (shapeCast S8x2176x3072 (extf .f32 Z bitsLt_bf16_f32) shapeCasts_S17408x3072_S8x2176x3072) slices_S8x2176x3072_S8x2176x1024_0_0_1024) shapeCasts_S8x2176x1024_S8x2176x8x128)

def vR (Z : FVec Ideal S17408x3072 .bf16) : FVec Ideal S8x2176x4x256 .f32 :=
  (shapeCast S8x2176x4x256 (extractStridedSlice S8x2176x1024 ![0, 0, 2048] (shapeCast S8x2176x3072 (extf .f32 Z bitsLt_bf16_f32) shapeCasts_S17408x3072_S8x2176x3072) slices_S8x2176x3072_S8x2176x1024_0_0_2048) shapeCasts_S8x2176x1024_S8x2176x4x256)

/-- The masked scores. -/
def scoreR (Z : FVec Ideal S17408x3072 .bf16) (rb : FVec Ideal S32x8 .f32) : FVec Ideal S8x8x2176x2176 .f32 :=
  (select (broadcastInDim S8x8x2176x2176 ![2, 3] bcast_S2176x2176_S8x8x2176x2176_2_3 visR) (addf (mulf (Host.dotGeneral dot_S8x2176x8x128_S8x2176x8x128_S8x8x2176x2176_3_3_1_1_02_02 none (qR Z) (kR Z)) (broadcastInDim S8x8x2176x2176 ![] bcast_S_S8x8x2176x2176 (constant S_ .f32 0x3DB504F3#32))) (broadcastInDim S8x8x2176x2176 ![0, 1, 2, 3] bcast_S1x8x2176x2176_S8x8x2176x2176_0_1_2_3 (broadcastInDim S1x8x2176x2176 ![1, 2, 3] bcast_S8x2176x2176_S1x8x2176x2176_1_2_3 (biasR rb)))) (broadcastInDim S8x8x2176x2176 ![] bcast_S_S8x8x2176x2176 (id (constant S_ .f32 0xFF800000#32 : FVec Ideal S_ .f32))))

/-- The maximum of a row of scores. -/
def maxR (s : FVec Ideal S8x8x2176x2176 .f32) : FVec Ideal S8x8x2176 .f32 :=
  (maximumf (broadcastInDim S8x8x2176 ![] bcast_S_S8x8x2176 (constant S_ .f32 0xFF800000#32 : FVec Ideal S_ .f32)) (Host.reduce FloatOps.maximumf s (constant S_ .f32 0xFF800000#32 : FVec Ideal S_ .f32) reducesTo_S8x8x2176x2176_S8x8x2176_d3 h_S_))

/-- The sum of a row. -/
def sumR (s : FVec Ideal S8x8x2176x2176 .f32) : FVec Ideal S8x8x2176 .f32 :=
  (Host.reduceAdd s (constant S_ .f32 0x00000000#32) reducesTo_S8x8x2176x2176_S8x8x2176_d3 h_S_)

/-- The exponentials of the scores below their maximum. -/
def expR (s : FVec Ideal S8x8x2176x2176 .f32) : FVec Ideal S8x8x2176x2176 .f32 :=
  (Host.exp (subf s (broadcastInDim S8x8x2176x2176 ![0, 1, 2, 3] bcast_S8x8x2176x1_S8x8x2176x2176_0_1_2_3 (broadcastInDim S8x8x2176x1 ![0, 1, 2] bcast_S8x8x2176_S8x8x2176x1_0_1_2 (maxR s)))))

/-- The softmax. -/
def softR (s : FVec Ideal S8x8x2176x2176 .f32) : FVec Ideal S8x8x2176x2176 .f32 :=
  (Host.divf (expR s) (broadcastInDim S8x8x2176x2176 ![0, 1, 2, 3] bcast_S8x8x2176x1_S8x8x2176x2176_0_1_2_3 (broadcastInDim S8x8x2176x1 ![0, 1, 2] bcast_S8x8x2176_S8x8x2176x1_0_1_2 (sumR (expR s)))))

/-- The factor of the second map. -/
def lamR (l1 l2 l3 l4 : FVec Ideal S128 .f32) : FVec Ideal S_ .f32 :=
  (addf (subf (Host.exp (Host.reduceAdd (mulf l1 l2) (constant S_ .f32 0x00000000#32) reducesTo_S128_S_d0 h_S_)) (Host.exp (Host.reduceAdd (mulf l3 l4) (constant S_ .f32 0x00000000#32) reducesTo_S128_S_d0 h_S_))) (constant S_ .f32 0x3E4CCCCD#32))

/-- The difference of the two maps, applied to the values. -/
def attR (v : FVec Ideal S8x2176x4x256 .f32) (p : FVec Ideal S8x8x2176x2176 .f32) (lam : FVec Ideal S_ .f32) : FVec Ideal S8x2176x4x256 .f32 :=
  (transpose S8x2176x4x256 [0, 3, 1, 2] (Host.dotGeneral dot_S8x2176x4x256_S8x4x2176x2176_S8x4x256x2176_1_3_3_2_02_01 none v (subf (shapeCast S8x4x2176x2176 (extractStridedSlice S8x4x1x2176x2176 ![0, 0, 0, 0, 0] (shapeCast S8x4x2x2176x2176 p shapeCasts_S8x8x2176x2176_S8x4x2x2176x2176) slices_S8x4x2x2176x2176_S8x4x1x2176x2176_0_0_0_0_0) shapeCasts_S8x4x1x2176x2176_S8x4x2176x2176) (mulf (broadcastInDim S8x4x2176x2176 ![] bcast_S_S8x4x2176x2176 lam) (shapeCast S8x4x2176x2176 (extractStridedSlice S8x4x1x2176x2176 ![0, 0, 1, 0, 0] (shapeCast S8x4x2x2176x2176 p shapeCasts_S8x8x2176x2176_S8x4x2x2176x2176) slices_S8x4x2x2176x2176_S8x4x1x2176x2176_0_0_1_0_0) shapeCasts_S8x4x1x2176x2176_S8x4x2176x2176)))) transposes_S8x4x256x2176_S8x2176x4x256_0_3_1_2)

/-- The norm over a head's columns. -/
def normR (o : FVec Ideal S8x2176x4x256 .f32) (nw : FVec Ideal S256 .f32) : FVec Ideal S8x2176x1024 .bf16 :=
  truncf .bf16 (shapeCast S8x2176x1024 (mulf (mulf (mulf o (broadcastInDim S8x2176x4x256 ![0, 1, 2, 3] bcast_S8x2176x4x1_S8x2176x4x256_0_1_2_3 (Host.rsqrt (addf (Host.divf (broadcastInDim S8x2176x4x1 ![0, 1, 2] bcast_S8x2176x4_S8x2176x4x1_0_1_2 (Host.reduceAdd (mulf o o) (constant S_ .f32 0x00000000#32) reducesTo_S8x2176x4x256_S8x2176x4_d3 h_S_)) (broadcastInDim S8x2176x4x1 ![] bcast_S_S8x2176x4x1 (constant S_ .f32 0x43800000#32))) (broadcastInDim S8x2176x4x1 ![] bcast_S_S8x2176x4x1 (constant S_ .f32 0x3727C5AC#32)))))) (broadcastInDim S8x2176x4x256 ![0, 1, 2, 3] bcast_S1x1x1x256_S8x2176x4x256_0_1_2_3 (broadcastInDim S1x1x1x256 ![3] bcast_S256_S1x1x1x256_3 nw))) (broadcastInDim S8x2176x4x256 ![] bcast_S_S8x2176x4x256 (constant S_ .f32 0x3F4CCCCD#32))) shapeCasts_S8x2176x4x256_S8x2176x1024) bitsLt_bf16_f32

def REF (Z : FVec Ideal S17408x3072 .bf16) (rb : FVec Ideal S32x8 .f32) (l1 l2 l3 l4 : FVec Ideal S128 .f32) (nw : FVec Ideal S256 .f32) :
    FVec Ideal S8x2176x1024 .bf16 :=
  normR (attR (vR Z) (softR (scoreR Z rb)) (lamR l1 l2 l3 l4)) nw

theorem res_eq (m : (ℓ : Loc nD τ sig) → Buf (Elt Ideal) ℓ) (c : Dev nD) :
    Cert.AttnRefIdeal.Value.res_main_v78 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold Cert.AttnRefIdeal.Value.res_main_v78 REF normR attR lamR softR sumR expR maxR scoreR vR kR qR biasR visR
  rfl

end Cert.AttnRefIdeal.Hand

end
-- ==== Proof.AttnRefAt.lean ====
/- The reference's attention, read at an index. -/
module

public import proofs.«01_k».proof.Proof.AttnRef
public import proofs.«01_k».proof.Proof.Math

@[expose] public section

set_option maxRecDepth 16384

noncomputable section

namespace Cert.AttnRefIdeal.Hand

open Idealize.ShloMosaic Idealize.ShloMosaic.TcCoe Idealize.SL.Sem
open Cert.AttnRefIdeal Cert.AttnRefIdeal.Gen Cert.Proof.Attn

theorem neg_inf : Ideal.ofBits .f32 4286578688#32 = (⊥ : EReal) := by
  simp [Ideal.ofBits, Ideal.ieee]

/-- A key is seen when its chunk is not after the query's. -/
theorem vis_at (q k : Fin 2176) : visR (ix2 q k) = BitVec.ofBool (decide ((k.val + 48) / 64 ≤ (q.val + 48) / 64)) := by
  have e : ∀ p : Fin 2176, S2176.rowMajor (ix1 p) = p := fun p => Fin.ext (Shape.rowMajor_val_one _)
  have h : visR (ix2 q k) = IntOp.cmpi .sle (lit0 k) (lit0 q) := by
    pointwise [visR]
    rw [e, e]
  rw [h, ref_chunk, ref_chunk]
  exact sle_ref ⟨(k.val + 48) / 64, by omega⟩ ⟨(q.val + 48) / 64, by omega⟩

/-- The bias of a query and a key. -/
theorem bias_at (rb : FVec Ideal S32x8 .f32) (n : Fin 8) (q k : Fin 2176) :
    biasR rb (ix3 n q k) = rb (ix2 (bucket ⟨k.val + 2175 - q.val, by omega⟩) n) := by
  have e1 : ∀ p : Fin 4351, S4351.rowMajor (ix1 p) = p := fun p => Fin.ext (Shape.rowMajor_val_one _)
  have hb : ∀ X : IVec S2176x2176 32, broadcastInDim S2176x2176x1 ![0, 1] bcast_S2176x2176_S2176x2176x1_0_1 X (ix3 q k (0 : Fin 1)) = X (ix2 q k) := by
    intro X; pointwise
  have hw : ∀ q k : Fin 2176, min ((BitVec.ofNat 32 k.val - BitVec.ofNat 32 q.val + 2175#32 : BitVec 32).toInt.toNat) (4351 - 1)
      = k.val + 2175 - q.val := by
    intro q k
    have e : (BitVec.ofNat 32 k.val - BitVec.ofNat 32 q.val + 2175#32 : BitVec 32) = BitVec.ofNat 32 (k.val + 2175 - q.val) := by
      apply BitVec.eq_of_toNat_eq
      simp only [BitVec.toNat_add, BitVec.toNat_sub, BitVec.toNat_ofNat]
      omega
    rw [e, StableHlo.Predicate.toInt_ofNat_small _ (by omega)]
    omega
  unfold biasR
  pointwise
  refine gather_rows gather_S32x8_S2176x2176x1_S2176x2176x8_2_0_n_n_0_2_18 rfl rfl rfl rfl rfl rb _ q k n _ (by decide) ?_
  rw [← ref_bucket]
  refine (hb _).trans ?_
  refine (ValueIdx.gather_take_apply (N := 4351) (by decide) _ _ _ (ix2 q k)).trans ?_
  refine congrArg lit1 (Fin.ext ?_)
  exact (Shape.rowMajor_val_one _).trans (hw q k)

theorem q_at (Z : FVec Ideal S17408x3072 .bf16) (b : Fin 8) (p : Fin 2176) (n : Fin 8) (d : Fin 128) :
    qR Z (ix4 b p n d) = Z (ix2 ⟨2176 * b.val + p.val, by omega⟩ ⟨128 * n.val + d.val, by omega⟩) := by
  pointwise [qR]
  blk_ext

theorem k_at (Z : FVec Ideal S17408x3072 .bf16) (b : Fin 8) (p : Fin 2176) (n : Fin 8) (d : Fin 128) :
    kR Z (ix4 b p n d) = Z (ix2 ⟨2176 * b.val + p.val, by omega⟩ ⟨1024 + (128 * n.val + d.val), by omega⟩) := by
  pointwise [kR]
  blk_ext

theorem v_at (Z : FVec Ideal S17408x3072 .bf16) (b : Fin 8) (p : Fin 2176) (h : Fin 4) (d : Fin 256) :
    vR Z (ix4 b p h d) = Z (ix2 ⟨2176 * b.val + p.val, by omega⟩ ⟨2048 + (256 * h.val + d.val), by omega⟩) := by
  pointwise [vR]
  blk_ext

theorem score_at (Z : FVec Ideal S17408x3072 .bf16) (rb : FVec Ideal S32x8 .f32) (b n : Fin 8) (q k : Fin 2176) :
    scoreR Z rb (ix4 b n q k) = if (k.val + 48) / 64 ≤ (q.val + 48) / 64 then
      (∑ d : Fin 128, Z (ix2 ⟨2176 * b.val + q.val, by omega⟩ ⟨128 * n.val + d.val, by omega⟩)
        * Z (ix2 ⟨2176 * b.val + k.val, by omega⟩ ⟨1024 + (128 * n.val + d.val), by omega⟩)) * Ideal.ofBits .f32 0x3DB504F3#32
        + rb (ix2 (bucket ⟨k.val + 2175 - q.val, by omega⟩) n)
      else (⊥ : EReal) := by
  pointwise [scoreR]
  rw [vis_at, bias_at, show (id (constant S_ .f32 4286578688#32 : FVec Ideal S_ .f32) ix0 : EReal) = ⊥ from neg_inf]
  simp only [q_at, k_at]
  by_cases h : (k.val + 48) / 64 ≤ (q.val + 48) / 64
  · rw [decide_eq_true h, if_pos h]; rfl
  · rw [decide_eq_false h, if_neg h]; rfl

theorem mx (s : FVec Ideal S8x8x2176x2176 .f32) (b n : Fin 8) (q : Fin 2176) :
   (Host.reduce FloatOps.maximumf s (constant S_ .f32 0xFF800000#32 : FVec Ideal S_ .f32) reducesTo_S8x8x2176x2176_S8x8x2176_d3 h_S_) (ix3 b n q)
    = (Finset.univ.fold max (Ideal.ofBits .f32 0xFF800000#32) fun j : Fin 2176 => s (ix4 b n q j)) := by
  pointwise

theorem mx2 (s : FVec Ideal S8x8x2176 .f32) (b n : Fin 8) (q : Fin 2176) :
    (maximumf (broadcastInDim S8x8x2176 ![] bcast_S_S8x8x2176 (constant S_ .f32 0xFF800000#32 : FVec Ideal S_ .f32)) s) (ix3 b n q)
      = max (Ideal.ofBits .f32 0xFF800000#32) (s (ix3 b n q)) := by
  pointwise

theorem max_at (s : FVec Ideal S8x8x2176x2176 .f32) (b n : Fin 8) (q : Fin 2176) :
    maxR s (ix3 b n q) = max ⊥ (Finset.univ.fold max ⊥ fun j : Fin 2176 => s (ix4 b n q j)) := by
  unfold maxR
  rw [← neg_inf]
  exact (mx2 _ b n q).trans (congrArg (max (Ideal.ofBits .f32 0xFF800000#32)) (mx s b n q))

theorem sum_at (s : FVec Ideal S8x8x2176x2176 .f32) (b n : Fin 8) (q : Fin 2176) :
    sumR s (ix3 b n q) = ∑ j : Fin 2176, s (ix4 b n q j) := by
  pointwise [sumR]

theorem exp_at (s : FVec Ideal S8x8x2176x2176 .f32) (b n : Fin 8) (q k : Fin 2176) :
    expR s (ix4 b n q k) = Ideal.exp (s (ix4 b n q k) - maxR s (ix3 b n q)) := by
  pointwise [expR]

theorem soft_at (s : FVec Ideal S8x8x2176x2176 .f32) (b n : Fin 8) (q k : Fin 2176) :
    softR s (ix4 b n q k) = Ideal.div (expR s (ix4 b n q k)) (sumR (expR s) (ix3 b n q)) := by
  pointwise [softR]

theorem att_at (v : FVec Ideal S8x2176x4x256 .f32) (p : FVec Ideal S8x8x2176x2176 .f32) (lam : FVec Ideal S_ .f32)
    (b : Fin 8) (q : Fin 2176) (h : Fin 4) (d : Fin 256) :
    attR v p lam (ix4 b q h d) = ∑ k : Fin 2176, v (ix4 b k h d) * (p (ix4 b ⟨h.val * 2, by omega⟩ q k)
      - lam ix0 * p (ix4 b ⟨h.val * 2 + 1, by omega⟩ q k)) := by
  pointwise [attR]

theorem lam_at (l1 l2 l3 l4 : FVec Ideal S128 .f32) : lamR l1 l2 l3 l4 ix0
    = Ideal.exp (∑ i : Fin 128, l1 (ix1 i) * l2 (ix1 i)) - Ideal.exp (∑ i : Fin 128, l3 (ix1 i) * l4 (ix1 i)) + Ideal.ofBits .f32 0x3E4CCCCD#32 := by
  pointwise [lamR]

theorem norm_at (o : FVec Ideal S8x2176x4x256 .f32) (nw : FVec Ideal S256 .f32) (b : Fin 8) (q : Fin 2176) (h : Fin 4) (d : Fin 256) :
    normR o nw (ix3 b q ⟨256 * h.val + d.val, by omega⟩) = o (ix4 b q h d) * Ideal.rsqrt (Ideal.div (∑ j : Fin 256, o (ix4 b q h j) * o (ix4 b q h j)) (Ideal.ofBits .f32 0x43800000#32)
      + Ideal.ofBits .f32 0x3727C5AC#32) * nw (ix1 d) * Ideal.ofBits .f32 0x3F4CCCCD#32 := by
  pointwise [normR]

end Cert.AttnRefIdeal.Hand

end
-- ==== Proof.AttnScore.lean ====
/- The kernel's scores are the reference's. -/
module

public import proofs.«01_k».proof.Proof.AttnSum
public import proofs.«01_k».proof.Proof.AttnFinal
public import proofs.«01_k».proof.Proof.AttnRefAt

@[expose] public section

set_option maxRecDepth 16384

noncomputable section

namespace Cert.AttnIdeal.Hand

open Idealize.ShloMosaic Idealize.ShloMosaic.TcCoe Idealize.SL.Sem
open Cert.AttnIdeal Cert.AttnIdeal.Gen Cert.Proof.Softmax Cert.Proof.Attn

variable (Z : FVec Ideal S17408x3072 .bf16) (rb : FVec Ideal S32x8 .f32)

/-- The scaled product of a query and a key of map `n`. -/
def PR (b n : Fin 8) (q k : Fin 2176) : EReal :=
  (∑ d : Fin 128, Z (ix2 ⟨2176 * b.val + q.val, by omega⟩ ⟨128 * n.val + d.val, by omega⟩)
    * Z (ix2 ⟨2176 * b.val + k.val, by omega⟩ ⟨1024 + (128 * n.val + d.val), by omega⟩)) * Ideal.ofBits .f32 0x3DB504F3#32

/-- The masked score. -/
def scoreAt (b n : Fin 8) (q k : Fin 2176) : EReal :=
  if (k.val + 48) / 64 ≤ (q.val + 48) / 64 then PR Z b n q k + rb (ix2 (bucket ⟨k.val + 2175 - q.val, by omega⟩) n) else ⊥

theorem score_ref (b n : Fin 8) (q k : Fin 2176) : Cert.AttnRefIdeal.Hand.scoreR Z rb (ix4 b n q k) = scoreAt Z rb b n q k :=
  Cert.AttnRefIdeal.Hand.score_at Z rb b n q k

theorem prod0_PR (b : Fin 8) (h : Fin 4) (a j : Fin 17) (r c : Fin 128) (n : Fin 8) (hn : n.val = 2 * h.val + 0) :
    prod0 (rows (cols Z b ⟨h.val, by omega⟩) a) (tile (cols Z b ⟨4 + h.val, by omega⟩) j.val) (ix2 r c)
      = PR Z b n ⟨128 * a.val + r.val, by omega⟩ ⟨128 * j.val + c.val, by omega⟩ := by
  rw [prod0_at]
  unfold PR
  refine congrArg (· * _) (Finset.sum_congr rfl fun d _ => ?_)
  rw [tile_at _ _ j.isLt]
  unfold rows cols
  refine congrArg₂ (· * ·) (congrArg Z ?_) (congrArg Z ?_)
  · exact congrArg₂ ix2 rfl (Fin.ext (by show 256 * h.val + d.val = 128 * n.val + d.val; omega))
  · exact congrArg₂ ix2 rfl (Fin.ext (by show 256 * (4 + h.val) + d.val = 1024 + (128 * n.val + d.val); omega))

theorem prod1_PR (b : Fin 8) (h : Fin 4) (a j : Fin 17) (r c : Fin 128) (n : Fin 8) (hn : n.val = 2 * h.val + 1) :
    prod1 (rows (cols Z b ⟨h.val, by omega⟩) a) (tile (cols Z b ⟨4 + h.val, by omega⟩) j.val) (ix2 r c)
      = PR Z b n ⟨128 * a.val + r.val, by omega⟩ ⟨128 * j.val + c.val, by omega⟩ := by
  rw [prod1_at]
  unfold PR
  refine congrArg (· * _) (Finset.sum_congr rfl fun d _ => ?_)
  rw [tile_at _ _ j.isLt]
  unfold rows cols
  refine congrArg₂ (· * ·) (congrArg Z ?_) (congrArg Z ?_)
  · exact congrArg₂ ix2 rfl (Fin.ext (by show 256 * h.val + (128 + d.val) = 128 * n.val + d.val; omega))
  · exact congrArg₂ ix2 rfl (Fin.ext (by show 256 * (4 + h.val) + (128 + d.val) = 1024 + (128 * n.val + d.val); omega))

theorem wtile_at (h : Fin 4) (s : Fin 2) (i : Fin 3) (r c : Fin 128) (n : Fin 8) (hn : n.val = 2 * h.val + s.val) :
    wtile (tbl2 (tbl rb) h) s i (ix3 0 r c) = tblAt rb n r ⟨128 * i.val + c.val, by omega⟩ := by
  have e : (⟨2 * h.val + s.val, by omega⟩ : Fin 8) = n := Fin.ext hn.symm
  rw [← e]
  rfl

theorem pen_before (a : Fin 17) : (pen (BitVec.ofNat 32 a.val) 4294967295#32 : EReal) = if 1 ≤ a.val then 0 else ⊥ := by
  fin_cases a
  · exact mask_bot
  all_goals exact Ideal.ofBits_zero_f32

theorem pen_at (a : Fin 17) : (pen (BitVec.ofNat 32 a.val) 0#32 : EReal) = 0 := by
  fin_cases a <;> exact Ideal.ofBits_zero_f32

theorem pen_after (a : Fin 17) : (pen (BitVec.ofNat 32 a.val) 1#32 : EReal) = if a.val ≤ 15 then 0 else ⊥ := by
  fin_cases a
  case' «16» => exact mask_bot
  all_goals exact Ideal.ofBits_zero_f32

/-- Far before the query every key is seen and has the last bucket. -/
theorem far_score (b n : Fin 8) (a j : Fin 17) (hj : j.val < a.val - 1) (r c : Fin 128) :
    PR Z b n ⟨128 * a.val + r.val, by omega⟩ ⟨128 * j.val + c.val, by omega⟩ + rb (ix2 15 n)
      = scoreAt Z rb b n ⟨128 * a.val + r.val, by omega⟩ ⟨128 * j.val + c.val, by omega⟩ := by
  unfold scoreAt
  rw [if_pos (show (128 * j.val + c.val + 48) / 64 ≤ (128 * a.val + r.val + 48) / 64 by omega)]
  have e := far_bucket ⟨128 * j.val + c.val + 2175 - (128 * a.val + r.val), by omega⟩
  exact congrArg (fun x => _ + rb (ix2 x n)) e.symm

/-- Next to the diagonal the table holds the mask and the bias. -/
theorem near_score (b n : Fin 8) (a j : Fin 17) (i : Fin 3) (hj : j.val + 1 = a.val + i.val) (r c : Fin 128) :
    PR Z b n ⟨128 * a.val + r.val, by omega⟩ ⟨128 * j.val + c.val, by omega⟩ + tblAt rb n r ⟨128 * i.val + c.val, by omega⟩ + 0
      = scoreAt Z rb b n ⟨128 * a.val + r.val, by omega⟩ ⟨128 * j.val + c.val, by omega⟩ := by
  unfold scoreAt tblAt
  rw [add_zero]
  have hv : visible r ⟨128 * i.val + c.val, by omega⟩ ↔ (128 * j.val + c.val + 48) / 64 ≤ (128 * a.val + r.val + 48) / 64 := by
    unfold visible
    show (128 * i.val + c.val + 48) / 64 ≤ (r.val + 48) / 64 + 2 ↔ _
    omega
  by_cases h : (128 * j.val + c.val + 48) / 64 ≤ (128 * a.val + r.val + 48) / 64
  · rw [if_pos (hv.2 h), if_pos h, zero_add]
    unfold bucketAt
    refine congrArg (fun x => _ + rb (ix2 (bucket x) n)) (Fin.ext ?_)
    show 128 * i.val + c.val + 2047 - r.val = 128 * j.val + c.val + 2175 - (128 * a.val + r.val)
    omega
  · rw [if_neg (fun g => h (hv.1 g)), if_neg h, EReal.bot_add, EReal.add_bot]

theorem hidden (b n : Fin 8) (a : Fin 17) (r : Fin 128) (k : Fin 2176) (hk : 128 * (a.val + 2) ≤ k.val) :
    scoreAt Z rb b n ⟨128 * a.val + r.val, by omega⟩ k = ⊥ := by
  unfold scoreAt
  rw [if_neg (show ¬ (k.val + 48) / 64 ≤ (128 * a.val + r.val + 48) / 64 by omega)]

theorem scale_real : ∃ x : ℝ, Ideal.ofBits .f32 0x3DB504F3#32 = (x : EReal) := by
  simp only [Ideal.ofBits, Ideal.ieee]
  simp
  exact ⟨_, (EReal.coe_mul _ _).symm⟩

theorem lam_real : ∃ x : ℝ, Ideal.ofBits .f32 0x3E4CCCCD#32 = (x : EReal) := by
  simp only [Ideal.ofBits, Ideal.ieee]
  simp
  exact ⟨_, (EReal.coe_mul _ _).symm⟩

section Finite
variable (hZ : ∀ i, ∃ x : ℝ, Z i = (x : EReal)) (hrb : ∀ i, ∃ x : ℝ, rb i = (x : EReal))
include hZ

theorem PR_real (b n : Fin 8) (q k : Fin 2176) : ∃ x : ℝ, PR Z b n q k = (x : EReal) := by
  choose z hz using hZ
  obtain ⟨s, hs⟩ := scale_real
  refine ⟨(∑ d : Fin 128, z (ix2 ⟨2176 * b.val + q.val, by omega⟩ ⟨128 * n.val + d.val, by omega⟩)
    * z (ix2 ⟨2176 * b.val + k.val, by omega⟩ ⟨1024 + (128 * n.val + d.val), by omega⟩)) * s, ?_⟩
  unfold PR
  rw [hs, EReal.coe_mul, coe_sum]
  simp only [hz, EReal.coe_mul]

include hrb

theorem score_ne_top (b n : Fin 8) (q k : Fin 2176) : scoreAt Z rb b n q k ≠ ⊤ := by
  obtain ⟨x, hx⟩ := PR_real Z hZ b n q k
  obtain ⟨y, hy⟩ := hrb (ix2 (bucket ⟨k.val + 2175 - q.val, by omega⟩) n)
  unfold scoreAt
  split
  · rw [hx, hy, ← EReal.coe_add]; exact EReal.coe_ne_top _
  · exact bot_ne_top

theorem score_self (b n : Fin 8) (q : Fin 2176) : scoreAt Z rb b n q q ≠ ⊥ := by
  obtain ⟨x, hx⟩ := PR_real Z hZ b n q q
  obtain ⟨y, hy⟩ := hrb (ix2 (bucket ⟨q.val + 2175 - q.val, by omega⟩) n)
  unfold scoreAt
  rw [if_pos le_rfl, hx, hy, ← EReal.coe_add]; exact EReal.coe_ne_bot _

end Finite

end Cert.AttnIdeal.Hand

end
-- ==== Proof.AttnRuns.lean ====
/- The two running sums of a head end at the sums over the whole row. -/
module

public import proofs.«01_k».proof.Proof.AttnScore

@[expose] public section

set_option maxRecDepth 16384

noncomputable section

namespace Cert.AttnIdeal.Hand

open Idealize.ShloMosaic Idealize.ShloMosaic.TcCoe Idealize.SL.Sem
open Cert.AttnIdeal Cert.AttnIdeal.Gen Cert.Proof.Softmax Cert.Proof.Attn

variable (Z : FVec Ideal S17408x3072 .bf16) (rb : FVec Ideal S32x8 .f32)

/-- The masked score of a row, over all natural positions. -/
def rowS (b n : Fin 8) (q : Fin 2176) (p : ℕ) : EReal := if hp : p < 2176 then scoreAt Z rb b n q ⟨p, hp⟩ else ⊥

theorem rowS_in (b n : Fin 8) (q : Fin 2176) (p : ℕ) (hp : p < 2176) : rowS Z rb b n q p = scoreAt Z rb b n q ⟨p, hp⟩ := dif_pos hp

section Finite
variable (hZ : ∀ i, ∃ x : ℝ, Z i = (x : EReal)) (hrb : ∀ i, ∃ x : ℝ, rb i = (x : EReal))
include hZ hrb

theorem rowS_ne_top (b n : Fin 8) (q : Fin 2176) (p : ℕ) : rowS Z rb b n q p ≠ ⊤ := by
  unfold rowS
  split
  · exact score_ne_top Z rb hZ hrb b n q _
  · exact bot_ne_top

/-- One map of a head, over any product with the scaled product's values. -/
theorem run_row (b n : Fin 8) (a : Fin 17) (r : Fin 128) (P : FVec Ideal S1x128x256 .bf16 → FVec Ideal S128x128 .f32)
    (K V : FVec Ideal S1x2176x256 .bf16) (bb : Ideal .f32) (w0 w1 w2 : FVec Ideal S1x128x128 .f32) (v : Fin 2176 → Fin 256 → ℝ)
    (hV : ∀ p d, V (ix3 0 p d) = ((v p d : ℝ) : EReal))
    (hP : ∀ (j : Fin 17) (c : Fin 128), P (tile K j.val) (ix2 r c)
      = PR Z b n ⟨128 * a.val + r.val, by omega⟩ ⟨128 * j.val + c.val, by omega⟩)
    (hb : bb = rb (ix2 15 n))
    (hw0 : ∀ c : Fin 128, w0 (ix3 0 r c) = tblAt rb n r ⟨128 * (0 : Fin 3).val + c.val, by omega⟩)
    (hw1 : ∀ c : Fin 128, w1 (ix3 0 r c) = tblAt rb n r ⟨128 * (1 : Fin 3).val + c.val, by omega⟩)
    (hw2 : ∀ c : Fin 128, w2 (ix3 0 r c) = tblAt rb n r ⟨128 * (2 : Fin 3).val + c.val, by omega⟩) :
    RowOK ((((farSt P K V bb St.init (a.val - 1)).step
        (near (P (tile K (near_ix a.val (0 : Fin 3).val))) w0 (pen (BitVec.ofNat 32 a.val) 4294967295#32)) (tile V (near_ix a.val (0 : Fin 3).val))).step
        (near (P (tile K (near_ix a.val (1 : Fin 3).val))) w1 (pen (BitVec.ofNat 32 a.val) 0#32)) (tile V (near_ix a.val (1 : Fin 3).val))).step
        (near (P (tile K (near_ix a.val (2 : Fin 3).val))) w2 (pen (BitVec.ofNat 32 a.val) 1#32)) (tile V (near_ix a.val (2 : Fin 3).val))) r
      (∑ p : Fin 2176, E (scoreAt Z rb b n ⟨128 * a.val + r.val, by omega⟩ p))
      (fun d => ∑ p : Fin 2176, E (scoreAt Z rb b n ⟨128 * a.val + r.val, by omega⟩ p) * v p d) := by
  have ha := a.isLt
  have key := whole_row (rowS Z rb b n ⟨128 * a.val + r.val, by omega⟩) (fun p d => if hp : p < 2176 then v ⟨p, hp⟩ d else 0) P K V bb r
    (rowS_ne_top Z rb hZ hrb b n _)
    (fun p d => (hV p d).trans (congrArg Real.toEReal (by simp))) a
    (near (P (tile K (near_ix a.val (0 : Fin 3).val))) w0 (pen (BitVec.ofNat 32 a.val) 4294967295#32))
    (near (P (tile K (near_ix a.val (1 : Fin 3).val))) w1 (pen (BitVec.ofNat 32 a.val) 0#32))
    (near (P (tile K (near_ix a.val (2 : Fin 3).val))) w2 (pen (BitVec.ofNat 32 a.val) 1#32))
    (fun j hj c => by
      rw [far_at, hP ⟨j, by omega⟩ c, hb, rowS_in _ _ _ _ _ _ (by omega)]
      exact far_score Z rb b n a ⟨j, by omega⟩ hj r c)
    (fun c => by
      rw [near_at, hw0 c, pen_before]
      by_cases h : 1 ≤ a.val
      · have e : near_ix a.val (0 : Fin 3).val = (⟨a.val - 1, by omega⟩ : Fin 17).val := by
          show min 16 (a.val + 0 - 1) = a.val - 1; omega
        rw [if_pos h, if_pos h, e, hP, rowS_in _ _ _ _ _ _ (by omega)]
        exact near_score Z rb b n a ⟨a.val - 1, by omega⟩ 0 (by show a.val - 1 + 1 = a.val + 0; omega) r c
      · rw [if_neg h, if_neg h, EReal.add_bot])
    (fun c => by
      rw [near_at, hw1 c, pen_at]
      have e : near_ix a.val (1 : Fin 3).val = a.val := by
        show min 16 (a.val + 1 - 1) = a.val; omega
      rw [e, hP, rowS_in _ _ _ _ _ _ (by omega)]
      exact near_score Z rb b n a a 1 rfl r c)
    (fun c => by
      rw [near_at, hw2 c, pen_after]
      by_cases h : a.val ≤ 15
      · have e : near_ix a.val (2 : Fin 3).val = (⟨a.val + 1, by omega⟩ : Fin 17).val := by
          show min 16 (a.val + 2 - 1) = a.val + 1; omega
        rw [if_pos h, if_pos h, e, hP, rowS_in _ _ _ _ _ _ (by omega)]
        exact near_score Z rb b n a ⟨a.val + 1, by omega⟩ 2 (by show a.val + 1 + 1 = a.val + 2; omega) r c
      · rw [if_neg h, if_neg h, EReal.add_bot])
    (fun p hp => by
      by_cases h : p < 2176
      · rw [rowS_in _ _ _ _ _ _ h]; exact hidden Z rb b n a r ⟨p, h⟩ hp
      · exact dif_neg h)
  have e1 : ∀ p : Fin 2176, rowS Z rb b n ⟨128 * a.val + r.val, by omega⟩ p.val = scoreAt Z rb b n ⟨128 * a.val + r.val, by omega⟩ p :=
    fun p => dif_pos p.isLt
  have e2 : ∀ (p : Fin 2176) (d : Fin 256), (if hp : p.val < 2176 then v ⟨p.val, hp⟩ d else 0) = v p d := fun p d => dif_pos p.isLt
  simp only [e1, e2] at key
  exact key

/-- The row's normaliser is positive: it sees itself. -/
theorem sum_pos (b n : Fin 8) (q : Fin 2176) : 0 < ∑ p : Fin 2176, E (scoreAt Z rb b n q p) := by
  refine Finset.sum_pos' (fun p _ => E_nonneg _) ⟨q, Finset.mem_univ _, ?_⟩
  obtain ⟨x, hx⟩ : ∃ x : ℝ, scoreAt Z rb b n q q = (x : EReal) :=
    ⟨_, (EReal.coe_toReal (score_ne_top Z rb hZ hrb b n q q) (score_self Z rb hZ hrb b n q)).symm⟩
  rw [hx, E_coe]
  exact Real.exp_pos x

end Finite

/-- The kernel's weight of the second map. -/
theorem lam_kernel (l1 l2 l3 l4 : FVec Ideal S128 .f32) : k1_pay103 (F := Ideal) (row l1) (row l2) (row l3) (row l4) (ix2 0 0)
    = Ideal.exp (∑ i : Fin 128, l1 (ix1 i) * l2 (ix1 i)) - Ideal.exp (∑ i : Fin 128, l3 (ix1 i) * l4 (ix1 i)) + Ideal.ofBits .f32 0x3E4CCCCD#32 := by
  pointwise [k1_pay103]
  rfl

theorem ratio0 (A : FVec Ideal S1x128x256 .f32) (L : FVec Ideal S1x128x1 .f32) (r : Fin 128) (d : Fin 256) :
    k1_pay104 (F := Ideal) A L (ix2 r d) = Ideal.div (A (ix3 0 r d)) (L (ix3 0 r 0)) := by
  pointwise [k1_pay104]

theorem ratio1 (A : FVec Ideal S1x128x256 .f32) (L : FVec Ideal S1x128x1 .f32) (r : Fin 128) (d : Fin 256) :
    k1_pay105 (F := Ideal) A L (ix2 r d) = Ideal.div (A (ix3 0 r d)) (L (ix3 0 r 0)) := by
  pointwise [k1_pay105]

theorem out_at (lam : FVec Ideal S1x1 .f32) (u v : FVec Ideal S128x256 .f32) (n : FVec Ideal S256 .f32) (r : Fin 128) (d : Fin 256)
    (o : Fin 256 → EReal) (ho : ∀ d, o d = u (ix2 r d) - lam (ix2 0 0) * v (ix2 r d)) :
    k1_pay1 (F := Ideal) lam u v (row n) (ix3 0 r d) = o d * Ideal.rsqrt (Ideal.div (∑ j : Fin 256, o j * o j) (Ideal.ofBits .f32 0x43800000#32)
      + Ideal.ofBits .f32 0x3727C5AC#32) * n (ix1 d) * Ideal.ofBits .f32 0x3F4CCCCD#32 := by
  simp only [ho]
  pointwise [k1_pay1]
  rfl

end Cert.AttnIdeal.Hand

end
-- ==== Proof.AttnEnd.lean ====
/- The kernel's result at an index is the reference's. -/
module

public import proofs.«01_k».proof.Proof.AttnRuns

@[expose] public section

set_option maxRecDepth 16384

noncomputable section

namespace Cert.AttnIdeal.Hand

open Idealize.ShloMosaic Idealize.ShloMosaic.TcCoe Idealize.SL.Sem
open Cert.AttnIdeal Cert.AttnIdeal.Gen Cert.Proof.Softmax Cert.Proof.Attn
open Cert.AttnRefIdeal.Hand (scoreR maxR sumR expR softR lamR attR vR normR REF)

variable (Z : FVec Ideal S17408x3072 .bf16) (rb : FVec Ideal S32x8 .f32)
  (hZ : ∀ i, ∃ x : ℝ, Z i = (x : EReal)) (hrb : ∀ i, ∃ x : ℝ, rb i = (x : EReal))
include hZ hrb

/-- The reference's softmax over real numbers. -/
theorem soft_real (b n : Fin 8) (q k : Fin 2176) : softR (scoreR Z rb) (ix4 b n q k)
    = ((E (scoreAt Z rb b n q k) / ∑ j, E (scoreAt Z rb b n q j) : ℝ) : EReal) := by
  rw [Cert.AttnRefIdeal.Hand.soft_at, Cert.AttnRefIdeal.Hand.sum_at]
  simp only [Cert.AttnRefIdeal.Hand.exp_at, Cert.AttnRefIdeal.Hand.max_at, score_ref]
  have := softmax_eq (scoreAt Z rb b n q) (score_ne_top Z rb hZ hrb b n q) q (score_self Z rb hZ hrb b n q) k
  rw [zero_add] at this
  exact this

/-- The reference's attention, as the difference of two quotients of sums. -/
theorem att_real (l1 l2 l3 l4 : FVec Ideal S128 .f32) (b : Fin 8) (q : Fin 2176) (h : Fin 4) (d : Fin 256) (lam : ℝ)
    (hl : lamR l1 l2 l3 l4 ix0 = (lam : EReal)) (v : Fin 2176 → ℝ) (hv : ∀ k, vR Z (ix4 b k h d) = ((v k : ℝ) : EReal)) :
    attR (vR Z) (softR (scoreR Z rb)) (lamR l1 l2 l3 l4) (ix4 b q h d)
      = (((∑ k, E (scoreAt Z rb b ⟨h.val * 2, by omega⟩ q k) * v k) / ∑ j, E (scoreAt Z rb b ⟨h.val * 2, by omega⟩ q j) : ℝ) : EReal)
        - (lam : EReal) * (((∑ k, E (scoreAt Z rb b ⟨h.val * 2 + 1, by omega⟩ q k) * v k)
          / ∑ j, E (scoreAt Z rb b ⟨h.val * 2 + 1, by omega⟩ q j) : ℝ) : EReal) := by
  rw [Cert.AttnRefIdeal.Hand.att_at, ← diff_eq]
  refine Finset.sum_congr rfl fun k _ => ?_
  rw [soft_real Z rb hZ hrb, soft_real Z rb hZ hrb, hl, hv, mul_comm]

theorem res_eq_ref (l1 l2 l3 l4 : FVec Ideal S128 .f32) (nw : FVec Ideal S256 .f32)
    (h1 : ∀ i, ∃ x : ℝ, l1 i = (x : EReal)) (h2 : ∀ i, ∃ x : ℝ, l2 i = (x : EReal))
    (h3 : ∀ i, ∃ x : ℝ, l3 i = (x : EReal)) (h4 : ∀ i, ∃ x : ℝ, l4 i = (x : EReal))
    (b : Fin 8) (h : Fin 4) (a : Fin 17) (r : Fin 128) (d : Fin 256) :
    resAt Z rb l1 l2 l3 l4 nw b h a r d
      = REF Z rb l1 l2 l3 l4 nw (ix3 b ⟨128 * a.val + r.val, by omega⟩ ⟨256 * h.val + d.val, by omega⟩) := by
  obtain ⟨lam, hl⟩ : ∃ x : ℝ, lamR l1 l2 l3 l4 ix0 = (x : EReal) := by
    choose y1 e1 using h1
    choose y2 e2 using h2
    choose y3 e3 using h3
    choose y4 e4 using h4
    obtain ⟨s, hs⟩ := lam_real
    refine ⟨Real.exp (∑ i : Fin 128, y1 (ix1 i) * y2 (ix1 i)) - Real.exp (∑ i : Fin 128, y3 (ix1 i) * y4 (ix1 i)) + s, ?_⟩
    rw [Cert.AttnRefIdeal.Hand.lam_at, hs]
    simp only [e1, e2, e3, e4, ← EReal.coe_mul, ← coe_sum]
    rfl
  have hlk : k1_pay103 (F := Ideal) (row l1) (row l2) (row l3) (row l4) (ix2 0 0) = (lam : EReal) :=
    (lam_kernel l1 l2 l3 l4).trans ((Cert.AttnRefIdeal.Hand.lam_at l1 l2 l3 l4).symm.trans hl)
  choose z hz using hZ
  have hZ : ∀ i, ∃ x : ℝ, Z i = (x : EReal) := fun i => ⟨z i, hz i⟩
  let v : Fin 2176 → Fin 256 → ℝ := fun p d => z (ix2 ⟨2176 * b.val + p.val, by omega⟩ ⟨256 * (8 + h.val) + d.val, by omega⟩)
  have hV : ∀ p d, cols Z b ⟨8 + h.val, by omega⟩ (ix3 0 p d) = ((v p d : ℝ) : EReal) := fun p d => hz _
  have hvR : ∀ (k : Fin 2176) (d : Fin 256), vR Z (ix4 b k h d) = ((v k d : ℝ) : EReal) := fun k d => by
    rw [Cert.AttnRefIdeal.Hand.v_at, ← hz]
    exact congrArg Z (congrArg₂ ix2 rfl (Fin.ext (by show 2048 + (256 * h.val + d.val) = 256 * (8 + h.val) + d.val; omega)))
  have r0 := run_row Z rb hZ hrb b ⟨h.val * 2, by omega⟩ a r (prod0 (rows (cols Z b ⟨h.val, by omega⟩) a))
    (cols Z b ⟨4 + h.val, by omega⟩) (cols Z b ⟨8 + h.val, by omega⟩) (rb (ix2 15 ⟨2 * h.val + 0, by omega⟩))
    (wtile (tbl2 (tbl rb) h) 0 0) (wtile (tbl2 (tbl rb) h) 0 1) (wtile (tbl2 (tbl rb) h) 0 2) v hV
    (fun j c => prod0_PR Z b h a j r c _ (by show h.val * 2 = _; omega))
    (congrArg (fun x => rb (ix2 15 x)) (Fin.ext (by show 2 * h.val + 0 = h.val * 2; omega)))
    (fun c => wtile_at rb h 0 0 r c _ (by show h.val * 2 = 2 * h.val + 0; omega))
    (fun c => wtile_at rb h 0 1 r c _ (by show h.val * 2 = 2 * h.val + 0; omega))
    (fun c => wtile_at rb h 0 2 r c _ (by show h.val * 2 = 2 * h.val + 0; omega))
  have r1 := run_row Z rb hZ hrb b ⟨h.val * 2 + 1, by omega⟩ a r (prod1 (rows (cols Z b ⟨h.val, by omega⟩) a))
    (cols Z b ⟨4 + h.val, by omega⟩) (cols Z b ⟨8 + h.val, by omega⟩) (rb (ix2 15 ⟨2 * h.val + 1, by omega⟩))
    (wtile (tbl2 (tbl rb) h) 1 0) (wtile (tbl2 (tbl rb) h) 1 1) (wtile (tbl2 (tbl rb) h) 1 2) v hV
    (fun j c => prod1_PR Z b h a j r c _ (by show h.val * 2 + 1 = _; omega))
    (congrArg (fun x => rb (ix2 15 x)) (Fin.ext (by show 2 * h.val + 1 = h.val * 2 + 1; omega)))
    (fun c => wtile_at rb h 1 0 r c _ (by show h.val * 2 + 1 = 2 * h.val + 1; omega))
    (fun c => wtile_at rb h 1 1 r c _ (by show h.val * 2 + 1 = 2 * h.val + 1; omega))
    (fun c => wtile_at rb h 1 2 r c _ (by show h.val * 2 + 1 = 2 * h.val + 1; omega))
  have q0 := fun d => Inv.ratio r0 (sum_pos Z rb hZ hrb b ⟨h.val * 2, by omega⟩ _) d
  have q1 := fun d => Inv.ratio r1 (sum_pos Z rb hZ hrb b ⟨h.val * 2 + 1, by omega⟩ _) d
  unfold REF
  rw [Cert.AttnRefIdeal.Hand.norm_at]
  unfold resAt outB
  refine out_at _ _ _ nw r d (fun d => attR (vR Z) (softR (scoreR Z rb)) (lamR l1 l2 l3 l4) (ix4 b ⟨128 * a.val + r.val, by omega⟩ h d)) fun d => ?_
  show attR (vR Z) (softR (scoreR Z rb)) (lamR l1 l2 l3 l4) (ix4 b ⟨128 * a.val + r.val, by omega⟩ h d) = _
  rw [att_real Z rb hZ hrb l1 l2 l3 l4 b _ h d lam hl (fun k => v k d) (fun k => hvR k d), hlk, ratio0, ratio1]
  exact congrArg₂ (fun x y => x - (lam : EReal) * y) (q0 d).symm (q1 d).symm

end Cert.AttnIdeal.Hand

end
-- ==== Proof.AttnPre.lean ====
/- What the precondition says: every argument of the scores is a real number. -/
module

public import proofs.«01_k».proof.Pre_finite
public import Idealize.ShloMosaic.Lib.StableHlo.Predicate
public import Idealize.ShloMosaic.Lib.Pipeline.ValueKit

@[expose] public section

set_option maxRecDepth 16384

namespace Cert.Proof.Pre

open Idealize.ShloMosaic

theorem facts : Cert.Pre_finite.Facts where
  bitsLt_bf16_f32 := by decide
  bcast_S_S17408x3072 := by decide
  bcast_S_S32x8 := by decide
  bcast_S_S128 := by decide

theorem inf_top : Ideal.ofBits .f32 0x7F800000#32 = (⊤ : EReal) := by
  simp [Ideal.ofBits, Ideal.ieee]

theorem real_of_abs (x : EReal) (h : max x (-x) < ⊤) : ∃ y : ℝ, x = (y : EReal) := by
  refine ⟨x.toReal, (EReal.coe_toReal ?_ ?_).symm⟩
  · rintro rfl
    exact absurd ((le_max_left _ _).trans_lt h) (lt_irrefl _)
  · rintro rfl
    exact absurd ((le_max_right _ _).trans_lt h) (by simp)

/-- An array whose absolute values compare below infinity is one of reals. -/
theorem real_of_cmp {s : Shape} {φ : FTy} (x : FVec Ideal s φ) (y : FVec Ideal s φ) (hy : ∀ i, (y i : EReal) = ⊤)
    (e : cmpf .olt (Host.absf x) y = fun _ => 1#1) (i : s.Idx) : ∃ y : ℝ, x i = (y : EReal) := by
  refine real_of_abs _ ?_
  have h : BitVec.ofBool (decide ((max (x i) (-(x i)) : EReal) < y i)) = 1#1 := congrFun e i
  have h' := of_decide_eq_true ((StableHlo.Predicate.ofBool_eq_one_iff _).1 h)
  rwa [hy i] at h'

/-- The precondition's arguments, read as arrays of reals. -/
theorem reals [Cert.Pre_finite.Facts] (a0 : FVec Ideal Cert.Pre_finite.S17408x3072 .bf16) (a1 : FVec Ideal Cert.Pre_finite.S32x8 .f32)
    (a2 a3 a4 a5 : FVec Ideal Cert.Pre_finite.S128 .f32) (a6 : FVec Ideal Cert.Pre_finite.S256 .f32)
    (h : (Cert.Pre_finite.fn (F := Ideal) a0 a1 a2 a3 a4 a5 a6).1 = (fun _ => 1#1)
      ∧ (Cert.Pre_finite.fn (F := Ideal) a0 a1 a2 a3 a4 a5 a6).2.1 = (fun _ => 1#1)
      ∧ (Cert.Pre_finite.fn (F := Ideal) a0 a1 a2 a3 a4 a5 a6).2.2.1 = (fun _ => 1#1)
      ∧ (Cert.Pre_finite.fn (F := Ideal) a0 a1 a2 a3 a4 a5 a6).2.2.2.1 = (fun _ => 1#1)
      ∧ (Cert.Pre_finite.fn (F := Ideal) a0 a1 a2 a3 a4 a5 a6).2.2.2.2.1 = (fun _ => 1#1)
      ∧ (Cert.Pre_finite.fn (F := Ideal) a0 a1 a2 a3 a4 a5 a6).2.2.2.2.2 = (fun _ => 1#1)) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) ∧ (∀ i, ∃ x : ℝ, a4 i = (x : EReal)) ∧ (∀ i, ∃ x : ℝ, a5 i = (x : EReal)) :=
  ⟨real_of_cmp _ _ (fun _ => inf_top) h.1, real_of_cmp _ _ (fun _ => inf_top) h.2.1, real_of_cmp _ _ (fun _ => inf_top) h.2.2.1,
    real_of_cmp _ _ (fun _ => inf_top) h.2.2.2.1, real_of_cmp _ _ (fun _ => inf_top) h.2.2.2.2.1, real_of_cmp _ _ (fun _ => inf_top) h.2.2.2.2.2⟩

end Cert.Proof.Pre

end
-- ==== Proof.lean ====
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.Gate.Frame
public import proofs.«01_k».proof.Proof.Gen.GateIdeal.Value
public import proofs.«01_k».proof.Proof.Gen.GateRefIdeal.Run
public import proofs.«01_k».proof.Proof.Gen.Up.Frame
public import proofs.«01_k».proof.Proof.Gen.UpIdeal.Value
public import proofs.«01_k».proof.Proof.Gen.UpRefIdeal.Run
public import proofs.«01_k».proof.Proof.Gen.Down.Frame
public import proofs.«01_k».proof.Proof.Gen.DownIdeal.Value
public import proofs.«01_k».proof.Proof.Gen.DownRefIdeal.Run
public import proofs.«01_k».proof.Proof.Gen.Out.Frame
public import proofs.«01_k».proof.Proof.Gen.OutIdeal.Value
public import proofs.«01_k».proof.Proof.Gen.OutRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.Qkv.Frame
public import proofs.«01_k».proof.Proof.Gen.QkvIdeal.Value
public import proofs.«01_k».proof.Proof.Gen.QkvRefIdeal.Run
public import proofs.«01_k».proof.Proof.Gen.PoolIn.Frame
public import proofs.«01_k».proof.Proof.Gen.PoolInIdeal.Value
public import proofs.«01_k».proof.Proof.Gen.PoolInRefIdeal.Run
public import proofs.«01_k».proof.Proof.Gen.RwkvIn.Frame
public import proofs.«01_k».proof.Proof.Gen.RwkvInIdeal.Value
public import proofs.«01_k».proof.Proof.Gen.RwkvInRefIdeal.Run
public import proofs.«01_k».proof.Proof.Gen.Rms.Frame
public import proofs.«01_k».proof.Proof.Gen.RmsIdeal.Value
public import proofs.«01_k».proof.Proof.Gen.RmsRefIdeal.Run
public import proofs.«01_k».proof.Proof.Gen.Mix.Frame
public import proofs.«01_k».proof.Proof.Gen.MixIdeal.Value
public import proofs.«01_k».proof.Proof.Gen.MixRefIdeal.Run
public import proofs.«01_k».proof.Proof.GateValue
public import proofs.«01_k».proof.Proof.UpValue
public import proofs.«01_k».proof.Proof.DownValue
public import proofs.«01_k».proof.Proof.OutValue
public import proofs.«01_k».proof.Proof.MergeValue
public import proofs.«01_k».proof.Proof.QkvValue
public import proofs.«01_k».proof.Proof.PoolInValue
public import proofs.«01_k».proof.Proof.RwkvInValue
public import proofs.«01_k».proof.Proof.RmsValue
public import proofs.«01_k».proof.Proof.MixValue
public import proofs.«01_k».proof.Proof.AttnEnd
public import proofs.«01_k».proof.Proof.AttnPre

public section

set_option maxRecDepth 16384

open Idealize.ShloMosaic Idealize.ShloMosaic.TcCoe Idealize.SL.Sem

/-- The differential attention: kernel and reference end with the same array. -/
theorem Cert.Proof.attn : Cert.algebraic_AttnIdeal_AttnRefIdeal_pre_finite (hAttnIdeal := Cert.AttnIdeal.Gen.facts)
    (hAttnRefIdeal := Cert.AttnRefIdeal.Gen.facts) (hPre_finite := Cert.Proof.Pre.facts) := by
  intro m g m' g' hp hin
  refine ⟨fun c => Cert.AttnRefIdeal.Hand.REF
      (m ((c.tc : Thread Cert.AttnIdeal.nD Cert.AttnIdeal.τ).loc Cert.AttnIdeal.main_arg0))
      (m ((c.tc : Thread Cert.AttnIdeal.nD Cert.AttnIdeal.τ).loc Cert.AttnIdeal.main_arg1))
      (m ((c.tc : Thread Cert.AttnIdeal.nD Cert.AttnIdeal.τ).loc Cert.AttnIdeal.main_arg2))
      (m ((c.tc : Thread Cert.AttnIdeal.nD Cert.AttnIdeal.τ).loc Cert.AttnIdeal.main_arg3))
      (m ((c.tc : Thread Cert.AttnIdeal.nD Cert.AttnIdeal.τ).loc Cert.AttnIdeal.main_arg4))
      (m ((c.tc : Thread Cert.AttnIdeal.nD Cert.AttnIdeal.τ).loc Cert.AttnIdeal.main_arg5))
      (m ((c.tc : Thread Cert.AttnIdeal.nD Cert.AttnIdeal.τ).loc Cert.AttnIdeal.main_arg6)),
    (θ_run _ _ _).mono (fun r h c => ?_) (Cert.AttnIdeal.Hand.run (F := Ideal) m g),
    (θ_run _ _ _).mono (fun r h c => ⟨(h c).1.trans ?_, (h c).2⟩) (Cert.AttnRefIdeal.Value.run m' g')⟩
  · obtain ⟨h0, h1, h2, h3, h4, h5, h6, hv⟩ := h.1 c
    obtain ⟨r0, r1, r2, r3, r4, r5⟩ := @Cert.Proof.Pre.reals Cert.Proof.Pre.facts _ _ _ _ _ _ _ (hp c)
    exact ⟨hv.trans (Cert.AttnIdeal.Hand.final m g c _ fun b k a r d =>
      Cert.AttnIdeal.Hand.res_eq_ref _ _ r0 r1 _ _ _ _ _ r2 r3 r4 r5 b k a r d), h0, h1, h2, h3, h4, h5, h6⟩
  · refine (Cert.AttnRefIdeal.Hand.res_eq m' c).trans ?_
    obtain ⟨e0, e1, e2, e3, e4, e5, e6⟩ := hin c
    rw [e0, e1, e2, e3, e4, e5, e6]

namespace Cert.Proof

/-- A run's first result, restated by an equation. -/
theorem carry {α : Type} {ι : Type*} {β : ι → Type*} {w : WPT α} {X : α → (c : ι) → β c} {K : α → ι → Prop}
    {a v : (c : ι) → β c} (run : w fun r => ∀ c, X r c = a c ∧ K r c) (h : ∀ c, a c = v c) :
    w fun r => ∀ c, X r c = v c ∧ K r c :=
  w.mono (fun _ k c => ⟨(k c).1.trans (h c), (k c).2⟩) run

/-- A run's first two results, restated by two equations. -/
theorem carry₂ {α : Type} {ι : Type*} {β γ : ι → Type*} {w : WPT α} {X : α → (c : ι) → β c} {Y : α → (c : ι) → γ c}
    {K : α → ι → Prop} {a v : (c : ι) → β c} {b u : (c : ι) → γ c}
    (run : w fun r => ∀ c, X r c = a c ∧ Y r c = b c ∧ K r c) (h : ∀ c, a c = v c) (h' : ∀ c, b c = u c) :
    w fun r => ∀ c, X r c = v c ∧ Y r c = u c ∧ K r c :=
  w.mono (fun _ k c => ⟨(k c).1.trans (h c), (k c).2.1.trans (h' c), (k c).2.2⟩) run

/-- The gate's projection: kernel and reference end with the same array. -/
theorem gate : Cert.algebraic_GateIdeal_GateRefIdeal (hGateIdeal := Cert.GateIdeal.Gen.facts)
    (hGateRefIdeal := Cert.GateRefIdeal.Gen.facts) := by
  intro m g m' g' _ hin
  refine ⟨_, carry (Cert.GateIdeal.Value.run_blocks m g) (Cert.GateIdeal.Hand.final m),
    carry (Cert.GateRefIdeal.Value.run m' g') fun c => ?_⟩
  rw [(hin c).1, (hin c).2]

/-- The projection of the queries, keys and values. -/
theorem qkv : Cert.algebraic_QkvIdeal_QkvRefIdeal (hQkvIdeal := Cert.QkvIdeal.Gen.facts)
    (hQkvRefIdeal := Cert.QkvRefIdeal.Gen.facts) := by
  intro m g m' g' _ hin
  refine ⟨_, carry (Cert.QkvIdeal.Value.run_blocks m g) (Cert.QkvIdeal.Hand.final m),
    carry (Cert.QkvRefIdeal.Value.run m' g') fun c => ?_⟩
  rw [(hin c).1, (hin c).2]

/-- The pool's projection. -/
theorem poolIn : Cert.algebraic_PoolInIdeal_PoolInRefIdeal (hPoolInIdeal := Cert.PoolInIdeal.Gen.facts)
    (hPoolInRefIdeal := Cert.PoolInRefIdeal.Gen.facts) := by
  intro m g m' g' _ hin
  refine ⟨_, carry (Cert.PoolInIdeal.Value.run_blocks m g) (Cert.PoolInIdeal.Hand.final m),
    carry (Cert.PoolInRefIdeal.Value.run m' g') fun c => ?_⟩
  rw [(hin c).1, (hin c).2]

/-- The recurrence's projection. -/
theorem rwkvIn : Cert.algebraic_RwkvInIdeal_RwkvInRefIdeal (hRwkvInIdeal := Cert.RwkvInIdeal.Gen.facts)
    (hRwkvInRefIdeal := Cert.RwkvInRefIdeal.Gen.facts) := by
  intro m g m' g' _ hin
  refine ⟨_, carry (Cert.RwkvInIdeal.Value.run_blocks m g) (Cert.RwkvInIdeal.Hand.final m),
    carry (Cert.RwkvInRefIdeal.Value.run m' g') fun c => ?_⟩
  rw [(hin c).1, (hin c).2]

/-- The norm before the first layer. -/
theorem rms : Cert.algebraic_RmsIdeal_RmsRefIdeal (hRmsIdeal := Cert.RmsIdeal.Gen.facts)
    (hRmsRefIdeal := Cert.RmsRefIdeal.Gen.facts) := by
  intro m g m' g' _ hin
  refine ⟨_, carry (Cert.RmsIdeal.Value.run_blocks m g) (Cert.RmsIdeal.Hand.final m),
    carry (Cert.RmsRefIdeal.Value.run m' g') fun c => ?_⟩
  rw [(hin c).1, (hin c).2]

/-- The pool's trailing means and their mixing. -/
theorem mix : Cert.algebraic_MixIdeal_MixRefIdeal (hMixIdeal := Cert.MixIdeal.Gen.facts)
    (hMixRefIdeal := Cert.MixRefIdeal.Gen.facts) := by
  intro m g m' g' _ hin
  refine ⟨_, carry (Cert.MixIdeal.Value.run_blocks m g) (Cert.MixIdeal.Hand.final m),
    carry (Cert.MixRefIdeal.Value.run m' g') fun c => ?_⟩
  obtain ⟨e0, e1, e2⟩ := hin c
  rw [e0, e1, e2]

/-- The gated sum of the branches. -/
theorem merge : Cert.algebraic_MergeIdeal_MergeRefIdeal (hMergeIdeal := Cert.MergeIdeal.Gen.facts)
    (hMergeRefIdeal := Cert.MergeRefIdeal.Gen.facts) := by
  intro m g m' g' _ hin
  refine ⟨_, carry (Cert.MergeIdeal.Value.run_blocks m g) (Cert.MergeIdeal.Hand.final m),
    carry (Cert.MergeRefIdeal.Value.run m' g') fun c => ?_⟩
  obtain ⟨e0, e1, e2, e3, e4, e5, e6⟩ := hin c
  rw [e0, e1, e2, e3, e4, e5, e6]

/-- The up projection with its convolution and gate. -/
theorem up : Cert.algebraic_UpIdeal_UpRefIdeal (hUpIdeal := Cert.UpIdeal.Gen.facts)
    (hUpRefIdeal := Cert.UpRefIdeal.Gen.facts) := by
  intro m g m' g' _ hin
  refine ⟨_, carry (Cert.UpIdeal.Value.run_blocks m g) (Cert.UpIdeal.Hand.final m),
    carry (Cert.UpRefIdeal.Value.run m' g') fun c => (Cert.UpIdeal.Hand.res_eq m' c).trans ?_⟩
  obtain ⟨e0, e1, e2, e3⟩ := hin c
  rw [e0, e1, e2, e3]

/-- The output projection with its residual and norms: the same two arrays. -/
theorem out : Cert.algebraic_OutIdeal_OutRefIdeal (hOutIdeal := Cert.OutIdeal.Gen.facts)
    (hOutRefIdeal := Cert.OutRefIdeal.Gen.facts) := by
  intro m g m' g' _ hin
  refine ⟨_, _, carry₂ (Cert.OutIdeal.Value.run_blocks m g) (Cert.OutIdeal.Hand.final_sum m) (Cert.OutIdeal.Hand.final_norm m),
    carry₂ (Cert.OutRefIdeal.Value.run m' g') (fun c => ?_) fun c => (Cert.OutIdeal.Hand.norm_eq m' c).trans ?_⟩ <;>
  · obtain ⟨e0, e1, e2, e3, e4⟩ := hin c
    simp only [e0, e1, e2, e3, e4]

/-- The down projection with its residual and norms: the same two arrays. -/
theorem down : Cert.algebraic_DownIdeal_DownRefIdeal (hDownIdeal := Cert.DownIdeal.Gen.facts)
    (hDownRefIdeal := Cert.DownRefIdeal.Gen.facts) := by
  intro m g m' g' _ hin
  refine ⟨_, _, carry₂ (Cert.DownIdeal.Value.run_blocks m g) (Cert.DownIdeal.Hand.final_sum m)
    (Cert.DownIdeal.Hand.final_norm m),
    carry₂ (Cert.DownRefIdeal.Value.run m' g') (fun c => ?_) fun c => (Cert.DownIdeal.Hand.norm_eq m' c).trans ?_⟩ <;>
  · obtain ⟨e0, e1, e2, e3, e4⟩ := hin c
    simp only [e0, e1, e2, e3, e4]

/-- A run that leaves each device's arguments leaves a machine without counters at rest. -/
theorem rest {nD : Nat} {τ : Topo} {sig : RefSig} {Val : EltTy → Type} {w : WPT (PUnit × MemSt nD τ sig Val)}
    {Q : PUnit × MemSt nD τ sig Val → Prop} {K : PUnit × MemSt nD τ sig Val → Dev nD → Prop}
    (hs : sig.nSem + sig.nDmaSem = 0) (run : w Q) (h : ∀ r, Q r → ∀ c, K r c) :
    w fun r => (∀ c, K r c) ∧ r.2.sem = fun _ => 0 :=
  w.mono (fun r k => ⟨h r k, sem_eq_zero_of_no_sems hs r.2⟩) run

end Cert.Proof

theorem Cert.Proof.claim : Cert.Claim :=
  ⟨Cert.Attn.Gen.facts, Cert.AttnIdeal.Gen.facts, Cert.AttnRefIdeal.Gen.facts,
   Cert.Gate.Gen.facts, Cert.GateIdeal.Gen.facts, Cert.GateRefIdeal.Gen.facts,
   Cert.Up.Gen.facts, Cert.UpIdeal.Gen.facts, Cert.UpRefIdeal.Gen.facts,
   Cert.Down.Gen.facts, Cert.DownIdeal.Gen.facts, Cert.DownRefIdeal.Gen.facts,
   Cert.Out.Gen.facts, Cert.OutIdeal.Gen.facts, Cert.OutRefIdeal.Gen.facts,
   Cert.Merge.Gen.facts, Cert.MergeIdeal.Gen.facts, Cert.MergeRefIdeal.Gen.facts,
   Cert.Qkv.Gen.facts, Cert.QkvIdeal.Gen.facts, Cert.QkvRefIdeal.Gen.facts,
   Cert.PoolIn.Gen.facts, Cert.PoolInIdeal.Gen.facts, Cert.PoolInRefIdeal.Gen.facts,
   Cert.RwkvIn.Gen.facts, Cert.RwkvInIdeal.Gen.facts, Cert.RwkvInRefIdeal.Gen.facts,
   Cert.Rms.Gen.facts, Cert.RmsIdeal.Gen.facts, Cert.RmsRefIdeal.Gen.facts,
   Cert.Mix.Gen.facts, Cert.MixIdeal.Gen.facts, Cert.MixRefIdeal.Gen.facts,
   Cert.Proof.Pre.facts,
   fun m ρ _ => Cert.Attn.Gen.frame m ρ,
   fun m ρ _ => Cert.AttnIdeal.Gen.frame m ρ,
   fun m ρ _ => Cert.AttnIdeal.Gen.frame m ρ,
   fun m ρ _ => Cert.Proof.rest (by decide) (Cert.AttnRefIdeal.Value.run m ρ) fun _ h c => (h c).2,
   fun m ρ _ => Cert.Proof.rest (by decide) (Cert.AttnRefIdeal.Value.run m ρ) fun _ h c => (h c).2,
   fun m ρ _ => Cert.Gate.Gen.frame m ρ,
   fun m ρ _ => Cert.GateIdeal.Gen.frame m ρ,
   fun m ρ _ => Cert.Proof.rest (by decide) (Cert.GateRefIdeal.Value.run m ρ) fun _ h c => (h c).2,
   fun m ρ _ => Cert.Up.Gen.frame m ρ,
   fun m ρ _ => Cert.UpIdeal.Gen.frame m ρ,
   fun m ρ _ => Cert.Proof.rest (by decide) (Cert.UpRefIdeal.Value.run m ρ) fun _ h c => (h c).2,
   fun m ρ _ => Cert.Down.Gen.frame m ρ,
   fun m ρ _ => Cert.DownIdeal.Gen.frame m ρ,
   fun m ρ _ => Cert.Proof.rest (by decide) (Cert.DownRefIdeal.Value.run m ρ) fun _ h c => (h c).2.2,
   fun m ρ _ => Cert.Out.Gen.frame m ρ,
   fun m ρ _ => Cert.OutIdeal.Gen.frame m ρ,
   fun m ρ _ => Cert.Proof.rest (by decide) (Cert.OutRefIdeal.Value.run m ρ) fun _ h c => (h c).2.2,
   fun m ρ _ => Cert.Merge.Gen.frame m ρ,
   fun m ρ _ => Cert.MergeIdeal.Gen.frame m ρ,
   fun m ρ _ => Cert.Proof.rest (by decide) (Cert.MergeRefIdeal.Value.run m ρ) fun _ h c => (h c).2,
   fun m ρ _ => Cert.Qkv.Gen.frame m ρ,
   fun m ρ _ => Cert.QkvIdeal.Gen.frame m ρ,
   fun m ρ _ => Cert.Proof.rest (by decide) (Cert.QkvRefIdeal.Value.run m ρ) fun _ h c => (h c).2,
   fun m ρ _ => Cert.PoolIn.Gen.frame m ρ,
   fun m ρ _ => Cert.PoolInIdeal.Gen.frame m ρ,
   fun m ρ _ => Cert.Proof.rest (by decide) (Cert.PoolInRefIdeal.Value.run m ρ) fun _ h c => (h c).2,
   fun m ρ _ => Cert.RwkvIn.Gen.frame m ρ,
   fun m ρ _ => Cert.RwkvInIdeal.Gen.frame m ρ,
   fun m ρ _ => Cert.Proof.rest (by decide) (Cert.RwkvInRefIdeal.Value.run m ρ) fun _ h c => (h c).2,
   fun m ρ _ => Cert.Rms.Gen.frame m ρ,
   fun m ρ _ => Cert.RmsIdeal.Gen.frame m ρ,
   fun m ρ _ => Cert.Proof.rest (by decide) (Cert.RmsRefIdeal.Value.run m ρ) fun _ h c => (h c).2,
   fun m ρ _ => Cert.Mix.Gen.frame m ρ,
   fun m ρ _ => Cert.MixIdeal.Gen.frame m ρ,
   fun m ρ _ => Cert.Proof.rest (by decide) (Cert.MixRefIdeal.Value.run m ρ) fun _ h c => (h c).2,
   IdealRules.named_const.statement Cert.AttnIdeal.κ "mask" .f32 0xF149F2CA#32 ⊥ rfl,
   Cert.Proof.attn,
   trivial,
   Cert.Proof.gate,
   trivial,
   Cert.Proof.up,
   trivial,
   Cert.Proof.down,
   trivial,
   Cert.Proof.out,
   trivial,
   Cert.Proof.merge,
   trivial,
   Cert.Proof.qkv,
   trivial,
   Cert.Proof.poolIn,
   trivial,
   Cert.Proof.rwkvIn,
   trivial,
   Cert.Proof.rms,
   trivial,
   Cert.Proof.mix⟩

end
